-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x16x3x64x64 : Shape := ⟨5, ![64, 16, 3, 64, 64]⟩
abbrev S8x128 : Shape := ⟨2, ![8, 128]⟩
abbrev S1024x1 : Shape := ⟨2, ![1024, 1]⟩
abbrev S1024x18 : Shape := ⟨2, ![1024, 18]⟩
abbrev S1024x32000 : Shape := ⟨2, ![1024, 32000]⟩
abbrev S1024x1280 : Shape := ⟨2, ![1024, 1280]⟩

abbrev nBuf : Space → Nat
  | .hbm => 7
  | .vmem => 7
  | .smem => 0
  | _ => 0

abbrev bufTy : (tb : Table) → Fin (tcTables nBuf tb) → BufTy
  | .hbm, ⟨0, _⟩ => ⟨S64x16x3x64x64, .f32⟩
  | .hbm, ⟨1, _⟩ => ⟨S8x128, .i32⟩
  | .hbm, ⟨2, _⟩ => ⟨S8x128, .i32⟩
  | .hbm, ⟨3, _⟩ => ⟨S1024x1, .i32⟩
  | .hbm, ⟨4, _⟩ => ⟨S1024x1, .i32⟩
  | .hbm, ⟨5, _⟩ => ⟨S1024x18, .f32⟩
  | .hbm, ⟨6, _⟩ => ⟨S1024x32000, .f32⟩
  | .local _ .vmem, ⟨0, _⟩ => ⟨S8x128, .i32⟩
  | .local _ .vmem, ⟨1, _⟩ => ⟨S8x128, .i32⟩
  | .local _ .vmem, ⟨2, _⟩ => ⟨S1024x1, .i32⟩
  | .local _ .vmem, ⟨3, _⟩ => ⟨S1024x1, .i32⟩
  | .local _ .vmem, ⟨4, _⟩ => ⟨S1024x18, .f32⟩
  | .local _ .vmem, ⟨5, _⟩ => ⟨S1024x1280, .f32⟩
  | .local _ .vmem, ⟨6, _⟩ => ⟨S1024x1280, .f32⟩
  | _, _ => ⟨S64x16x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem3_1 : DmaSem sig := 6

abbrev nD : Nat := 1
abbrev τ : Topo := Topo.v7x

variable {F : FTy → Type} [FloatOps F]

abbrev grid0 : Pipeline.Grid := .none

abbrev stage0_0 : Fin 1 → Memref sig .tc .vmem S8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_3 : BitVec 32 := 0#32
  let v13 : BitVec 1 := Scalar.cmpi .ne v12 c0_i32_3
  v13

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x18 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S64x16x3x64x64 : Shape := ⟨5, ![64, 16, 3, 64, 64]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1024 : Shape := ⟨1, ![1024]⟩
abbrev S1024x18 : Shape := ⟨2, ![1024, 18]⟩
abbrev S1024x1 : Shape := ⟨2, ![1024, 1]⟩
abbrev S1024x2 : Shape := ⟨2, ![1024, 2]⟩
abbrev S1024x32000 : Shape := ⟨2, ![1024, 32000]⟩

abbrev nBuf : Space → Nat
  | .hbm => 1826
  | .vmem => 0
  | .smem => 0
  | _ => 0

abbrev hbmTy0_0 (i : Nat) : BufTy := match i % 128 with
  | 0 => ⟨S64x16x3x64x64, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S64x16x3x64x64, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S1024, .i32⟩
  | 126 => ⟨S_, .i32⟩
  | 127 => ⟨S_, .i32⟩
  | _ => ⟨S64x16x3x64x64, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S1, .i32⟩
  | 17 => ⟨S1, .i32⟩
  | 18 => ⟨S1, .i32⟩
  | 19 => ⟨S_, .i32⟩
  | 20 => ⟨S1, .i32⟩
  | 21 => ⟨S_, .i32⟩
  | 22 => ⟨S2, .i64⟩
  | 23 => ⟨S_, .i64⟩
  | 24 => ⟨S2, .i64⟩
  | 25 => ⟨S2, .i64⟩
  | 26 => ⟨S_, .i64⟩
  | 27 => ⟨S2, .i64⟩
  | 28 => ⟨S2, .i64⟩
  | 29 => ⟨S2, .i32⟩
  | 30 => ⟨S2, .i32⟩
  | 31 => ⟨S_, .i32⟩
  | 32 => ⟨S_, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S64x16x3x64x64, .f32⟩

abbrev hbmTy0_3 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2x1, .i32⟩
  | 126 => ⟨S2x1, .i32⟩
  | 127 => ⟨S2x2, .i32⟩
  | _ => ⟨S64x16x3x64x64, .f32⟩

abbrev hbmTy0_4 (i : Nat) : BufTy := match i % 128 with
  | 0 => ⟨S1x2, .i32⟩
  | 1 => ⟨S2, .i32⟩
  | 2 => ⟨S1x2, .i32⟩
  | 3 => ⟨S2, .i32⟩
  | 4 => ⟨S1, .i32⟩
  | 5 => ⟨S_, .i32⟩
  | 6 => ⟨S1, .i32⟩
  | 7 => ⟨S_, .i32⟩
  | 8 => ⟨S1024, .i64⟩
  | 9 => ⟨S_, .i64⟩
  | 10 => ⟨S1024, .i64⟩
  | 11 => ⟨S1024, .i64⟩
  | 12 => ⟨S_, .i64⟩
  | 13 => ⟨S1024, .i64⟩
  | 14 => ⟨S1024, .i64⟩
  | 15 => ⟨S1024, .i32⟩
  | 16 => ⟨S1024, .i32⟩
  | 17 => ⟨S_, .i32⟩
  | 18 => ⟨S_, .i32⟩
  | 19 => ⟨S_, .i32⟩
  | 20 => ⟨S1024, .i32⟩
  | 21 => ⟨S1024, .i32⟩
  | 22 => ⟨S1024, .i32⟩
  | 23 => ⟨S1024, .i32⟩
  | 24 => ⟨S1024, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i32⟩
  | 37 => ⟨S_, .i32⟩
  | 38 => ⟨S1024, .i32⟩
  | 39 => ⟨S1024, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S1024, .i32⟩
  | 64 => ⟨S_, .i32⟩
  | 65 => ⟨S1024, .i32⟩
  | 66 => ⟨S1024, .i32⟩
  | 67 => ⟨S1024, .i32⟩
  | 68 => ⟨S_, .i32⟩
  | 69 => ⟨S1024, .i32⟩
  | 70 => ⟨S1024, .i32⟩
  | 71 => ⟨S_, .i32⟩
  | 72 => ⟨S1024, .i32⟩
  | 73 => ⟨S1024, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i32⟩
  | 80 => ⟨S_, .i32⟩
  | 81 => ⟨S1024, .i32⟩
  | 82 => ⟨S1024, .i32⟩
  | 83 => ⟨S1024, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .i32⟩
  | 111 => ⟨S_, .i32⟩
  | 112 => ⟨S1024, .i32⟩
  | 113 => ⟨S1024, .i32⟩
  | 114 => ⟨S_, .i32⟩
  | 115 => ⟨S1024, .i32⟩
  | 116 => ⟨S1024, .i32⟩
  | 117 => ⟨S1024, .i32⟩
  | 118 => ⟨S1024, .i32⟩
  | 119 => ⟨S1024, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i32⟩
  | 126 => ⟨S1024, .i32⟩
  | 127 => ⟨S1024, .i32⟩
  | _ => ⟨S64x16x3x64x64, .f32⟩

abbrev hbmTy0_5 (i : Nat) : BufTy := match i % 128 with
  | 0 => ⟨S1024, .i32⟩
  | 1 => ⟨S_, .i32⟩
  | 2 => ⟨S1024, .i32⟩
  | 3 => ⟨S1024, .i32⟩
  | 4 => ⟨S_, .i32⟩
  | 5 => ⟨S1024, .i32⟩
  | 6 => ⟨S1024, .i32⟩
  | 7 => ⟨S1024, .i32⟩
  | 8 => ⟨S1024, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i32⟩
  | 16 => ⟨S1024, .i32⟩
  | 17 => ⟨S1024, .i32⟩
  | 18 => ⟨S1024, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i32⟩
  | 25 => ⟨S1024, .i32⟩
  | 26 => ⟨S_, .i32⟩
  | 27 => ⟨S1024, .i32⟩
  | 28 => ⟨S1024, .i32⟩
  | 29 => ⟨S_, .i32⟩
  | 30 => ⟨S1024, .i32⟩
  | 31 => ⟨S1024, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i32⟩
  | 41 => ⟨S1024, .i32⟩
  | 42 => ⟨S1024, .i32⟩
  | 43 => ⟨S1024, .i32⟩
  | 44 => ⟨S_, .i32⟩
  | 45 => ⟨S1024, .i32⟩
  | 46 => ⟨S1024, .i32⟩
  | 47 => ⟨S_, .i32⟩
  | 48 => ⟨S1024, .i32⟩
  | 49 => ⟨S1024, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S1024, .i32⟩
  | 64 => ⟨S1024, .i32⟩
  | 65 => ⟨S_, .i32⟩
  | 66 => ⟨S1024, .i32⟩
  | 67 => ⟨S1024, .i32⟩
  | 68 => ⟨S1024, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i32⟩
  | 75 => ⟨S1024, .i32⟩
  | 76 => ⟨S1024, .i32⟩
  | 77 => ⟨S1024, .i32⟩
  | 78 => ⟨S_, .i32⟩
  | 79 => ⟨S1024, .i32⟩
  | 80 => ⟨S1024, .i32⟩
  | 81 => ⟨S_, .i32⟩
  | 82 => ⟨S1024, .i32⟩
  | 83 => ⟨S1024, .i32⟩
  | 84 => ⟨S1024, .i32⟩
  | 85 => ⟨S1024, .i32⟩
  | 86 => ⟨S1024, .i32⟩
  | 87 => ⟨S_, .i32⟩
  | 88 => ⟨S1024, .i32⟩
  | 89 => ⟨S1024, .i32⟩
  | 90 => ⟨S_, .i32⟩
  | 91 => ⟨S1024, .i32⟩
  | 92 => ⟨S1024, .i32⟩
  | 93 => ⟨S1024, .i32⟩
  | 94 => ⟨S1024, .i32⟩
  | 95 => ⟨S1024, .i32⟩
  | 96 => ⟨S_, .i32⟩
  | 97 => ⟨S1024, .i32⟩
  | 98 => ⟨S1024, .i32⟩
  | 99 => ⟨S_, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S1024, .i32⟩
  | 107 => ⟨S1024, .i32⟩
  | 108 => ⟨S_, .i32⟩
  | 109 => ⟨S1024, .i32⟩
  | 110 => ⟨S1024, .i32⟩
  | 111 => ⟨S1024, .i32⟩
  | 112 => ⟨S1, .i32⟩
  | 113 => ⟨S_, .i32⟩
  | 114 => ⟨S1, .i32⟩
  | 115 => ⟨S_, .i32⟩
  | 116 => ⟨S1024, .i64⟩
  | 117 => ⟨S_, .i64⟩
  | 118 => ⟨S1024, .i64⟩
  | 119 => ⟨S1024, .i64⟩
  | 120 => ⟨S_, .i64⟩
  | 121 => ⟨S1024, .i64⟩
  | 122 => ⟨S1024, .i64⟩
  | 123 => ⟨S1024, .i32⟩
  | 124 => ⟨S1024, .i32⟩
  | 125 => ⟨S_, .i32⟩
  | 126 => ⟨S_, .i32⟩
  | 127 => ⟨S_, .i32⟩
  | _ => ⟨S64x16x3x64x64, .f32⟩

abbrev hbmTy0_6 (i : Nat) : BufTy := match i % 128 with
  | 0 => ⟨S1024, .i32⟩
  | 1 => ⟨S1024, .i32⟩
  | 2 => ⟨S1024, .i32⟩
  | 3 => ⟨S1024, .i32⟩
  | 4 => ⟨S1024, .i32⟩
  | 5 => ⟨S_, .i32⟩
  | 6 => ⟨S1024, .i32⟩
  | 7 => ⟨S1024, .i32⟩
  | 8 => ⟨S_, .i32⟩
  | 9 => ⟨S1024, .i32⟩
  | 10 => ⟨S1024, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i32⟩
  | 17 => ⟨S_, .i32⟩
  | 18 => ⟨S1024, .i32⟩
  | 19 => ⟨S1024, .i32⟩
  | 20 => ⟨S1024, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i32⟩
  | 29 => ⟨S1024, .i32⟩
  | 30 => ⟨S1024, .i32⟩
  | 31 => ⟨S1024, .i32⟩
  | 32 => ⟨S_, .i32⟩
  | 33 => ⟨S1024, .i32⟩
  | 34 => ⟨S1024, .i32⟩
  | 35 => ⟨S_, .i32⟩
  | 36 => ⟨S1024, .i32⟩
  | 37 => ⟨S1024, .i32⟩
  | 38 => ⟨S1024, .i32⟩
  | 39 => ⟨S1024, .i32⟩
  | 40 => ⟨S1024, .i32⟩
  | 41 => ⟨S1024, .i32⟩
  | 42 => ⟨S1024, .i32⟩
  | 43 => ⟨S1024, .i32⟩
  | 44 => ⟨S_, .i32⟩
  | 45 => ⟨S1024, .i32⟩
  | 46 => ⟨S1024, .i32⟩
  | 47 => ⟨S1024, .i32⟩
  | 48 => ⟨S_, .i32⟩
  | 49 => ⟨S1024, .i32⟩
  | 50 => ⟨S1024, .i32⟩
  | 51 => ⟨S_, .i32⟩
  | 52 => ⟨S1024, .i32⟩
  | 53 => ⟨S1024, .i32⟩
  | 54 => ⟨S1024, .i32⟩
  | 55 => ⟨S1024, .i32⟩
  | 56 => ⟨S1024, .i32⟩
  | 57 => ⟨S_, .i32⟩
  | 58 => ⟨S1024, .i32⟩
  | 59 => ⟨S1024, .i32⟩
  | 60 => ⟨S_, .i32⟩
  | 61 => ⟨S1024, .i32⟩
  | 62 => ⟨S1024, .i32⟩
  | 63 => ⟨S1024, .i32⟩
  | 64 => ⟨S1024, .i32⟩
  | 65 => ⟨S1024, .i32⟩
  | 66 => ⟨S_, .i32⟩
  | 67 => ⟨S1024, .i32⟩
  | 68 => ⟨S1024, .i32⟩
  | 69 => ⟨S_, .i32⟩
  | 70 => ⟨S1024, .i32⟩
  | 71 => ⟨S1024, .i32⟩
  | 72 => ⟨S1024, .i32⟩
  | 73 => ⟨S1024, .i32⟩
  | 74 => ⟨S1024, .i32⟩
  | 75 => ⟨S_, .i32⟩
  | 76 => ⟨S1024, .i32⟩
  | 77 => ⟨S1024, .i32⟩
  | 78 => ⟨S_, .i32⟩
  | 79 => ⟨S1024, .i32⟩
  | 80 => ⟨S1024, .i32⟩
  | 81 => ⟨S1024, .i32⟩
  | 82 => ⟨S1024, .i32⟩
  | 83 => ⟨S1024, .i32⟩
  | 84 => ⟨S1024, .i32⟩
  | 85 => ⟨S1024, .i32⟩
  | 86 => ⟨S1024, .i32⟩
  | 87 => ⟨S_, .i32⟩
  | 88 => ⟨S1024, .i32⟩
  | 89 => ⟨S1024, .i32⟩
  | 90 => ⟨S1024, .i32⟩
  | 91 => ⟨S_, .i32⟩
  | 92 => ⟨S1024, .i32⟩
  | 93 => ⟨S1024, .i32⟩
  | 94 => ⟨S_, .i32⟩
  | 95 => ⟨S1024, .i32⟩
  | 96 => ⟨S1024, .i32⟩
  | 97 => ⟨S1024, .i32⟩
  | 98 => ⟨S1024, .i32⟩
  | 99 => ⟨S1024, .i32⟩
  | 100 => ⟨S_, .i32⟩
  | 101 => ⟨S1024, .i32⟩
  | 102 => ⟨S1024, .i32⟩
  | 103 => ⟨S_, .i32⟩
  | 104 => ⟨S1024, .i32⟩
  | 105 => ⟨S1024, .i32⟩
  | 106 => ⟨S1024, .i32⟩
  | 107 => ⟨S1024, .i32⟩
  | 108 => ⟨S1024, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i32⟩
  | 115 => ⟨S1024, .i32⟩
  | 116 => ⟨S1024, .i32⟩
  | 117 => ⟨S1024, .i32⟩
  | 118 => ⟨S_, .i32⟩
  | 119 => ⟨S1024, .i32⟩
  | 120 => ⟨S1024, .i32⟩
  | 121 => ⟨S_, .i32⟩
  | 122 => ⟨S1024, .i32⟩
  | 123 => ⟨S1024, .i32⟩
  | 124 => ⟨S1024, .i32⟩
  | 125 => ⟨S1024, .i32⟩
  | 126 => ⟨S1024, .i32⟩
  | 127 => ⟨S1024, .i32⟩
  | _ => ⟨S64x16x3x64x64, .f32⟩

abbrev hbmTy0_7 (i : Nat) : BufTy := match i % 128 with
  | 0 => ⟨S1024, .i32⟩
  | 1 => ⟨S1024, .i32⟩
  | 2 => ⟨S_, .i32⟩
  | 3 => ⟨S1024, .i32⟩
  | 4 => ⟨S1024, .i32⟩
  | 5 => ⟨S1024, .i32⟩
  | 6 => ⟨S_, .i32⟩
  | 7 => ⟨S1024, .i32⟩
  | 8 => ⟨S1024, .i32⟩
  | 9 => ⟨S_, .i32⟩
  | 10 => ⟨S1024, .i32⟩
  | 11 => ⟨S1024, .i32⟩
  | 12 => ⟨S1024, .i32⟩
  | 13 => ⟨S1024, .i32⟩
  | 14 => ⟨S1024, .i32⟩
  | 15 => ⟨S_, .i32⟩
  | 16 => ⟨S1024, .i32⟩
  | 17 => ⟨S1024, .i32⟩
  | 18 => ⟨S_, .i32⟩
  | 19 => ⟨S1024, .i32⟩
  | 20 => ⟨S1024, .i32⟩
  | 21 => ⟨S1024, .i32⟩
  | 22 => ⟨S1024, .i32⟩
  | 23 => ⟨S1024, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S1024, .i32⟩
  | 40 => ⟨S1024, .i32⟩
  | 41 => ⟨S1024, .i32⟩
  | 42 => ⟨S1024, .i32⟩
  | 43 => ⟨S1024, .i32⟩
  | 44 => ⟨S1024, .i32⟩
  | 45 => ⟨S_, .i32⟩
  | 46 => ⟨S1024, .i32⟩
  | 47 => ⟨S1024, .i32⟩
  | 48 => ⟨S1024, .i32⟩
  | 49 => ⟨S_, .i32⟩
  | 50 => ⟨S1024, .i32⟩
  | 51 => ⟨S1024, .i32⟩
  | 52 => ⟨S_, .i32⟩
  | 53 => ⟨S1024, .i32⟩
  | 54 => ⟨S1024, .i32⟩
  | 55 => ⟨S1024, .i32⟩
  | 56 => ⟨S1024, .i32⟩
  | 57 => ⟨S1024, .i32⟩
  | 58 => ⟨S_, .i32⟩
  | 59 => ⟨S1024, .i32⟩
  | 60 => ⟨S1024, .i32⟩
  | 61 => ⟨S_, .i32⟩
  | 62 => ⟨S1024, .i32⟩
  | 63 => ⟨S1024, .i32⟩
  | 64 => ⟨S1024, .i32⟩
  | 65 => ⟨S1024, .i32⟩
  | 66 => ⟨S1024, .i32⟩
  | 67 => ⟨S_, .i32⟩
  | 68 => ⟨S1024, .i32⟩
  | 69 => ⟨S1024, .i32⟩
  | 70 => ⟨S_, .i32⟩
  | 71 => ⟨S1024, .i32⟩
  | 72 => ⟨S1024, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S1024, .i32⟩
  | 83 => ⟨S1024, .i32⟩
  | 84 => ⟨S1024, .i32⟩
  | 85 => ⟨S1024, .i32⟩
  | 86 => ⟨S1024, .i32⟩
  | 87 => ⟨S1024, .i32⟩
  | 88 => ⟨S_, .i32⟩
  | 89 => ⟨S1024, .i32⟩
  | 90 => ⟨S1024, .i32⟩
  | 91 => ⟨S1024, .i32⟩
  | 92 => ⟨S1, .i32⟩
  | 93 => ⟨S1, .i32⟩
  | 94 => ⟨S1, .i1⟩
  | 95 => ⟨S_, .i32⟩
  | 96 => ⟨S1, .i32⟩
  | 97 => ⟨S1, .i32⟩
  | 98 => ⟨S1, .i1⟩
  | 99 => ⟨S1, .i1⟩
  | 100 => ⟨S1, .i1⟩
  | 101 => ⟨S_, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1024, .i32⟩
  | 111 => ⟨S1024, .i32⟩
  | 112 => ⟨S1024, .i32⟩
  | 113 => ⟨S1024, .i32⟩
  | 114 => ⟨S1024, .i32⟩
  | 115 => ⟨S1024, .i32⟩
  | 116 => ⟨S1024, .i32⟩
  | 117 => ⟨S1024, .i32⟩
  | 118 => ⟨S1024, .i32⟩
  | 119 => ⟨S1024, .i32⟩
  | 120 => ⟨S1024, .i32⟩
  | 121 => ⟨S1024, .i32⟩
  | 122 => ⟨S_, .f32⟩
  | 123 => ⟨S1024x18, .f32⟩
  | 124 => ⟨S_, .i32⟩
  | 125 => ⟨S1024, .i32⟩
  | 126 => ⟨S1024, .i1⟩
  | 127 => ⟨S_, .i32⟩
  | _ => ⟨S64x16x3x64x64, .f32⟩

abbrev hbmTy0_8 (i : Nat) : BufTy := match i % 128 with
  | 0 => ⟨S1024, .i32⟩
  | 1 => ⟨S1024, .i32⟩
  | 2 => ⟨S1024, .i32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S1024x1, .i32⟩
  | 12 => ⟨S1024x2, .i32⟩
  | 13 => ⟨S_, .f32⟩
  | 14 => ⟨S1024, .f32⟩
  | 15 => ⟨S1024x18, .f32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S_, .i32⟩
  | 40 => ⟨S2, .i64⟩
  | 41 => ⟨S_, .i64⟩
  | 42 => ⟨S2, .i64⟩
  | 43 => ⟨S2, .i64⟩
  | 44 => ⟨S_, .i64⟩
  | 45 => ⟨S2, .i64⟩
  | 46 => ⟨S2, .i64⟩
  | 47 => ⟨S2, .i32⟩
  | 48 => ⟨S2, .i32⟩
  | 49 => ⟨S_, .i32⟩
  | 50 => ⟨S_, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S64x16x3x64x64, .f32⟩

abbrev hbmTy0_9 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S64x16x3x64x64, .f32⟩

abbrev hbmTy0_10 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2x1, .i32⟩
  | 16 => ⟨S2x1, .i32⟩
  | 17 => ⟨S2x2, .i32⟩
  | 18 => ⟨S1x2, .i32⟩
  | 19 => ⟨S2, .i32⟩
  | 20 => ⟨S1x2, .i32⟩
  | 21 => ⟨S2, .i32⟩
  | 22 => ⟨S1, .i32⟩
  | 23 => ⟨S_, .i32⟩
  | 24 => ⟨S1, .i32⟩
  | 25 => ⟨S_, .i32⟩
  | 26 => ⟨S1024, .i64⟩
  | 27 => ⟨S_, .i64⟩
  | 28 => ⟨S1024, .i64⟩
  | 29 => ⟨S1024, .i64⟩
  | 30 => ⟨S_, .i64⟩
  | 31 => ⟨S1024, .i64⟩
  | 32 => ⟨S1024, .i64⟩
  | 33 => ⟨S1024, .i32⟩
  | 34 => ⟨S1024, .i32⟩
  | 35 => ⟨S_, .i32⟩
  | 36 => ⟨S_, .i32⟩
  | 37 => ⟨S_, .i32⟩
  | 38 => ⟨S1024, .i32⟩
  | 39 => ⟨S1024, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024, .i32⟩
  | 59 => ⟨S1024, .i32⟩
  | 60 => ⟨S1024, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i32⟩
  | 67 => ⟨S1024, .i32⟩
  | 68 => ⟨S1024, .i32⟩
  | 69 => ⟨S1024, .i32⟩
  | 70 => ⟨S_, .i32⟩
  | 71 => ⟨S1024, .i32⟩
  | 72 => ⟨S1024, .i32⟩
  | 73 => ⟨S_, .i32⟩
  | 74 => ⟨S1024, .i32⟩
  | 75 => ⟨S1024, .i32⟩
  | 76 => ⟨S1024, .i32⟩
  | 77 => ⟨S1024, .i32⟩
  | 78 => ⟨S1024, .i32⟩
  | 79 => ⟨S1024, .i32⟩
  | 80 => ⟨S1024, .i32⟩
  | 81 => ⟨S1024, .i32⟩
  | 82 => ⟨S_, .i32⟩
  | 83 => ⟨S1024, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024, .i32⟩
  | 102 => ⟨S1024, .i32⟩
  | 103 => ⟨S1024, .i32⟩
  | 104 => ⟨S_, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .i32⟩
  | 111 => ⟨S1024, .i32⟩
  | 112 => ⟨S1024, .i32⟩
  | 113 => ⟨S_, .i32⟩
  | 114 => ⟨S1024, .i32⟩
  | 115 => ⟨S1024, .i32⟩
  | 116 => ⟨S_, .i32⟩
  | 117 => ⟨S1024, .i32⟩
  | 118 => ⟨S1024, .i32⟩
  | 119 => ⟨S1024, .i32⟩
  | 120 => ⟨S1024, .i32⟩
  | 121 => ⟨S1024, .i32⟩
  | 122 => ⟨S1024, .i32⟩
  | 123 => ⟨S1024, .i32⟩
  | 124 => ⟨S1024, .i32⟩
  | 125 => ⟨S_, .i32⟩
  | 126 => ⟨S1024, .i32⟩
  | 127 => ⟨S1024, .i32⟩
  | _ => ⟨S64x16x3x64x64, .f32⟩

abbrev hbmTy0_11 (i : Nat) : BufTy := match i % 128 with
  | 0 => ⟨S1024, .i32⟩
  | 1 => ⟨S_, .i32⟩
  | 2 => ⟨S1024, .i32⟩
  | 3 => ⟨S1024, .i32⟩
  | 4 => ⟨S_, .i32⟩
  | 5 => ⟨S1024, .i32⟩
  | 6 => ⟨S1024, .i32⟩
  | 7 => ⟨S1024, .i32⟩
  | 8 => ⟨S1024, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i32⟩
  | 16 => ⟨S1024, .i32⟩
  | 17 => ⟨S1024, .i32⟩
  | 18 => ⟨S1024, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i32⟩
  | 25 => ⟨S1024, .i32⟩
  | 26 => ⟨S1024, .i32⟩
  | 27 => ⟨S1024, .i32⟩
  | 28 => ⟨S_, .i32⟩
  | 29 => ⟨S1024, .i32⟩
  | 30 => ⟨S1024, .i32⟩
  | 31 => ⟨S_, .i32⟩
  | 32 => ⟨S1024, .i32⟩
  | 33 => ⟨S1024, .i32⟩
  | 34 => ⟨S1024, .i32⟩
  | 35 => ⟨S1024, .i32⟩
  | 36 => ⟨S1024, .i32⟩
  | 37 => ⟨S1024, .i32⟩
  | 38 => ⟨S1024, .i32⟩
  | 39 => ⟨S1024, .i32⟩
  | 40 => ⟨S_, .i32⟩
  | 41 => ⟨S1024, .i32⟩
  | 42 => ⟨S1024, .i32⟩
  | 43 => ⟨S1024, .i32⟩
  | 44 => ⟨S_, .i32⟩
  | 45 => ⟨S1024, .i32⟩
  | 46 => ⟨S1024, .i32⟩
  | 47 => ⟨S_, .i32⟩
  | 48 => ⟨S1024, .i32⟩
  | 49 => ⟨S1024, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i32⟩
  | 59 => ⟨S1024, .i32⟩
  | 60 => ⟨S1024, .i32⟩
  | 61 => ⟨S1024, .i32⟩
  | 62 => ⟨S_, .i32⟩
  | 63 => ⟨S1024, .i32⟩
  | 64 => ⟨S1024, .i32⟩
  | 65 => ⟨S_, .i32⟩
  | 66 => ⟨S1024, .i32⟩
  | 67 => ⟨S1024, .i32⟩
  | 68 => ⟨S1024, .i32⟩
  | 69 => ⟨S1024, .i32⟩
  | 70 => ⟨S1024, .i32⟩
  | 71 => ⟨S_, .i32⟩
  | 72 => ⟨S1024, .i32⟩
  | 73 => ⟨S1024, .i32⟩
  | 74 => ⟨S_, .i32⟩
  | 75 => ⟨S1024, .i32⟩
  | 76 => ⟨S1024, .i32⟩
  | 77 => ⟨S1024, .i32⟩
  | 78 => ⟨S1024, .i32⟩
  | 79 => ⟨S1024, .i32⟩
  | 80 => ⟨S1024, .i32⟩
  | 81 => ⟨S1024, .i32⟩
  | 82 => ⟨S1024, .i32⟩
  | 83 => ⟨S_, .i32⟩
  | 84 => ⟨S1024, .i32⟩
  | 85 => ⟨S1024, .i32⟩
  | 86 => ⟨S1024, .i32⟩
  | 87 => ⟨S_, .i32⟩
  | 88 => ⟨S1024, .i32⟩
  | 89 => ⟨S1024, .i32⟩
  | 90 => ⟨S_, .i32⟩
  | 91 => ⟨S1024, .i32⟩
  | 92 => ⟨S1024, .i32⟩
  | 93 => ⟨S1024, .i32⟩
  | 94 => ⟨S1024, .i32⟩
  | 95 => ⟨S1024, .i32⟩
  | 96 => ⟨S_, .i32⟩
  | 97 => ⟨S1024, .i32⟩
  | 98 => ⟨S1024, .i32⟩
  | 99 => ⟨S_, .i32⟩
  | 100 => ⟨S1024, .i32⟩
  | 101 => ⟨S1024, .i32⟩
  | 102 => ⟨S1024, .i32⟩
  | 103 => ⟨S1024, .i32⟩
  | 104 => ⟨S1024, .i32⟩
  | 105 => ⟨S_, .i32⟩
  | 106 => ⟨S1024, .i32⟩
  | 107 => ⟨S1024, .i32⟩
  | 108 => ⟨S_, .i32⟩
  | 109 => ⟨S1024, .i32⟩
  | 110 => ⟨S1024, .i32⟩
  | 111 => ⟨S1024, .i32⟩
  | 112 => ⟨S1024, .i32⟩
  | 113 => ⟨S1024, .i32⟩
  | 114 => ⟨S_, .i32⟩
  | 115 => ⟨S1024, .i32⟩
  | 116 => ⟨S1024, .i32⟩
  | 117 => ⟨S_, .i32⟩
  | 118 => ⟨S1024, .i32⟩
  | 119 => ⟨S1024, .i32⟩
  | 120 => ⟨S1024, .i32⟩
  | 121 => ⟨S1024, .i32⟩
  | 122 => ⟨S1024, .i32⟩
  | 123 => ⟨S1024, .i32⟩
  | 124 => ⟨S1024, .i32⟩
  | 125 => ⟨S1024, .i32⟩
  | 126 => ⟨S_, .i32⟩
  | 127 => ⟨S1024, .i32⟩
  | _ => ⟨S64x16x3x64x64, .f32⟩

abbrev hbmTy0_12 (i : Nat) : BufTy := match i % 128 with
  | 0 => ⟨S1024, .i32⟩
  | 1 => ⟨S1024, .i32⟩
  | 2 => ⟨S1, .i32⟩
  | 3 => ⟨S_, .i32⟩
  | 4 => ⟨S1, .i32⟩
  | 5 => ⟨S_, .i32⟩
  | 6 => ⟨S1024, .i64⟩
  | 7 => ⟨S_, .i64⟩
  | 8 => ⟨S1024, .i64⟩
  | 9 => ⟨S1024, .i64⟩
  | 10 => ⟨S_, .i64⟩
  | 11 => ⟨S1024, .i64⟩
  | 12 => ⟨S1024, .i64⟩
  | 13 => ⟨S1024, .i32⟩
  | 14 => ⟨S1024, .i32⟩
  | 15 => ⟨S_, .i32⟩
  | 16 => ⟨S_, .i32⟩
  | 17 => ⟨S_, .i32⟩
  | 18 => ⟨S1024, .i32⟩
  | 19 => ⟨S1024, .i32⟩
  | 20 => ⟨S1024, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i32⟩
  | 29 => ⟨S1024, .i32⟩
  | 30 => ⟨S1024, .i32⟩
  | 31 => ⟨S1024, .i32⟩
  | 32 => ⟨S_, .i32⟩
  | 33 => ⟨S1024, .i32⟩
  | 34 => ⟨S1024, .i32⟩
  | 35 => ⟨S_, .i32⟩
  | 36 => ⟨S1024, .i32⟩
  | 37 => ⟨S1024, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i32⟩
  | 47 => ⟨S1024, .i32⟩
  | 48 => ⟨S1024, .i32⟩
  | 49 => ⟨S1024, .i32⟩
  | 50 => ⟨S_, .i32⟩
  | 51 => ⟨S1024, .i32⟩
  | 52 => ⟨S1024, .i32⟩
  | 53 => ⟨S_, .i32⟩
  | 54 => ⟨S1024, .i32⟩
  | 55 => ⟨S1024, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S_, .i32⟩
  | 63 => ⟨S1024, .i32⟩
  | 64 => ⟨S1024, .i32⟩
  | 65 => ⟨S1024, .i32⟩
  | 66 => ⟨S_, .i32⟩
  | 67 => ⟨S1024, .i32⟩
  | 68 => ⟨S1024, .i32⟩
  | 69 => ⟨S_, .i32⟩
  | 70 => ⟨S1024, .i32⟩
  | 71 => ⟨S1024, .i32⟩
  | 72 => ⟨S1024, .i32⟩
  | 73 => ⟨S1024, .i32⟩
  | 74 => ⟨S1024, .i32⟩
  | 75 => ⟨S_, .i32⟩
  | 76 => ⟨S1024, .i32⟩
  | 77 => ⟨S1024, .i32⟩
  | 78 => ⟨S_, .i32⟩
  | 79 => ⟨S1024, .i32⟩
  | 80 => ⟨S1024, .i32⟩
  | 81 => ⟨S1024, .i32⟩
  | 82 => ⟨S1024, .i32⟩
  | 83 => ⟨S1024, .i32⟩
  | 84 => ⟨S_, .i32⟩
  | 85 => ⟨S1024, .i32⟩
  | 86 => ⟨S1024, .i32⟩
  | 87 => ⟨S_, .i32⟩
  | 88 => ⟨S1024, .i32⟩
  | 89 => ⟨S1024, .i32⟩
  | 90 => ⟨S1024, .i32⟩
  | 91 => ⟨S1024, .i32⟩
  | 92 => ⟨S1024, .i32⟩
  | 93 => ⟨S_, .i32⟩
  | 94 => ⟨S1024, .i32⟩
  | 95 => ⟨S1024, .i32⟩
  | 96 => ⟨S_, .i32⟩
  | 97 => ⟨S1024, .i32⟩
  | 98 => ⟨S1024, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S_, .i32⟩
  | 106 => ⟨S1024, .i32⟩
  | 107 => ⟨S1024, .i32⟩
  | 108 => ⟨S1024, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i32⟩
  | 115 => ⟨S1024, .i32⟩
  | 116 => ⟨S1024, .i32⟩
  | 117 => ⟨S1024, .i32⟩
  | 118 => ⟨S_, .i32⟩
  | 119 => ⟨S1024, .i32⟩
  | 120 => ⟨S1024, .i32⟩
  | 121 => ⟨S_, .i32⟩
  | 122 => ⟨S1024, .i32⟩
  | 123 => ⟨S1024, .i32⟩
  | 124 => ⟨S1024, .i32⟩
  | 125 => ⟨S1024, .i32⟩
  | 126 => ⟨S1024, .i32⟩
  | 127 => ⟨S_, .i32⟩
  | _ => ⟨S64x16x3x64x64, .f32⟩

abbrev hbmTy0_13 (i : Nat) : BufTy := match i % 128 with
  | 0 => ⟨S1024, .i32⟩
  | 1 => ⟨S1024, .i32⟩
  | 2 => ⟨S_, .i32⟩
  | 3 => ⟨S1024, .i32⟩
  | 4 => ⟨S1024, .i32⟩
  | 5 => ⟨S1024, .i32⟩
  | 6 => ⟨S1024, .i32⟩
  | 7 => ⟨S1024, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i32⟩
  | 14 => ⟨S1024, .i32⟩
  | 15 => ⟨S1024, .i32⟩
  | 16 => ⟨S1024, .i32⟩
  | 17 => ⟨S1024, .i32⟩
  | 18 => ⟨S1024, .i32⟩
  | 19 => ⟨S1024, .i32⟩
  | 20 => ⟨S_, .i32⟩
  | 21 => ⟨S1024, .i32⟩
  | 22 => ⟨S1024, .i32⟩
  | 23 => ⟨S1024, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S1024, .i32⟩
  | 40 => ⟨S1024, .i32⟩
  | 41 => ⟨S1024, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S_, .i32⟩
  | 64 => ⟨S1024, .i32⟩
  | 65 => ⟨S1024, .i32⟩
  | 66 => ⟨S1024, .i32⟩
  | 67 => ⟨S_, .i32⟩
  | 68 => ⟨S1024, .i32⟩
  | 69 => ⟨S1024, .i32⟩
  | 70 => ⟨S_, .i32⟩
  | 71 => ⟨S1024, .i32⟩
  | 72 => ⟨S1024, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S1024, .i32⟩
  | 83 => ⟨S1024, .i32⟩
  | 84 => ⟨S1024, .i32⟩
  | 85 => ⟨S_, .i32⟩
  | 86 => ⟨S1024, .i32⟩
  | 87 => ⟨S1024, .i32⟩
  | 88 => ⟨S_, .i32⟩
  | 89 => ⟨S1024, .i32⟩
  | 90 => ⟨S1024, .i32⟩
  | 91 => ⟨S1024, .i32⟩
  | 92 => ⟨S1024, .i32⟩
  | 93 => ⟨S1024, .i32⟩
  | 94 => ⟨S_, .i32⟩
  | 95 => ⟨S1024, .i32⟩
  | 96 => ⟨S1024, .i32⟩
  | 97 => ⟨S_, .i32⟩
  | 98 => ⟨S1024, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S_, .i32⟩
  | 107 => ⟨S1024, .i32⟩
  | 108 => ⟨S1024, .i32⟩
  | 109 => ⟨S1024, .i32⟩
  | 110 => ⟨S1, .i32⟩
  | 111 => ⟨S1, .i32⟩
  | 112 => ⟨S1, .i1⟩
  | 113 => ⟨S_, .i32⟩
  | 114 => ⟨S1, .i32⟩
  | 115 => ⟨S1, .i32⟩
  | 116 => ⟨S1, .i1⟩
  | 117 => ⟨S1, .i1⟩
  | 118 => ⟨S1, .i1⟩
  | 119 => ⟨S_, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S64x16x3x64x64, .f32⟩

abbrev hbmTy0_14 (i : Nat) : BufTy := match i % 128 with
  | 0 => ⟨S1024, .i32⟩
  | 1 => ⟨S1024, .i32⟩
  | 2 => ⟨S1024, .i32⟩
  | 3 => ⟨S1024, .i32⟩
  | 4 => ⟨S1024, .i32⟩
  | 5 => ⟨S1024, .i32⟩
  | 6 => ⟨S1024, .i32⟩
  | 7 => ⟨S1024, .i32⟩
  | 8 => ⟨S1024, .i32⟩
  | 9 => ⟨S1024, .i32⟩
  | 10 => ⟨S1024, .i32⟩
  | 11 => ⟨S1024, .i32⟩
  | 12 => ⟨S_, .f32⟩
  | 13 => ⟨S1024x32000, .f32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024x1, .i32⟩
  | 30 => ⟨S1024x2, .i32⟩
  | 31 => ⟨S_, .f32⟩
  | 32 => ⟨S1024, .f32⟩
  | 33 => ⟨S1024x32000, .f32⟩
  | _ => ⟨S64x16x3x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S64x16x3x64x64, .f32⟩

abbrev bufTy : (tb : Table) → Fin (tcTables nBuf tb) → BufTy
  | .hbm, ⟨i, _⟩ => hbmTy i
  | _, _ => ⟨S64x16x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_c_2 : Ref sig .tc := ⟨.hbm, 254, rfl⟩
abbrev main_c_3 : Ref sig .tc := ⟨.hbm, 255, rfl⟩
abbrev main_call1_c : Ref sig .tc := ⟨.hbm, 256, rfl⟩
abbrev main_call1_c_0 : Ref sig .tc := ⟨.hbm, 257, rfl⟩
abbrev main_call1_c_1 : Ref sig .tc := ⟨.hbm, 258, rfl⟩
abbrev main_call1_call0_v0 : Ref sig .tc := ⟨.hbm, 259, rfl⟩
abbrev main_call1_v0 : Ref sig .tc := ⟨.hbm, 260, rfl⟩
abbrev main_call1_v1 : Ref sig .tc := ⟨.hbm, 261, rfl⟩
abbrev main_call1_c_2 : Ref sig .tc := ⟨.hbm, 262, rfl⟩
abbrev main_call1_c_3 : Ref sig .tc := ⟨.hbm, 263, rfl⟩
abbrev main_call1_call1_v0 : Ref sig .tc := ⟨.hbm, 264, rfl⟩
abbrev main_call1_v2 : Ref sig .tc := ⟨.hbm, 265, rfl⟩
abbrev main_call1_v3 : Ref sig .tc := ⟨.hbm, 266, rfl⟩
abbrev main_call1_c_4 : Ref sig .tc := ⟨.hbm, 267, rfl⟩
abbrev main_call1_c_5 : Ref sig .tc := ⟨.hbm, 268, rfl⟩
abbrev main_call1_call2_v0 : Ref sig .tc := ⟨.hbm, 269, rfl⟩
abbrev main_call1_v4 : Ref sig .tc := ⟨.hbm, 270, rfl⟩
abbrev main_call1_v5 : Ref sig .tc := ⟨.hbm, 271, rfl⟩
abbrev main_call1_v6 : Ref sig .tc := ⟨.hbm, 272, rfl⟩
abbrev main_call1_v7 : Ref sig .tc := ⟨.hbm, 273, rfl⟩
abbrev main_call1_call3_v0 : Ref sig .tc := ⟨.hbm, 274, rfl⟩
abbrev main_call1_call3_v1 : Ref sig .tc := ⟨.hbm, 275, rfl⟩
abbrev main_call1_call3_v2 : Ref sig .tc := ⟨.hbm, 276, rfl⟩
abbrev main_call1_call3_v3 : Ref sig .tc := ⟨.hbm, 277, rfl⟩
abbrev main_call1_call3_v4 : Ref sig .tc := ⟨.hbm, 278, rfl⟩
abbrev main_call1_call3_c : Ref sig .tc := ⟨.hbm, 279, rfl⟩
abbrev main_call1_call3_v5 : Ref sig .tc := ⟨.hbm, 280, rfl⟩
abbrev main_call1_call3_v6 : Ref sig .tc := ⟨.hbm, 281, rfl⟩
abbrev main_call1_call3_c_0 : Ref sig .tc := ⟨.hbm, 282, rfl⟩
abbrev main_call1_call3_v7 : Ref sig .tc := ⟨.hbm, 283, rfl⟩
abbrev main_call1_call3_v8 : Ref sig .tc := ⟨.hbm, 284, rfl⟩
abbrev main_call1_call3_v9 : Ref sig .tc := ⟨.hbm, 285, rfl⟩
abbrev main_call1_call3_v10 : Ref sig .tc := ⟨.hbm, 286, rfl⟩
abbrev main_call1_call3_call0_v0 : Ref sig .tc := ⟨.hbm, 287, rfl⟩
abbrev main_call1_call3_call0_c : Ref sig .tc := ⟨.hbm, 288, rfl⟩
abbrev main_call1_call3_call0_v1 : Ref sig .tc := ⟨.hbm, 289, rfl⟩
abbrev main_call1_call3_call0_v2 : Ref sig .tc := ⟨.hbm, 290, rfl⟩
abbrev main_call1_call3_call0_v3 : Ref sig .tc := ⟨.hbm, 291, rfl⟩
abbrev main_call1_call3_call0_v4 : Ref sig .tc := ⟨.hbm, 292, rfl⟩
abbrev main_call1_call3_call0_v5 : Ref sig .tc := ⟨.hbm, 293, rfl⟩
abbrev main_call1_call3_call0_v6 : Ref sig .tc := ⟨.hbm, 294, rfl⟩
abbrev main_call1_call3_call0_c_0 : Ref sig .tc := ⟨.hbm, 295, rfl⟩
abbrev main_call1_call3_call0_v7 : Ref sig .tc := ⟨.hbm, 296, rfl⟩
abbrev main_call1_call3_call0_v8 : Ref sig .tc := ⟨.hbm, 297, rfl⟩
abbrev main_call1_call3_call0_c_1 : Ref sig .tc := ⟨.hbm, 298, rfl⟩
abbrev main_call1_call3_call0_v9 : Ref sig .tc := ⟨.hbm, 299, rfl⟩
abbrev main_call1_call3_call0_v10 : Ref sig .tc := ⟨.hbm, 300, rfl⟩
abbrev main_call1_call3_call0_v11 : Ref sig .tc := ⟨.hbm, 301, rfl⟩
abbrev main_call1_call3_call0_v12 : Ref sig .tc := ⟨.hbm, 302, rfl⟩
abbrev main_call1_call3_call0_v13 : Ref sig .tc := ⟨.hbm, 303, rfl⟩
abbrev main_call1_call3_call0_c_2 : Ref sig .tc := ⟨.hbm, 304, rfl⟩
abbrev main_call1_call3_call0_v14 : Ref sig .tc := ⟨.hbm, 305, rfl⟩
abbrev main_call1_call3_call0_v15 : Ref sig .tc := ⟨.hbm, 306, rfl⟩
abbrev main_call1_call3_call0_c_3 : Ref sig .tc := ⟨.hbm, 307, rfl⟩
abbrev main_call1_call3_call0_v16 : Ref sig .tc := ⟨.hbm, 308, rfl⟩
abbrev main_call1_call3_call0_v17 : Ref sig .tc := ⟨.hbm, 309, rfl⟩
abbrev main_call1_call3_call0_v18 : Ref sig .tc := ⟨.hbm, 310, rfl⟩
abbrev main_call1_call3_call0_v19 : Ref sig .tc := ⟨.hbm, 311, rfl⟩
abbrev main_call1_call3_call0_v20 : Ref sig .tc := ⟨.hbm, 312, rfl⟩
abbrev main_call1_call3_call0_c_4 : Ref sig .tc := ⟨.hbm, 313, rfl⟩
abbrev main_call1_call3_call0_v21 : Ref sig .tc := ⟨.hbm, 314, rfl⟩
abbrev main_call1_call3_call0_v22 : Ref sig .tc := ⟨.hbm, 315, rfl⟩
abbrev main_call1_call3_call0_c_5 : Ref sig .tc := ⟨.hbm, 316, rfl⟩
abbrev main_call1_call3_call0_v23 : Ref sig .tc := ⟨.hbm, 317, rfl⟩
abbrev main_call1_call3_call0_v24 : Ref sig .tc := ⟨.hbm, 318, rfl⟩
abbrev main_call1_call3_call0_v25 : Ref sig .tc := ⟨.hbm, 319, rfl⟩
abbrev main_call1_call3_call0_v26 : Ref sig .tc := ⟨.hbm, 320, rfl⟩
abbrev main_call1_call3_call0_v27 : Ref sig .tc := ⟨.hbm, 321, rfl⟩
abbrev main_call1_call3_call0_c_6 : Ref sig .tc := ⟨.hbm, 322, rfl⟩
abbrev main_call1_call3_call0_v28 : Ref sig .tc := ⟨.hbm, 323, rfl⟩
abbrev main_call1_call3_call0_v29 : Ref sig .tc := ⟨.hbm, 324, rfl⟩
abbrev main_call1_call3_call0_c_7 : Ref sig .tc := ⟨.hbm, 325, rfl⟩
abbrev main_call1_call3_call0_v30 : Ref sig .tc := ⟨.hbm, 326, rfl⟩
abbrev main_call1_call3_call0_v31 : Ref sig .tc := ⟨.hbm, 327, rfl⟩
abbrev main_call1_call3_call0_v32 : Ref sig .tc := ⟨.hbm, 328, rfl⟩
abbrev main_call1_call3_call0_v33 : Ref sig .tc := ⟨.hbm, 329, rfl⟩
abbrev main_call1_call3_call0_v34 : Ref sig .tc := ⟨.hbm, 330, rfl⟩
abbrev main_call1_call3_call0_v35 : Ref sig .tc := ⟨.hbm, 331, rfl⟩
abbrev main_call1_call3_call0_v36 : Ref sig .tc := ⟨.hbm, 332, rfl⟩
abbrev main_call1_call3_call0_v37 : Ref sig .tc := ⟨.hbm, 333, rfl⟩
abbrev main_call1_call3_call0_c_8 : Ref sig .tc := ⟨.hbm, 334, rfl⟩
abbrev main_call1_call3_call0_v38 : Ref sig .tc := ⟨.hbm, 335, rfl⟩
abbrev main_call1_call3_call0_v39 : Ref sig .tc := ⟨.hbm, 336, rfl⟩
abbrev main_call1_call3_call0_v40 : Ref sig .tc := ⟨.hbm, 337, rfl⟩
abbrev main_call1_call3_call0_c_9 : Ref sig .tc := ⟨.hbm, 338, rfl⟩
abbrev main_call1_call3_call0_v41 : Ref sig .tc := ⟨.hbm, 339, rfl⟩
abbrev main_call1_call3_call0_v42 : Ref sig .tc := ⟨.hbm, 340, rfl⟩
abbrev main_call1_call3_call0_c_10 : Ref sig .tc := ⟨.hbm, 341, rfl⟩
abbrev main_call1_call3_call0_v43 : Ref sig .tc := ⟨.hbm, 342, rfl⟩
abbrev main_call1_call3_call0_v44 : Ref sig .tc := ⟨.hbm, 343, rfl⟩
abbrev main_call1_call3_call0_v45 : Ref sig .tc := ⟨.hbm, 344, rfl⟩
abbrev main_call1_call3_call0_v46 : Ref sig .tc := ⟨.hbm, 345, rfl⟩
abbrev main_call1_call3_call0_v47 : Ref sig .tc := ⟨.hbm, 346, rfl⟩
abbrev main_call1_call3_call0_c_11 : Ref sig .tc := ⟨.hbm, 347, rfl⟩
abbrev main_call1_call3_call0_v48 : Ref sig .tc := ⟨.hbm, 348, rfl⟩
abbrev main_call1_call3_call0_v49 : Ref sig .tc := ⟨.hbm, 349, rfl⟩
abbrev main_call1_call3_call0_c_12 : Ref sig .tc := ⟨.hbm, 350, rfl⟩
abbrev main_call1_call3_call0_v50 : Ref sig .tc := ⟨.hbm, 351, rfl⟩
abbrev main_call1_call3_call0_v51 : Ref sig .tc := ⟨.hbm, 352, rfl⟩
abbrev main_call1_call3_call0_v52 : Ref sig .tc := ⟨.hbm, 353, rfl⟩
abbrev main_call1_call3_call0_v53 : Ref sig .tc := ⟨.hbm, 354, rfl⟩
abbrev main_call1_call3_call0_v54 : Ref sig .tc := ⟨.hbm, 355, rfl⟩
abbrev main_call1_call3_call0_c_13 : Ref sig .tc := ⟨.hbm, 356, rfl⟩
abbrev main_call1_call3_call0_v55 : Ref sig .tc := ⟨.hbm, 357, rfl⟩
abbrev main_call1_call3_call0_v56 : Ref sig .tc := ⟨.hbm, 358, rfl⟩
abbrev main_call1_call3_call0_c_14 : Ref sig .tc := ⟨.hbm, 359, rfl⟩
abbrev main_call1_call3_call0_v57 : Ref sig .tc := ⟨.hbm, 360, rfl⟩
abbrev main_call1_call3_call0_v58 : Ref sig .tc := ⟨.hbm, 361, rfl⟩
abbrev main_call1_call3_call0_v59 : Ref sig .tc := ⟨.hbm, 362, rfl⟩
abbrev main_call1_call3_call0_v60 : Ref sig .tc := ⟨.hbm, 363, rfl⟩
abbrev main_call1_call3_call0_v61 : Ref sig .tc := ⟨.hbm, 364, rfl⟩
abbrev main_call1_call3_call0_c_15 : Ref sig .tc := ⟨.hbm, 365, rfl⟩
abbrev main_call1_call3_call0_v62 : Ref sig .tc := ⟨.hbm, 366, rfl⟩
abbrev main_call1_call3_call0_v63 : Ref sig .tc := ⟨.hbm, 367, rfl⟩
abbrev main_call1_call3_call0_c_16 : Ref sig .tc := ⟨.hbm, 368, rfl⟩
abbrev main_call1_call3_call0_v64 : Ref sig .tc := ⟨.hbm, 369, rfl⟩
abbrev main_call1_call3_call0_v65 : Ref sig .tc := ⟨.hbm, 370, rfl⟩
abbrev main_call1_call3_call0_v66 : Ref sig .tc := ⟨.hbm, 371, rfl⟩
abbrev main_call1_call3_call0_v67 : Ref sig .tc := ⟨.hbm, 372, rfl⟩
abbrev main_call1_call3_call0_v68 : Ref sig .tc := ⟨.hbm, 373, rfl⟩
abbrev main_call1_call3_call0_v69 : Ref sig .tc := ⟨.hbm, 374, rfl⟩
abbrev main_call1_call3_call0_v70 : Ref sig .tc := ⟨.hbm, 375, rfl⟩
abbrev main_call1_call3_call0_v71 : Ref sig .tc := ⟨.hbm, 376, rfl⟩
abbrev main_call1_call3_call0_c_17 : Ref sig .tc := ⟨.hbm, 377, rfl⟩
abbrev main_call1_call3_call0_v72 : Ref sig .tc := ⟨.hbm, 378, rfl⟩
abbrev main_call1_call3_call0_v73 : Ref sig .tc := ⟨.hbm, 379, rfl⟩
abbrev main_call1_call3_call0_v74 : Ref sig .tc := ⟨.hbm, 380, rfl⟩
abbrev main_call1_call3_call0_c_18 : Ref sig .tc := ⟨.hbm, 381, rfl⟩
abbrev main_call1_call3_call0_v75 : Ref sig .tc := ⟨.hbm, 382, rfl⟩
abbrev main_call1_call3_call0_v76 : Ref sig .tc := ⟨.hbm, 383, rfl⟩
abbrev main_call1_call3_call0_c_19 : Ref sig .tc := ⟨.hbm, 384, rfl⟩
abbrev main_call1_call3_call0_v77 : Ref sig .tc := ⟨.hbm, 385, rfl⟩
abbrev main_call1_call3_call0_v78 : Ref sig .tc := ⟨.hbm, 386, rfl⟩
abbrev main_call1_call3_call0_v79 : Ref sig .tc := ⟨.hbm, 387, rfl⟩
abbrev main_call1_call3_call0_v80 : Ref sig .tc := ⟨.hbm, 388, rfl⟩
abbrev main_call1_call3_call0_v81 : Ref sig .tc := ⟨.hbm, 389, rfl⟩
abbrev main_call1_call3_call0_c_20 : Ref sig .tc := ⟨.hbm, 390, rfl⟩
abbrev main_call1_call3_call0_v82 : Ref sig .tc := ⟨.hbm, 391, rfl⟩
abbrev main_call1_call3_call0_v83 : Ref sig .tc := ⟨.hbm, 392, rfl⟩
abbrev main_call1_call3_call0_c_21 : Ref sig .tc := ⟨.hbm, 393, rfl⟩
abbrev main_call1_call3_call0_v84 : Ref sig .tc := ⟨.hbm, 394, rfl⟩
abbrev main_call1_call3_call0_v85 : Ref sig .tc := ⟨.hbm, 395, rfl⟩
abbrev main_call1_call3_call0_v86 : Ref sig .tc := ⟨.hbm, 396, rfl⟩
abbrev main_call1_call3_call0_v87 : Ref sig .tc := ⟨.hbm, 397, rfl⟩
abbrev main_call1_call3_call0_v88 : Ref sig .tc := ⟨.hbm, 398, rfl⟩
abbrev main_call1_call3_call0_c_22 : Ref sig .tc := ⟨.hbm, 399, rfl⟩
abbrev main_call1_call3_call0_v89 : Ref sig .tc := ⟨.hbm, 400, rfl⟩
abbrev main_call1_call3_call0_v90 : Ref sig .tc := ⟨.hbm, 401, rfl⟩
abbrev main_call1_call3_call0_c_23 : Ref sig .tc := ⟨.hbm, 402, rfl⟩
abbrev main_call1_call3_call0_v91 : Ref sig .tc := ⟨.hbm, 403, rfl⟩
abbrev main_call1_call3_call0_v92 : Ref sig .tc := ⟨.hbm, 404, rfl⟩
abbrev main_call1_call3_call0_v93 : Ref sig .tc := ⟨.hbm, 405, rfl⟩
abbrev main_call1_call3_call0_v94 : Ref sig .tc := ⟨.hbm, 406, rfl⟩
abbrev main_call1_call3_call0_v95 : Ref sig .tc := ⟨.hbm, 407, rfl⟩
abbrev main_call1_call3_call0_c_24 : Ref sig .tc := ⟨.hbm, 408, rfl⟩
abbrev main_call1_call3_call0_v96 : Ref sig .tc := ⟨.hbm, 409, rfl⟩
abbrev main_call1_call3_call0_v97 : Ref sig .tc := ⟨.hbm, 410, rfl⟩
abbrev main_call1_call3_call0_c_25 : Ref sig .tc := ⟨.hbm, 411, rfl⟩
abbrev main_call1_call3_call0_v98 : Ref sig .tc := ⟨.hbm, 412, rfl⟩
abbrev main_call1_call3_call0_v99 : Ref sig .tc := ⟨.hbm, 413, rfl⟩
abbrev main_call1_call3_call0_v100 : Ref sig .tc := ⟨.hbm, 414, rfl⟩
abbrev main_call1_call3_call0_v101 : Ref sig .tc := ⟨.hbm, 415, rfl⟩
abbrev main_call1_call3_call0_v102 : Ref sig .tc := ⟨.hbm, 416, rfl⟩
abbrev main_call1_call3_call0_v103 : Ref sig .tc := ⟨.hbm, 417, rfl⟩
abbrev main_call1_call3_call0_v104 : Ref sig .tc := ⟨.hbm, 418, rfl⟩
abbrev main_call1_call3_call0_v105 : Ref sig .tc := ⟨.hbm, 419, rfl⟩
abbrev main_call1_call3_call0_c_26 : Ref sig .tc := ⟨.hbm, 420, rfl⟩
abbrev main_call1_call3_call0_v106 : Ref sig .tc := ⟨.hbm, 421, rfl⟩
abbrev main_call1_call3_call0_v107 : Ref sig .tc := ⟨.hbm, 422, rfl⟩
abbrev main_call1_call3_call0_v108 : Ref sig .tc := ⟨.hbm, 423, rfl⟩
abbrev main_call1_call3_call0_c_27 : Ref sig .tc := ⟨.hbm, 424, rfl⟩
abbrev main_call1_call3_call0_v109 : Ref sig .tc := ⟨.hbm, 425, rfl⟩
abbrev main_call1_call3_call0_v110 : Ref sig .tc := ⟨.hbm, 426, rfl⟩
abbrev main_call1_call3_call0_c_28 : Ref sig .tc := ⟨.hbm, 427, rfl⟩
abbrev main_call1_call3_call0_v111 : Ref sig .tc := ⟨.hbm, 428, rfl⟩
abbrev main_call1_call3_call0_v112 : Ref sig .tc := ⟨.hbm, 429, rfl⟩
abbrev main_call1_call3_call0_v113 : Ref sig .tc := ⟨.hbm, 430, rfl⟩
abbrev main_call1_call3_call0_v114 : Ref sig .tc := ⟨.hbm, 431, rfl⟩
abbrev main_call1_call3_call0_v115 : Ref sig .tc := ⟨.hbm, 432, rfl⟩
abbrev main_call1_call3_call0_c_29 : Ref sig .tc := ⟨.hbm, 433, rfl⟩
abbrev main_call1_call3_call0_v116 : Ref sig .tc := ⟨.hbm, 434, rfl⟩
abbrev main_call1_call3_call0_v117 : Ref sig .tc := ⟨.hbm, 435, rfl⟩
abbrev main_call1_call3_call0_c_30 : Ref sig .tc := ⟨.hbm, 436, rfl⟩
abbrev main_call1_call3_call0_v118 : Ref sig .tc := ⟨.hbm, 437, rfl⟩
abbrev main_call1_call3_call0_v119 : Ref sig .tc := ⟨.hbm, 438, rfl⟩
abbrev main_call1_call3_call0_v120 : Ref sig .tc := ⟨.hbm, 439, rfl⟩
abbrev main_call1_call3_call0_v121 : Ref sig .tc := ⟨.hbm, 440, rfl⟩
abbrev main_call1_call3_call0_v122 : Ref sig .tc := ⟨.hbm, 441, rfl⟩
abbrev main_call1_call3_call0_c_31 : Ref sig .tc := ⟨.hbm, 442, rfl⟩
abbrev main_call1_call3_call0_v123 : Ref sig .tc := ⟨.hbm, 443, rfl⟩
abbrev main_call1_call3_call0_v124 : Ref sig .tc := ⟨.hbm, 444, rfl⟩
abbrev main_call1_call3_call0_c_32 : Ref sig .tc := ⟨.hbm, 445, rfl⟩
abbrev main_call1_call3_call0_v125 : Ref sig .tc := ⟨.hbm, 446, rfl⟩
abbrev main_call1_call3_call0_v126 : Ref sig .tc := ⟨.hbm, 447, rfl⟩
abbrev main_call1_call3_call0_v127 : Ref sig .tc := ⟨.hbm, 448, rfl⟩
abbrev main_call1_call3_call0_v128 : Ref sig .tc := ⟨.hbm, 449, rfl⟩
abbrev main_call1_call3_call0_v129 : Ref sig .tc := ⟨.hbm, 450, rfl⟩
abbrev main_call1_call3_call0_c_33 : Ref sig .tc := ⟨.hbm, 451, rfl⟩
abbrev main_call1_call3_call0_v130 : Ref sig .tc := ⟨.hbm, 452, rfl⟩
abbrev main_call1_call3_call0_v131 : Ref sig .tc := ⟨.hbm, 453, rfl⟩
abbrev main_call1_call3_call0_c_34 : Ref sig .tc := ⟨.hbm, 454, rfl⟩
abbrev main_call1_call3_call0_v132 : Ref sig .tc := ⟨.hbm, 455, rfl⟩
abbrev main_call1_call3_call0_v133 : Ref sig .tc := ⟨.hbm, 456, rfl⟩
abbrev main_call1_call3_call0_v134 : Ref sig .tc := ⟨.hbm, 457, rfl⟩
abbrev main_call1_call3_call0_v135 : Ref sig .tc := ⟨.hbm, 458, rfl⟩
abbrev main_call1_call3_call0_v136 : Ref sig .tc := ⟨.hbm, 459, rfl⟩
abbrev main_call1_call3_call0_v137 : Ref sig .tc := ⟨.hbm, 460, rfl⟩
abbrev main_call1_call3_call0_v138 : Ref sig .tc := ⟨.hbm, 461, rfl⟩
abbrev main_call1_call3_call0_v139 : Ref sig .tc := ⟨.hbm, 462, rfl⟩
abbrev main_call1_call3_call0_c_35 : Ref sig .tc := ⟨.hbm, 463, rfl⟩
abbrev main_call1_call3_call0_v140 : Ref sig .tc := ⟨.hbm, 464, rfl⟩
abbrev main_call1_call3_call0_v141 : Ref sig .tc := ⟨.hbm, 465, rfl⟩
abbrev main_call1_call3_call0_v142 : Ref sig .tc := ⟨.hbm, 466, rfl⟩
abbrev main_call1_call3_call0_c_36 : Ref sig .tc := ⟨.hbm, 467, rfl⟩
abbrev main_call1_call3_call0_v143 : Ref sig .tc := ⟨.hbm, 468, rfl⟩
abbrev main_call1_call3_call0_v144 : Ref sig .tc := ⟨.hbm, 469, rfl⟩
abbrev main_call1_call3_call0_c_37 : Ref sig .tc := ⟨.hbm, 470, rfl⟩
abbrev main_call1_call3_call0_v145 : Ref sig .tc := ⟨.hbm, 471, rfl⟩
abbrev main_call1_call3_call0_v146 : Ref sig .tc := ⟨.hbm, 472, rfl⟩
abbrev main_call1_call3_call0_v147 : Ref sig .tc := ⟨.hbm, 473, rfl⟩
abbrev main_call1_call3_call0_v148 : Ref sig .tc := ⟨.hbm, 474, rfl⟩
abbrev main_call1_call3_call0_v149 : Ref sig .tc := ⟨.hbm, 475, rfl⟩
abbrev main_call1_call3_call0_c_38 : Ref sig .tc := ⟨.hbm, 476, rfl⟩
abbrev main_call1_call3_call0_v150 : Ref sig .tc := ⟨.hbm, 477, rfl⟩
abbrev main_call1_call3_call0_v151 : Ref sig .tc := ⟨.hbm, 478, rfl⟩
abbrev main_call1_call3_call0_c_39 : Ref sig .tc := ⟨.hbm, 479, rfl⟩
abbrev main_call1_call3_call0_v152 : Ref sig .tc := ⟨.hbm, 480, rfl⟩
abbrev main_call1_call3_call0_v153 : Ref sig .tc := ⟨.hbm, 481, rfl⟩
abbrev main_call1_call3_call0_v154 : Ref sig .tc := ⟨.hbm, 482, rfl⟩
abbrev main_call1_call3_call0_v155 : Ref sig .tc := ⟨.hbm, 483, rfl⟩
abbrev main_call1_call3_call0_v156 : Ref sig .tc := ⟨.hbm, 484, rfl⟩
abbrev main_call1_call3_call0_c_40 : Ref sig .tc := ⟨.hbm, 485, rfl⟩
abbrev main_call1_call3_call0_v157 : Ref sig .tc := ⟨.hbm, 486, rfl⟩
abbrev main_call1_call3_call0_v158 : Ref sig .tc := ⟨.hbm, 487, rfl⟩
abbrev main_call1_call3_call0_c_41 : Ref sig .tc := ⟨.hbm, 488, rfl⟩
abbrev main_call1_call3_call0_v159 : Ref sig .tc := ⟨.hbm, 489, rfl⟩
abbrev main_call1_call3_call0_v160 : Ref sig .tc := ⟨.hbm, 490, rfl⟩
abbrev main_call1_call3_call0_v161 : Ref sig .tc := ⟨.hbm, 491, rfl⟩
abbrev main_call1_call3_call0_v162 : Ref sig .tc := ⟨.hbm, 492, rfl⟩
abbrev main_call1_call3_call0_v163 : Ref sig .tc := ⟨.hbm, 493, rfl⟩
abbrev main_call1_call3_call0_c_42 : Ref sig .tc := ⟨.hbm, 494, rfl⟩
abbrev main_call1_call3_call0_v164 : Ref sig .tc := ⟨.hbm, 495, rfl⟩
abbrev main_call1_call3_call0_v165 : Ref sig .tc := ⟨.hbm, 496, rfl⟩
abbrev main_call1_call3_call0_c_43 : Ref sig .tc := ⟨.hbm, 497, rfl⟩
abbrev main_call1_call3_call0_v166 : Ref sig .tc := ⟨.hbm, 498, rfl⟩
abbrev main_call1_call3_call0_v167 : Ref sig .tc := ⟨.hbm, 499, rfl⟩
abbrev main_call1_call3_call0_v168 : Ref sig .tc := ⟨.hbm, 500, rfl⟩
abbrev main_call1_call3_call0_v169 : Ref sig .tc := ⟨.hbm, 501, rfl⟩
abbrev main_call1_call3_call0_v170 : Ref sig .tc := ⟨.hbm, 502, rfl⟩
abbrev main_call1_call3_v11_0 : Ref sig .tc := ⟨.hbm, 503, rfl⟩
abbrev main_call1_call3_call0_v172 : Ref sig .tc := ⟨.hbm, 504, rfl⟩
abbrev main_call1_call3_call0_v173 : Ref sig .tc := ⟨.hbm, 505, rfl⟩
abbrev main_call1_call3_call0_c_44 : Ref sig .tc := ⟨.hbm, 506, rfl⟩
abbrev main_call1_call3_call0_v174 : Ref sig .tc := ⟨.hbm, 507, rfl⟩
abbrev main_call1_call3_v11_1 : Ref sig .tc := ⟨.hbm, 508, rfl⟩
abbrev main_call1_call3_v12 : Ref sig .tc := ⟨.hbm, 509, rfl⟩
abbrev main_call1_call3_v13 : Ref sig .tc := ⟨.hbm, 510, rfl⟩
abbrev main_call1_v8 : Ref sig .tc := ⟨.hbm, 511, rfl⟩
abbrev main_call1_v9 : Ref sig .tc := ⟨.hbm, 512, rfl⟩
abbrev main_call1_v10 : Ref sig .tc := ⟨.hbm, 513, rfl⟩
abbrev main_call1_v11 : Ref sig .tc := ⟨.hbm, 514, rfl⟩
abbrev main_call1_v12 : Ref sig .tc := ⟨.hbm, 515, rfl⟩
abbrev main_call1_v13 : Ref sig .tc := ⟨.hbm, 516, rfl⟩
abbrev main_call1_v14 : Ref sig .tc := ⟨.hbm, 517, rfl⟩
abbrev main_call1_v15 : Ref sig .tc := ⟨.hbm, 518, rfl⟩
abbrev main_call1_v16 : Ref sig .tc := ⟨.hbm, 519, rfl⟩
abbrev main_call1_v17 : Ref sig .tc := ⟨.hbm, 520, rfl⟩
abbrev main_call1_c_6 : Ref sig .tc := ⟨.hbm, 521, rfl⟩
abbrev main_call1_v18 : Ref sig .tc := ⟨.hbm, 522, rfl⟩
abbrev main_call1_v19 : Ref sig .tc := ⟨.hbm, 523, rfl⟩
abbrev main_call1_c_7 : Ref sig .tc := ⟨.hbm, 524, rfl⟩
abbrev main_call1_v20 : Ref sig .tc := ⟨.hbm, 525, rfl⟩
abbrev main_call1_v21 : Ref sig .tc := ⟨.hbm, 526, rfl⟩
abbrev main_call1_v22 : Ref sig .tc := ⟨.hbm, 527, rfl⟩
abbrev main_call1_v23 : Ref sig .tc := ⟨.hbm, 528, rfl⟩
abbrev main_call1_call4_v0 : Ref sig .tc := ⟨.hbm, 529, rfl⟩
abbrev main_call1_call4_c : Ref sig .tc := ⟨.hbm, 530, rfl⟩
abbrev main_call1_call4_v1 : Ref sig .tc := ⟨.hbm, 531, rfl⟩
abbrev main_call1_call4_v2 : Ref sig .tc := ⟨.hbm, 532, rfl⟩
abbrev main_call1_call4_v3 : Ref sig .tc := ⟨.hbm, 533, rfl⟩
abbrev main_call1_call4_v4 : Ref sig .tc := ⟨.hbm, 534, rfl⟩
abbrev main_call1_call4_v5 : Ref sig .tc := ⟨.hbm, 535, rfl⟩
abbrev main_call1_call4_v6 : Ref sig .tc := ⟨.hbm, 536, rfl⟩
abbrev main_call1_call4_c_0 : Ref sig .tc := ⟨.hbm, 537, rfl⟩
abbrev main_call1_call4_v7 : Ref sig .tc := ⟨.hbm, 538, rfl⟩
abbrev main_call1_call4_v8 : Ref sig .tc := ⟨.hbm, 539, rfl⟩
abbrev main_call1_call4_c_1 : Ref sig .tc := ⟨.hbm, 540, rfl⟩
abbrev main_call1_call4_v9 : Ref sig .tc := ⟨.hbm, 541, rfl⟩
abbrev main_call1_call4_v10 : Ref sig .tc := ⟨.hbm, 542, rfl⟩
abbrev main_call1_call4_v11 : Ref sig .tc := ⟨.hbm, 543, rfl⟩
abbrev main_call1_call4_v12 : Ref sig .tc := ⟨.hbm, 544, rfl⟩
abbrev main_call1_call4_v13 : Ref sig .tc := ⟨.hbm, 545, rfl⟩
abbrev main_call1_call4_c_2 : Ref sig .tc := ⟨.hbm, 546, rfl⟩
abbrev main_call1_call4_v14 : Ref sig .tc := ⟨.hbm, 547, rfl⟩
abbrev main_call1_call4_v15 : Ref sig .tc := ⟨.hbm, 548, rfl⟩
abbrev main_call1_call4_c_3 : Ref sig .tc := ⟨.hbm, 549, rfl⟩
abbrev main_call1_call4_v16 : Ref sig .tc := ⟨.hbm, 550, rfl⟩
abbrev main_call1_call4_v17 : Ref sig .tc := ⟨.hbm, 551, rfl⟩
abbrev main_call1_call4_v18 : Ref sig .tc := ⟨.hbm, 552, rfl⟩
abbrev main_call1_call4_v19 : Ref sig .tc := ⟨.hbm, 553, rfl⟩
abbrev main_call1_call4_v20 : Ref sig .tc := ⟨.hbm, 554, rfl⟩
abbrev main_call1_call4_c_4 : Ref sig .tc := ⟨.hbm, 555, rfl⟩
abbrev main_call1_call4_v21 : Ref sig .tc := ⟨.hbm, 556, rfl⟩
abbrev main_call1_call4_v22 : Ref sig .tc := ⟨.hbm, 557, rfl⟩
abbrev main_call1_call4_c_5 : Ref sig .tc := ⟨.hbm, 558, rfl⟩
abbrev main_call1_call4_v23 : Ref sig .tc := ⟨.hbm, 559, rfl⟩
abbrev main_call1_call4_v24 : Ref sig .tc := ⟨.hbm, 560, rfl⟩
abbrev main_call1_call4_v25 : Ref sig .tc := ⟨.hbm, 561, rfl⟩
abbrev main_call1_call4_v26 : Ref sig .tc := ⟨.hbm, 562, rfl⟩
abbrev main_call1_call4_v27 : Ref sig .tc := ⟨.hbm, 563, rfl⟩
abbrev main_call1_call4_c_6 : Ref sig .tc := ⟨.hbm, 564, rfl⟩
abbrev main_call1_call4_v28 : Ref sig .tc := ⟨.hbm, 565, rfl⟩
abbrev main_call1_call4_v29 : Ref sig .tc := ⟨.hbm, 566, rfl⟩
abbrev main_call1_call4_c_7 : Ref sig .tc := ⟨.hbm, 567, rfl⟩
abbrev main_call1_call4_v30 : Ref sig .tc := ⟨.hbm, 568, rfl⟩
abbrev main_call1_call4_v31 : Ref sig .tc := ⟨.hbm, 569, rfl⟩
abbrev main_call1_call4_v32 : Ref sig .tc := ⟨.hbm, 570, rfl⟩
abbrev main_call1_call4_v33 : Ref sig .tc := ⟨.hbm, 571, rfl⟩
abbrev main_call1_call4_v34 : Ref sig .tc := ⟨.hbm, 572, rfl⟩
abbrev main_call1_call4_v35 : Ref sig .tc := ⟨.hbm, 573, rfl⟩
abbrev main_call1_call4_v36 : Ref sig .tc := ⟨.hbm, 574, rfl⟩
abbrev main_call1_call4_v37 : Ref sig .tc := ⟨.hbm, 575, rfl⟩
abbrev main_call1_call4_c_8 : Ref sig .tc := ⟨.hbm, 576, rfl⟩
abbrev main_call1_call4_v38 : Ref sig .tc := ⟨.hbm, 577, rfl⟩
abbrev main_call1_call4_v39 : Ref sig .tc := ⟨.hbm, 578, rfl⟩
abbrev main_call1_call4_v40 : Ref sig .tc := ⟨.hbm, 579, rfl⟩
abbrev main_call1_call4_c_9 : Ref sig .tc := ⟨.hbm, 580, rfl⟩
abbrev main_call1_call4_v41 : Ref sig .tc := ⟨.hbm, 581, rfl⟩
abbrev main_call1_call4_v42 : Ref sig .tc := ⟨.hbm, 582, rfl⟩
abbrev main_call1_call4_c_10 : Ref sig .tc := ⟨.hbm, 583, rfl⟩
abbrev main_call1_call4_v43 : Ref sig .tc := ⟨.hbm, 584, rfl⟩
abbrev main_call1_call4_v44 : Ref sig .tc := ⟨.hbm, 585, rfl⟩
abbrev main_call1_call4_v45 : Ref sig .tc := ⟨.hbm, 586, rfl⟩
abbrev main_call1_call4_v46 : Ref sig .tc := ⟨.hbm, 587, rfl⟩
abbrev main_call1_call4_v47 : Ref sig .tc := ⟨.hbm, 588, rfl⟩
abbrev main_call1_call4_c_11 : Ref sig .tc := ⟨.hbm, 589, rfl⟩
abbrev main_call1_call4_v48 : Ref sig .tc := ⟨.hbm, 590, rfl⟩
abbrev main_call1_call4_v49 : Ref sig .tc := ⟨.hbm, 591, rfl⟩
abbrev main_call1_call4_c_12 : Ref sig .tc := ⟨.hbm, 592, rfl⟩
abbrev main_call1_call4_v50 : Ref sig .tc := ⟨.hbm, 593, rfl⟩
abbrev main_call1_call4_v51 : Ref sig .tc := ⟨.hbm, 594, rfl⟩
abbrev main_call1_call4_v52 : Ref sig .tc := ⟨.hbm, 595, rfl⟩
abbrev main_call1_call4_v53 : Ref sig .tc := ⟨.hbm, 596, rfl⟩
abbrev main_call1_call4_v54 : Ref sig .tc := ⟨.hbm, 597, rfl⟩
abbrev main_call1_call4_c_13 : Ref sig .tc := ⟨.hbm, 598, rfl⟩
abbrev main_call1_call4_v55 : Ref sig .tc := ⟨.hbm, 599, rfl⟩
abbrev main_call1_call4_v56 : Ref sig .tc := ⟨.hbm, 600, rfl⟩
abbrev main_call1_call4_c_14 : Ref sig .tc := ⟨.hbm, 601, rfl⟩
abbrev main_call1_call4_v57 : Ref sig .tc := ⟨.hbm, 602, rfl⟩
abbrev main_call1_call4_v58 : Ref sig .tc := ⟨.hbm, 603, rfl⟩
abbrev main_call1_call4_v59 : Ref sig .tc := ⟨.hbm, 604, rfl⟩
abbrev main_call1_call4_v60 : Ref sig .tc := ⟨.hbm, 605, rfl⟩
abbrev main_call1_call4_v61 : Ref sig .tc := ⟨.hbm, 606, rfl⟩
abbrev main_call1_call4_c_15 : Ref sig .tc := ⟨.hbm, 607, rfl⟩
abbrev main_call1_call4_v62 : Ref sig .tc := ⟨.hbm, 608, rfl⟩
abbrev main_call1_call4_v63 : Ref sig .tc := ⟨.hbm, 609, rfl⟩
abbrev main_call1_call4_c_16 : Ref sig .tc := ⟨.hbm, 610, rfl⟩
abbrev main_call1_call4_v64 : Ref sig .tc := ⟨.hbm, 611, rfl⟩
abbrev main_call1_call4_v65 : Ref sig .tc := ⟨.hbm, 612, rfl⟩
abbrev main_call1_call4_v66 : Ref sig .tc := ⟨.hbm, 613, rfl⟩
abbrev main_call1_call4_v67 : Ref sig .tc := ⟨.hbm, 614, rfl⟩
abbrev main_call1_call4_v68 : Ref sig .tc := ⟨.hbm, 615, rfl⟩
abbrev main_call1_call4_v69 : Ref sig .tc := ⟨.hbm, 616, rfl⟩
abbrev main_call1_call4_v70 : Ref sig .tc := ⟨.hbm, 617, rfl⟩
abbrev main_call1_call4_v71 : Ref sig .tc := ⟨.hbm, 618, rfl⟩
abbrev main_call1_call4_c_17 : Ref sig .tc := ⟨.hbm, 619, rfl⟩
abbrev main_call1_call4_v72 : Ref sig .tc := ⟨.hbm, 620, rfl⟩
abbrev main_call1_call4_v73 : Ref sig .tc := ⟨.hbm, 621, rfl⟩
abbrev main_call1_call4_v74 : Ref sig .tc := ⟨.hbm, 622, rfl⟩
abbrev main_call1_call4_c_18 : Ref sig .tc := ⟨.hbm, 623, rfl⟩
abbrev main_call1_call4_v75 : Ref sig .tc := ⟨.hbm, 624, rfl⟩
abbrev main_call1_call4_v76 : Ref sig .tc := ⟨.hbm, 625, rfl⟩
abbrev main_call1_call4_c_19 : Ref sig .tc := ⟨.hbm, 626, rfl⟩
abbrev main_call1_call4_v77 : Ref sig .tc := ⟨.hbm, 627, rfl⟩
abbrev main_call1_call4_v78 : Ref sig .tc := ⟨.hbm, 628, rfl⟩
abbrev main_call1_call4_v79 : Ref sig .tc := ⟨.hbm, 629, rfl⟩
abbrev main_call1_call4_v80 : Ref sig .tc := ⟨.hbm, 630, rfl⟩
abbrev main_call1_call4_v81 : Ref sig .tc := ⟨.hbm, 631, rfl⟩
abbrev main_call1_call4_c_20 : Ref sig .tc := ⟨.hbm, 632, rfl⟩
abbrev main_call1_call4_v82 : Ref sig .tc := ⟨.hbm, 633, rfl⟩
abbrev main_call1_call4_v83 : Ref sig .tc := ⟨.hbm, 634, rfl⟩
abbrev main_call1_call4_c_21 : Ref sig .tc := ⟨.hbm, 635, rfl⟩
abbrev main_call1_call4_v84 : Ref sig .tc := ⟨.hbm, 636, rfl⟩
abbrev main_call1_call4_v85 : Ref sig .tc := ⟨.hbm, 637, rfl⟩
abbrev main_call1_call4_v86 : Ref sig .tc := ⟨.hbm, 638, rfl⟩
abbrev main_call1_call4_v87 : Ref sig .tc := ⟨.hbm, 639, rfl⟩
abbrev main_call1_call4_v88 : Ref sig .tc := ⟨.hbm, 640, rfl⟩
abbrev main_call1_call4_c_22 : Ref sig .tc := ⟨.hbm, 641, rfl⟩
abbrev main_call1_call4_v89 : Ref sig .tc := ⟨.hbm, 642, rfl⟩
abbrev main_call1_call4_v90 : Ref sig .tc := ⟨.hbm, 643, rfl⟩
abbrev main_call1_call4_c_23 : Ref sig .tc := ⟨.hbm, 644, rfl⟩
abbrev main_call1_call4_v91 : Ref sig .tc := ⟨.hbm, 645, rfl⟩
abbrev main_call1_call4_v92 : Ref sig .tc := ⟨.hbm, 646, rfl⟩
abbrev main_call1_call4_v93 : Ref sig .tc := ⟨.hbm, 647, rfl⟩
abbrev main_call1_call4_v94 : Ref sig .tc := ⟨.hbm, 648, rfl⟩
abbrev main_call1_call4_v95 : Ref sig .tc := ⟨.hbm, 649, rfl⟩
abbrev main_call1_call4_c_24 : Ref sig .tc := ⟨.hbm, 650, rfl⟩
abbrev main_call1_call4_v96 : Ref sig .tc := ⟨.hbm, 651, rfl⟩
abbrev main_call1_call4_v97 : Ref sig .tc := ⟨.hbm, 652, rfl⟩
abbrev main_call1_call4_c_25 : Ref sig .tc := ⟨.hbm, 653, rfl⟩
abbrev main_call1_call4_v98 : Ref sig .tc := ⟨.hbm, 654, rfl⟩
abbrev main_call1_call4_v99 : Ref sig .tc := ⟨.hbm, 655, rfl⟩
abbrev main_call1_call4_v100 : Ref sig .tc := ⟨.hbm, 656, rfl⟩
abbrev main_call1_call4_v101 : Ref sig .tc := ⟨.hbm, 657, rfl⟩
abbrev main_call1_call4_v102 : Ref sig .tc := ⟨.hbm, 658, rfl⟩
abbrev main_call1_call4_v103 : Ref sig .tc := ⟨.hbm, 659, rfl⟩
abbrev main_call1_call4_v104 : Ref sig .tc := ⟨.hbm, 660, rfl⟩
abbrev main_call1_call4_v105 : Ref sig .tc := ⟨.hbm, 661, rfl⟩
abbrev main_call1_call4_c_26 : Ref sig .tc := ⟨.hbm, 662, rfl⟩
abbrev main_call1_call4_v106 : Ref sig .tc := ⟨.hbm, 663, rfl⟩
abbrev main_call1_call4_v107 : Ref sig .tc := ⟨.hbm, 664, rfl⟩
abbrev main_call1_call4_v108 : Ref sig .tc := ⟨.hbm, 665, rfl⟩
abbrev main_call1_call4_c_27 : Ref sig .tc := ⟨.hbm, 666, rfl⟩
abbrev main_call1_call4_v109 : Ref sig .tc := ⟨.hbm, 667, rfl⟩
abbrev main_call1_call4_v110 : Ref sig .tc := ⟨.hbm, 668, rfl⟩
abbrev main_call1_call4_c_28 : Ref sig .tc := ⟨.hbm, 669, rfl⟩
abbrev main_call1_call4_v111 : Ref sig .tc := ⟨.hbm, 670, rfl⟩
abbrev main_call1_call4_v112 : Ref sig .tc := ⟨.hbm, 671, rfl⟩
abbrev main_call1_call4_v113 : Ref sig .tc := ⟨.hbm, 672, rfl⟩
abbrev main_call1_call4_v114 : Ref sig .tc := ⟨.hbm, 673, rfl⟩
abbrev main_call1_call4_v115 : Ref sig .tc := ⟨.hbm, 674, rfl⟩
abbrev main_call1_call4_c_29 : Ref sig .tc := ⟨.hbm, 675, rfl⟩
abbrev main_call1_call4_v116 : Ref sig .tc := ⟨.hbm, 676, rfl⟩
abbrev main_call1_call4_v117 : Ref sig .tc := ⟨.hbm, 677, rfl⟩
abbrev main_call1_call4_c_30 : Ref sig .tc := ⟨.hbm, 678, rfl⟩
abbrev main_call1_call4_v118 : Ref sig .tc := ⟨.hbm, 679, rfl⟩
abbrev main_call1_call4_v119 : Ref sig .tc := ⟨.hbm, 680, rfl⟩
abbrev main_call1_call4_v120 : Ref sig .tc := ⟨.hbm, 681, rfl⟩
abbrev main_call1_call4_v121 : Ref sig .tc := ⟨.hbm, 682, rfl⟩
abbrev main_call1_call4_v122 : Ref sig .tc := ⟨.hbm, 683, rfl⟩
abbrev main_call1_call4_c_31 : Ref sig .tc := ⟨.hbm, 684, rfl⟩
abbrev main_call1_call4_v123 : Ref sig .tc := ⟨.hbm, 685, rfl⟩
abbrev main_call1_call4_v124 : Ref sig .tc := ⟨.hbm, 686, rfl⟩
abbrev main_call1_call4_c_32 : Ref sig .tc := ⟨.hbm, 687, rfl⟩
abbrev main_call1_call4_v125 : Ref sig .tc := ⟨.hbm, 688, rfl⟩
abbrev main_call1_call4_v126 : Ref sig .tc := ⟨.hbm, 689, rfl⟩
abbrev main_call1_call4_v127 : Ref sig .tc := ⟨.hbm, 690, rfl⟩
abbrev main_call1_call4_v128 : Ref sig .tc := ⟨.hbm, 691, rfl⟩
abbrev main_call1_call4_v129 : Ref sig .tc := ⟨.hbm, 692, rfl⟩
abbrev main_call1_call4_c_33 : Ref sig .tc := ⟨.hbm, 693, rfl⟩
abbrev main_call1_call4_v130 : Ref sig .tc := ⟨.hbm, 694, rfl⟩
abbrev main_call1_call4_v131 : Ref sig .tc := ⟨.hbm, 695, rfl⟩
abbrev main_call1_call4_c_34 : Ref sig .tc := ⟨.hbm, 696, rfl⟩
abbrev main_call1_call4_v132 : Ref sig .tc := ⟨.hbm, 697, rfl⟩
abbrev main_call1_call4_v133 : Ref sig .tc := ⟨.hbm, 698, rfl⟩
abbrev main_call1_call4_v134 : Ref sig .tc := ⟨.hbm, 699, rfl⟩
abbrev main_call1_call4_v135 : Ref sig .tc := ⟨.hbm, 700, rfl⟩
abbrev main_call1_call4_v136 : Ref sig .tc := ⟨.hbm, 701, rfl⟩
abbrev main_call1_call4_v137 : Ref sig .tc := ⟨.hbm, 702, rfl⟩
abbrev main_call1_call4_v138 : Ref sig .tc := ⟨.hbm, 703, rfl⟩
abbrev main_call1_call4_v139 : Ref sig .tc := ⟨.hbm, 704, rfl⟩
abbrev main_call1_call4_c_35 : Ref sig .tc := ⟨.hbm, 705, rfl⟩
abbrev main_call1_call4_v140 : Ref sig .tc := ⟨.hbm, 706, rfl⟩
abbrev main_call1_call4_v141 : Ref sig .tc := ⟨.hbm, 707, rfl⟩
abbrev main_call1_call4_v142 : Ref sig .tc := ⟨.hbm, 708, rfl⟩
abbrev main_call1_call4_c_36 : Ref sig .tc := ⟨.hbm, 709, rfl⟩
abbrev main_call1_call4_v143 : Ref sig .tc := ⟨.hbm, 710, rfl⟩
abbrev main_call1_call4_v144 : Ref sig .tc := ⟨.hbm, 711, rfl⟩
abbrev main_call1_call4_c_37 : Ref sig .tc := ⟨.hbm, 712, rfl⟩
abbrev main_call1_call4_v145 : Ref sig .tc := ⟨.hbm, 713, rfl⟩
abbrev main_call1_call4_v146 : Ref sig .tc := ⟨.hbm, 714, rfl⟩
abbrev main_call1_call4_v147 : Ref sig .tc := ⟨.hbm, 715, rfl⟩
abbrev main_call1_call4_v148 : Ref sig .tc := ⟨.hbm, 716, rfl⟩
abbrev main_call1_call4_v149 : Ref sig .tc := ⟨.hbm, 717, rfl⟩
abbrev main_call1_call4_c_38 : Ref sig .tc := ⟨.hbm, 718, rfl⟩
abbrev main_call1_call4_v150 : Ref sig .tc := ⟨.hbm, 719, rfl⟩
abbrev main_call1_call4_v151 : Ref sig .tc := ⟨.hbm, 720, rfl⟩
abbrev main_call1_call4_c_39 : Ref sig .tc := ⟨.hbm, 721, rfl⟩
abbrev main_call1_call4_v152 : Ref sig .tc := ⟨.hbm, 722, rfl⟩
abbrev main_call1_call4_v153 : Ref sig .tc := ⟨.hbm, 723, rfl⟩
abbrev main_call1_call4_v154 : Ref sig .tc := ⟨.hbm, 724, rfl⟩
abbrev main_call1_call4_v155 : Ref sig .tc := ⟨.hbm, 725, rfl⟩
abbrev main_call1_call4_v156 : Ref sig .tc := ⟨.hbm, 726, rfl⟩
abbrev main_call1_call4_c_40 : Ref sig .tc := ⟨.hbm, 727, rfl⟩
abbrev main_call1_call4_v157 : Ref sig .tc := ⟨.hbm, 728, rfl⟩
abbrev main_call1_call4_v158 : Ref sig .tc := ⟨.hbm, 729, rfl⟩
abbrev main_call1_call4_c_41 : Ref sig .tc := ⟨.hbm, 730, rfl⟩
abbrev main_call1_call4_v159 : Ref sig .tc := ⟨.hbm, 731, rfl⟩
abbrev main_call1_call4_v160 : Ref sig .tc := ⟨.hbm, 732, rfl⟩
abbrev main_call1_call4_v161 : Ref sig .tc := ⟨.hbm, 733, rfl⟩
abbrev main_call1_call4_v162 : Ref sig .tc := ⟨.hbm, 734, rfl⟩
abbrev main_call1_call4_v163 : Ref sig .tc := ⟨.hbm, 735, rfl⟩
abbrev main_call1_call4_c_42 : Ref sig .tc := ⟨.hbm, 736, rfl⟩
abbrev main_call1_call4_v164 : Ref sig .tc := ⟨.hbm, 737, rfl⟩
abbrev main_call1_call4_v165 : Ref sig .tc := ⟨.hbm, 738, rfl⟩
abbrev main_call1_call4_c_43 : Ref sig .tc := ⟨.hbm, 739, rfl⟩
abbrev main_call1_call4_v166 : Ref sig .tc := ⟨.hbm, 740, rfl⟩
abbrev main_call1_call4_v167 : Ref sig .tc := ⟨.hbm, 741, rfl⟩
abbrev main_call1_call4_v168 : Ref sig .tc := ⟨.hbm, 742, rfl⟩
abbrev main_call1_call4_v169 : Ref sig .tc := ⟨.hbm, 743, rfl⟩
abbrev main_call1_call4_v170 : Ref sig .tc := ⟨.hbm, 744, rfl⟩
abbrev main_call1_v24_0 : Ref sig .tc := ⟨.hbm, 745, rfl⟩
abbrev main_call1_call4_v172 : Ref sig .tc := ⟨.hbm, 746, rfl⟩
abbrev main_call1_call4_v173 : Ref sig .tc := ⟨.hbm, 747, rfl⟩
abbrev main_call1_call4_c_44 : Ref sig .tc := ⟨.hbm, 748, rfl⟩
abbrev main_call1_call4_v174 : Ref sig .tc := ⟨.hbm, 749, rfl⟩
abbrev main_call1_v24_1 : Ref sig .tc := ⟨.hbm, 750, rfl⟩
abbrev main_call1_v25 : Ref sig .tc := ⟨.hbm, 751, rfl⟩
abbrev main_call1_v26 : Ref sig .tc := ⟨.hbm, 752, rfl⟩
abbrev main_call1_v27 : Ref sig .tc := ⟨.hbm, 753, rfl⟩
abbrev main_call1_v28 : Ref sig .tc := ⟨.hbm, 754, rfl⟩
abbrev main_call1_v29 : Ref sig .tc := ⟨.hbm, 755, rfl⟩
abbrev main_call1_v30 : Ref sig .tc := ⟨.hbm, 756, rfl⟩
abbrev main_call1_c_8 : Ref sig .tc := ⟨.hbm, 757, rfl⟩
abbrev main_call1_v31 : Ref sig .tc := ⟨.hbm, 758, rfl⟩
abbrev main_call1_v32 : Ref sig .tc := ⟨.hbm, 759, rfl⟩
abbrev main_call1_c_9 : Ref sig .tc := ⟨.hbm, 760, rfl⟩
abbrev main_call1_v33 : Ref sig .tc := ⟨.hbm, 761, rfl⟩
abbrev main_call1_v34 : Ref sig .tc := ⟨.hbm, 762, rfl⟩
abbrev main_call1_v35 : Ref sig .tc := ⟨.hbm, 763, rfl⟩
abbrev main_call1_v36 : Ref sig .tc := ⟨.hbm, 764, rfl⟩
abbrev main_call1_call5_v0 : Ref sig .tc := ⟨.hbm, 765, rfl⟩
abbrev main_call1_call5_c : Ref sig .tc := ⟨.hbm, 766, rfl⟩
abbrev main_call1_call5_v1 : Ref sig .tc := ⟨.hbm, 767, rfl⟩
abbrev main_call1_call5_v2 : Ref sig .tc := ⟨.hbm, 768, rfl⟩
abbrev main_call1_call5_v3 : Ref sig .tc := ⟨.hbm, 769, rfl⟩
abbrev main_call1_call5_v4 : Ref sig .tc := ⟨.hbm, 770, rfl⟩
abbrev main_call1_call5_v5 : Ref sig .tc := ⟨.hbm, 771, rfl⟩
abbrev main_call1_call5_v6 : Ref sig .tc := ⟨.hbm, 772, rfl⟩
abbrev main_call1_call5_c_0 : Ref sig .tc := ⟨.hbm, 773, rfl⟩
abbrev main_call1_call5_v7 : Ref sig .tc := ⟨.hbm, 774, rfl⟩
abbrev main_call1_call5_v8 : Ref sig .tc := ⟨.hbm, 775, rfl⟩
abbrev main_call1_call5_c_1 : Ref sig .tc := ⟨.hbm, 776, rfl⟩
abbrev main_call1_call5_v9 : Ref sig .tc := ⟨.hbm, 777, rfl⟩
abbrev main_call1_call5_v10 : Ref sig .tc := ⟨.hbm, 778, rfl⟩
abbrev main_call1_call5_v11 : Ref sig .tc := ⟨.hbm, 779, rfl⟩
abbrev main_call1_call5_v12 : Ref sig .tc := ⟨.hbm, 780, rfl⟩
abbrev main_call1_call5_v13 : Ref sig .tc := ⟨.hbm, 781, rfl⟩
abbrev main_call1_call5_c_2 : Ref sig .tc := ⟨.hbm, 782, rfl⟩
abbrev main_call1_call5_v14 : Ref sig .tc := ⟨.hbm, 783, rfl⟩
abbrev main_call1_call5_v15 : Ref sig .tc := ⟨.hbm, 784, rfl⟩
abbrev main_call1_call5_c_3 : Ref sig .tc := ⟨.hbm, 785, rfl⟩
abbrev main_call1_call5_v16 : Ref sig .tc := ⟨.hbm, 786, rfl⟩
abbrev main_call1_call5_v17 : Ref sig .tc := ⟨.hbm, 787, rfl⟩
abbrev main_call1_call5_v18 : Ref sig .tc := ⟨.hbm, 788, rfl⟩
abbrev main_call1_call5_v19 : Ref sig .tc := ⟨.hbm, 789, rfl⟩
abbrev main_call1_call5_v20 : Ref sig .tc := ⟨.hbm, 790, rfl⟩
abbrev main_call1_call5_c_4 : Ref sig .tc := ⟨.hbm, 791, rfl⟩
abbrev main_call1_call5_v21 : Ref sig .tc := ⟨.hbm, 792, rfl⟩
abbrev main_call1_call5_v22 : Ref sig .tc := ⟨.hbm, 793, rfl⟩
abbrev main_call1_call5_c_5 : Ref sig .tc := ⟨.hbm, 794, rfl⟩
abbrev main_call1_call5_v23 : Ref sig .tc := ⟨.hbm, 795, rfl⟩
abbrev main_call1_call5_v24 : Ref sig .tc := ⟨.hbm, 796, rfl⟩
abbrev main_call1_call5_v25 : Ref sig .tc := ⟨.hbm, 797, rfl⟩
abbrev main_call1_call5_v26 : Ref sig .tc := ⟨.hbm, 798, rfl⟩
abbrev main_call1_call5_v27 : Ref sig .tc := ⟨.hbm, 799, rfl⟩
abbrev main_call1_call5_c_6 : Ref sig .tc := ⟨.hbm, 800, rfl⟩
abbrev main_call1_call5_v28 : Ref sig .tc := ⟨.hbm, 801, rfl⟩
abbrev main_call1_call5_v29 : Ref sig .tc := ⟨.hbm, 802, rfl⟩
abbrev main_call1_call5_c_7 : Ref sig .tc := ⟨.hbm, 803, rfl⟩
abbrev main_call1_call5_v30 : Ref sig .tc := ⟨.hbm, 804, rfl⟩
abbrev main_call1_call5_v31 : Ref sig .tc := ⟨.hbm, 805, rfl⟩
abbrev main_call1_call5_v32 : Ref sig .tc := ⟨.hbm, 806, rfl⟩
abbrev main_call1_call5_v33 : Ref sig .tc := ⟨.hbm, 807, rfl⟩
abbrev main_call1_call5_v34 : Ref sig .tc := ⟨.hbm, 808, rfl⟩
abbrev main_call1_call5_v35 : Ref sig .tc := ⟨.hbm, 809, rfl⟩
abbrev main_call1_call5_v36 : Ref sig .tc := ⟨.hbm, 810, rfl⟩
abbrev main_call1_call5_v37 : Ref sig .tc := ⟨.hbm, 811, rfl⟩
abbrev main_call1_call5_c_8 : Ref sig .tc := ⟨.hbm, 812, rfl⟩
abbrev main_call1_call5_v38 : Ref sig .tc := ⟨.hbm, 813, rfl⟩
abbrev main_call1_call5_v39 : Ref sig .tc := ⟨.hbm, 814, rfl⟩
abbrev main_call1_call5_v40 : Ref sig .tc := ⟨.hbm, 815, rfl⟩
abbrev main_call1_call5_c_9 : Ref sig .tc := ⟨.hbm, 816, rfl⟩
abbrev main_call1_call5_v41 : Ref sig .tc := ⟨.hbm, 817, rfl⟩
abbrev main_call1_call5_v42 : Ref sig .tc := ⟨.hbm, 818, rfl⟩
abbrev main_call1_call5_c_10 : Ref sig .tc := ⟨.hbm, 819, rfl⟩
abbrev main_call1_call5_v43 : Ref sig .tc := ⟨.hbm, 820, rfl⟩
abbrev main_call1_call5_v44 : Ref sig .tc := ⟨.hbm, 821, rfl⟩
abbrev main_call1_call5_v45 : Ref sig .tc := ⟨.hbm, 822, rfl⟩
abbrev main_call1_call5_v46 : Ref sig .tc := ⟨.hbm, 823, rfl⟩
abbrev main_call1_call5_v47 : Ref sig .tc := ⟨.hbm, 824, rfl⟩
abbrev main_call1_call5_c_11 : Ref sig .tc := ⟨.hbm, 825, rfl⟩
abbrev main_call1_call5_v48 : Ref sig .tc := ⟨.hbm, 826, rfl⟩
abbrev main_call1_call5_v49 : Ref sig .tc := ⟨.hbm, 827, rfl⟩
abbrev main_call1_call5_c_12 : Ref sig .tc := ⟨.hbm, 828, rfl⟩
abbrev main_call1_call5_v50 : Ref sig .tc := ⟨.hbm, 829, rfl⟩
abbrev main_call1_call5_v51 : Ref sig .tc := ⟨.hbm, 830, rfl⟩
abbrev main_call1_call5_v52 : Ref sig .tc := ⟨.hbm, 831, rfl⟩
abbrev main_call1_call5_v53 : Ref sig .tc := ⟨.hbm, 832, rfl⟩
abbrev main_call1_call5_v54 : Ref sig .tc := ⟨.hbm, 833, rfl⟩
abbrev main_call1_call5_c_13 : Ref sig .tc := ⟨.hbm, 834, rfl⟩
abbrev main_call1_call5_v55 : Ref sig .tc := ⟨.hbm, 835, rfl⟩
abbrev main_call1_call5_v56 : Ref sig .tc := ⟨.hbm, 836, rfl⟩
abbrev main_call1_call5_c_14 : Ref sig .tc := ⟨.hbm, 837, rfl⟩
abbrev main_call1_call5_v57 : Ref sig .tc := ⟨.hbm, 838, rfl⟩
abbrev main_call1_call5_v58 : Ref sig .tc := ⟨.hbm, 839, rfl⟩
abbrev main_call1_call5_v59 : Ref sig .tc := ⟨.hbm, 840, rfl⟩
abbrev main_call1_call5_v60 : Ref sig .tc := ⟨.hbm, 841, rfl⟩
abbrev main_call1_call5_v61 : Ref sig .tc := ⟨.hbm, 842, rfl⟩
abbrev main_call1_call5_c_15 : Ref sig .tc := ⟨.hbm, 843, rfl⟩
abbrev main_call1_call5_v62 : Ref sig .tc := ⟨.hbm, 844, rfl⟩
abbrev main_call1_call5_v63 : Ref sig .tc := ⟨.hbm, 845, rfl⟩
abbrev main_call1_call5_c_16 : Ref sig .tc := ⟨.hbm, 846, rfl⟩
abbrev main_call1_call5_v64 : Ref sig .tc := ⟨.hbm, 847, rfl⟩
abbrev main_call1_call5_v65 : Ref sig .tc := ⟨.hbm, 848, rfl⟩
abbrev main_call1_call5_v66 : Ref sig .tc := ⟨.hbm, 849, rfl⟩
abbrev main_call1_call5_v67 : Ref sig .tc := ⟨.hbm, 850, rfl⟩
abbrev main_call1_call5_v68 : Ref sig .tc := ⟨.hbm, 851, rfl⟩
abbrev main_call1_call5_v69 : Ref sig .tc := ⟨.hbm, 852, rfl⟩
abbrev main_call1_call5_v70 : Ref sig .tc := ⟨.hbm, 853, rfl⟩
abbrev main_call1_call5_v71 : Ref sig .tc := ⟨.hbm, 854, rfl⟩
abbrev main_call1_call5_c_17 : Ref sig .tc := ⟨.hbm, 855, rfl⟩
abbrev main_call1_call5_v72 : Ref sig .tc := ⟨.hbm, 856, rfl⟩
abbrev main_call1_call5_v73 : Ref sig .tc := ⟨.hbm, 857, rfl⟩
abbrev main_call1_call5_v74 : Ref sig .tc := ⟨.hbm, 858, rfl⟩
abbrev main_call1_call5_c_18 : Ref sig .tc := ⟨.hbm, 859, rfl⟩
abbrev main_call1_call5_v75 : Ref sig .tc := ⟨.hbm, 860, rfl⟩
abbrev main_call1_call5_v76 : Ref sig .tc := ⟨.hbm, 861, rfl⟩
abbrev main_call1_call5_c_19 : Ref sig .tc := ⟨.hbm, 862, rfl⟩
abbrev main_call1_call5_v77 : Ref sig .tc := ⟨.hbm, 863, rfl⟩
abbrev main_call1_call5_v78 : Ref sig .tc := ⟨.hbm, 864, rfl⟩
abbrev main_call1_call5_v79 : Ref sig .tc := ⟨.hbm, 865, rfl⟩
abbrev main_call1_call5_v80 : Ref sig .tc := ⟨.hbm, 866, rfl⟩
abbrev main_call1_call5_v81 : Ref sig .tc := ⟨.hbm, 867, rfl⟩
abbrev main_call1_call5_c_20 : Ref sig .tc := ⟨.hbm, 868, rfl⟩
abbrev main_call1_call5_v82 : Ref sig .tc := ⟨.hbm, 869, rfl⟩
abbrev main_call1_call5_v83 : Ref sig .tc := ⟨.hbm, 870, rfl⟩
abbrev main_call1_call5_c_21 : Ref sig .tc := ⟨.hbm, 871, rfl⟩
abbrev main_call1_call5_v84 : Ref sig .tc := ⟨.hbm, 872, rfl⟩
abbrev main_call1_call5_v85 : Ref sig .tc := ⟨.hbm, 873, rfl⟩
abbrev main_call1_call5_v86 : Ref sig .tc := ⟨.hbm, 874, rfl⟩
abbrev main_call1_call5_v87 : Ref sig .tc := ⟨.hbm, 875, rfl⟩
abbrev main_call1_call5_v88 : Ref sig .tc := ⟨.hbm, 876, rfl⟩
abbrev main_call1_call5_c_22 : Ref sig .tc := ⟨.hbm, 877, rfl⟩
abbrev main_call1_call5_v89 : Ref sig .tc := ⟨.hbm, 878, rfl⟩
abbrev main_call1_call5_v90 : Ref sig .tc := ⟨.hbm, 879, rfl⟩
abbrev main_call1_call5_c_23 : Ref sig .tc := ⟨.hbm, 880, rfl⟩
abbrev main_call1_call5_v91 : Ref sig .tc := ⟨.hbm, 881, rfl⟩
abbrev main_call1_call5_v92 : Ref sig .tc := ⟨.hbm, 882, rfl⟩
abbrev main_call1_call5_v93 : Ref sig .tc := ⟨.hbm, 883, rfl⟩
abbrev main_call1_call5_v94 : Ref sig .tc := ⟨.hbm, 884, rfl⟩
abbrev main_call1_call5_v95 : Ref sig .tc := ⟨.hbm, 885, rfl⟩
abbrev main_call1_call5_c_24 : Ref sig .tc := ⟨.hbm, 886, rfl⟩
abbrev main_call1_call5_v96 : Ref sig .tc := ⟨.hbm, 887, rfl⟩
abbrev main_call1_call5_v97 : Ref sig .tc := ⟨.hbm, 888, rfl⟩
abbrev main_call1_call5_c_25 : Ref sig .tc := ⟨.hbm, 889, rfl⟩
abbrev main_call1_call5_v98 : Ref sig .tc := ⟨.hbm, 890, rfl⟩
abbrev main_call1_call5_v99 : Ref sig .tc := ⟨.hbm, 891, rfl⟩
abbrev main_call1_call5_v100 : Ref sig .tc := ⟨.hbm, 892, rfl⟩
abbrev main_call1_call5_v101 : Ref sig .tc := ⟨.hbm, 893, rfl⟩
abbrev main_call1_call5_v102 : Ref sig .tc := ⟨.hbm, 894, rfl⟩
abbrev main_call1_call5_v103 : Ref sig .tc := ⟨.hbm, 895, rfl⟩
abbrev main_call1_call5_v104 : Ref sig .tc := ⟨.hbm, 896, rfl⟩
abbrev main_call1_call5_v105 : Ref sig .tc := ⟨.hbm, 897, rfl⟩
abbrev main_call1_call5_c_26 : Ref sig .tc := ⟨.hbm, 898, rfl⟩
abbrev main_call1_call5_v106 : Ref sig .tc := ⟨.hbm, 899, rfl⟩
abbrev main_call1_call5_v107 : Ref sig .tc := ⟨.hbm, 900, rfl⟩
abbrev main_call1_call5_v108 : Ref sig .tc := ⟨.hbm, 901, rfl⟩
abbrev main_call1_call5_c_27 : Ref sig .tc := ⟨.hbm, 902, rfl⟩
abbrev main_call1_call5_v109 : Ref sig .tc := ⟨.hbm, 903, rfl⟩
abbrev main_call1_call5_v110 : Ref sig .tc := ⟨.hbm, 904, rfl⟩
abbrev main_call1_call5_c_28 : Ref sig .tc := ⟨.hbm, 905, rfl⟩
abbrev main_call1_call5_v111 : Ref sig .tc := ⟨.hbm, 906, rfl⟩
abbrev main_call1_call5_v112 : Ref sig .tc := ⟨.hbm, 907, rfl⟩
abbrev main_call1_call5_v113 : Ref sig .tc := ⟨.hbm, 908, rfl⟩
abbrev main_call1_call5_v114 : Ref sig .tc := ⟨.hbm, 909, rfl⟩
abbrev main_call1_call5_v115 : Ref sig .tc := ⟨.hbm, 910, rfl⟩
abbrev main_call1_call5_c_29 : Ref sig .tc := ⟨.hbm, 911, rfl⟩
abbrev main_call1_call5_v116 : Ref sig .tc := ⟨.hbm, 912, rfl⟩
abbrev main_call1_call5_v117 : Ref sig .tc := ⟨.hbm, 913, rfl⟩
abbrev main_call1_call5_c_30 : Ref sig .tc := ⟨.hbm, 914, rfl⟩
abbrev main_call1_call5_v118 : Ref sig .tc := ⟨.hbm, 915, rfl⟩
abbrev main_call1_call5_v119 : Ref sig .tc := ⟨.hbm, 916, rfl⟩
abbrev main_call1_call5_v120 : Ref sig .tc := ⟨.hbm, 917, rfl⟩
abbrev main_call1_call5_v121 : Ref sig .tc := ⟨.hbm, 918, rfl⟩
abbrev main_call1_call5_v122 : Ref sig .tc := ⟨.hbm, 919, rfl⟩
abbrev main_call1_call5_c_31 : Ref sig .tc := ⟨.hbm, 920, rfl⟩
abbrev main_call1_call5_v123 : Ref sig .tc := ⟨.hbm, 921, rfl⟩
abbrev main_call1_call5_v124 : Ref sig .tc := ⟨.hbm, 922, rfl⟩
abbrev main_call1_call5_c_32 : Ref sig .tc := ⟨.hbm, 923, rfl⟩
abbrev main_call1_call5_v125 : Ref sig .tc := ⟨.hbm, 924, rfl⟩
abbrev main_call1_call5_v126 : Ref sig .tc := ⟨.hbm, 925, rfl⟩
abbrev main_call1_call5_v127 : Ref sig .tc := ⟨.hbm, 926, rfl⟩
abbrev main_call1_call5_v128 : Ref sig .tc := ⟨.hbm, 927, rfl⟩
abbrev main_call1_call5_v129 : Ref sig .tc := ⟨.hbm, 928, rfl⟩
abbrev main_call1_call5_c_33 : Ref sig .tc := ⟨.hbm, 929, rfl⟩
abbrev main_call1_call5_v130 : Ref sig .tc := ⟨.hbm, 930, rfl⟩
abbrev main_call1_call5_v131 : Ref sig .tc := ⟨.hbm, 931, rfl⟩
abbrev main_call1_call5_c_34 : Ref sig .tc := ⟨.hbm, 932, rfl⟩
abbrev main_call1_call5_v132 : Ref sig .tc := ⟨.hbm, 933, rfl⟩
abbrev main_call1_call5_v133 : Ref sig .tc := ⟨.hbm, 934, rfl⟩
abbrev main_call1_call5_v134 : Ref sig .tc := ⟨.hbm, 935, rfl⟩
abbrev main_call1_call5_v135 : Ref sig .tc := ⟨.hbm, 936, rfl⟩
abbrev main_call1_call5_v136 : Ref sig .tc := ⟨.hbm, 937, rfl⟩
abbrev main_call1_call5_v137 : Ref sig .tc := ⟨.hbm, 938, rfl⟩
abbrev main_call1_call5_v138 : Ref sig .tc := ⟨.hbm, 939, rfl⟩
abbrev main_call1_call5_v139 : Ref sig .tc := ⟨.hbm, 940, rfl⟩
abbrev main_call1_call5_c_35 : Ref sig .tc := ⟨.hbm, 941, rfl⟩
abbrev main_call1_call5_v140 : Ref sig .tc := ⟨.hbm, 942, rfl⟩
abbrev main_call1_call5_v141 : Ref sig .tc := ⟨.hbm, 943, rfl⟩
abbrev main_call1_call5_v142 : Ref sig .tc := ⟨.hbm, 944, rfl⟩
abbrev main_call1_call5_c_36 : Ref sig .tc := ⟨.hbm, 945, rfl⟩
abbrev main_call1_call5_v143 : Ref sig .tc := ⟨.hbm, 946, rfl⟩
abbrev main_call1_call5_v144 : Ref sig .tc := ⟨.hbm, 947, rfl⟩
abbrev main_call1_call5_c_37 : Ref sig .tc := ⟨.hbm, 948, rfl⟩
abbrev main_call1_call5_v145 : Ref sig .tc := ⟨.hbm, 949, rfl⟩
abbrev main_call1_call5_v146 : Ref sig .tc := ⟨.hbm, 950, rfl⟩
abbrev main_call1_call5_v147 : Ref sig .tc := ⟨.hbm, 951, rfl⟩
abbrev main_call1_call5_v148 : Ref sig .tc := ⟨.hbm, 952, rfl⟩
abbrev main_call1_call5_v149 : Ref sig .tc := ⟨.hbm, 953, rfl⟩
abbrev main_call1_call5_c_38 : Ref sig .tc := ⟨.hbm, 954, rfl⟩
abbrev main_call1_call5_v150 : Ref sig .tc := ⟨.hbm, 955, rfl⟩
abbrev main_call1_call5_v151 : Ref sig .tc := ⟨.hbm, 956, rfl⟩
abbrev main_call1_call5_c_39 : Ref sig .tc := ⟨.hbm, 957, rfl⟩
abbrev main_call1_call5_v152 : Ref sig .tc := ⟨.hbm, 958, rfl⟩
abbrev main_call1_call5_v153 : Ref sig .tc := ⟨.hbm, 959, rfl⟩
abbrev main_call1_call5_v154 : Ref sig .tc := ⟨.hbm, 960, rfl⟩
abbrev main_call1_call5_v155 : Ref sig .tc := ⟨.hbm, 961, rfl⟩
abbrev main_call1_call5_v156 : Ref sig .tc := ⟨.hbm, 962, rfl⟩
abbrev main_call1_call5_c_40 : Ref sig .tc := ⟨.hbm, 963, rfl⟩
abbrev main_call1_call5_v157 : Ref sig .tc := ⟨.hbm, 964, rfl⟩
abbrev main_call1_call5_v158 : Ref sig .tc := ⟨.hbm, 965, rfl⟩
abbrev main_call1_call5_c_41 : Ref sig .tc := ⟨.hbm, 966, rfl⟩
abbrev main_call1_call5_v159 : Ref sig .tc := ⟨.hbm, 967, rfl⟩
abbrev main_call1_call5_v160 : Ref sig .tc := ⟨.hbm, 968, rfl⟩
abbrev main_call1_call5_v161 : Ref sig .tc := ⟨.hbm, 969, rfl⟩
abbrev main_call1_call5_v162 : Ref sig .tc := ⟨.hbm, 970, rfl⟩
abbrev main_call1_call5_v163 : Ref sig .tc := ⟨.hbm, 971, rfl⟩
abbrev main_call1_call5_c_42 : Ref sig .tc := ⟨.hbm, 972, rfl⟩
abbrev main_call1_call5_v164 : Ref sig .tc := ⟨.hbm, 973, rfl⟩
abbrev main_call1_call5_v165 : Ref sig .tc := ⟨.hbm, 974, rfl⟩
abbrev main_call1_call5_c_43 : Ref sig .tc := ⟨.hbm, 975, rfl⟩
abbrev main_call1_call5_v166 : Ref sig .tc := ⟨.hbm, 976, rfl⟩
abbrev main_call1_call5_v167 : Ref sig .tc := ⟨.hbm, 977, rfl⟩
abbrev main_call1_call5_v168 : Ref sig .tc := ⟨.hbm, 978, rfl⟩
abbrev main_call1_call5_v169 : Ref sig .tc := ⟨.hbm, 979, rfl⟩
abbrev main_call1_call5_v170 : Ref sig .tc := ⟨.hbm, 980, rfl⟩
abbrev main_call1_v37_0 : Ref sig .tc := ⟨.hbm, 981, rfl⟩
abbrev main_call1_call5_v172 : Ref sig .tc := ⟨.hbm, 982, rfl⟩
abbrev main_call1_call5_v173 : Ref sig .tc := ⟨.hbm, 983, rfl⟩
abbrev main_call1_call5_c_44 : Ref sig .tc := ⟨.hbm, 984, rfl⟩
abbrev main_call1_call5_v174 : Ref sig .tc := ⟨.hbm, 985, rfl⟩
abbrev main_call1_v37_1 : Ref sig .tc := ⟨.hbm, 986, rfl⟩
abbrev main_call1_v38 : Ref sig .tc := ⟨.hbm, 987, rfl⟩
abbrev main_call1_v39 : Ref sig .tc := ⟨.hbm, 988, rfl⟩
abbrev main_call1_v40 : Ref sig .tc := ⟨.hbm, 989, rfl⟩
abbrev main_call1_v41 : Ref sig .tc := ⟨.hbm, 990, rfl⟩
abbrev main_call1_c_10 : Ref sig .tc := ⟨.hbm, 991, rfl⟩
abbrev main_call1_v42 : Ref sig .tc := ⟨.hbm, 992, rfl⟩
abbrev main_call1_v43 : Ref sig .tc := ⟨.hbm, 993, rfl⟩
abbrev main_call1_v44 : Ref sig .tc := ⟨.hbm, 994, rfl⟩
abbrev main_call1_v45 : Ref sig .tc := ⟨.hbm, 995, rfl⟩
abbrev main_call1_v46 : Ref sig .tc := ⟨.hbm, 996, rfl⟩
abbrev main_call1_c_11 : Ref sig .tc := ⟨.hbm, 997, rfl⟩
abbrev main_call1_v47 : Ref sig .tc := ⟨.hbm, 998, rfl⟩
abbrev main_call1_v48 : Ref sig .tc := ⟨.hbm, 999, rfl⟩
abbrev main_call1_v49 : Ref sig .tc := ⟨.hbm, 1000, rfl⟩
abbrev main_call1_c_12 : Ref sig .tc := ⟨.hbm, 1001, rfl⟩
abbrev main_call1_v50 : Ref sig .tc := ⟨.hbm, 1002, rfl⟩
abbrev main_call1_v51 : Ref sig .tc := ⟨.hbm, 1003, rfl⟩
abbrev main_call1_v52 : Ref sig .tc := ⟨.hbm, 1004, rfl⟩
abbrev main_call1_v53 : Ref sig .tc := ⟨.hbm, 1005, rfl⟩
abbrev main_call1_v54 : Ref sig .tc := ⟨.hbm, 1006, rfl⟩
abbrev main_call1_v55 : Ref sig .tc := ⟨.hbm, 1007, rfl⟩
abbrev main_call1_v56 : Ref sig .tc := ⟨.hbm, 1008, rfl⟩
abbrev main_call1_v57 : Ref sig .tc := ⟨.hbm, 1009, rfl⟩
abbrev main_call1_v58 : Ref sig .tc := ⟨.hbm, 1010, rfl⟩
abbrev main_call1_v59 : Ref sig .tc := ⟨.hbm, 1011, rfl⟩
abbrev main_call1_v60 : Ref sig .tc := ⟨.hbm, 1012, rfl⟩
abbrev main_call1_v61 : Ref sig .tc := ⟨.hbm, 1013, rfl⟩
abbrev main_call1_v62 : Ref sig .tc := ⟨.hbm, 1014, rfl⟩
abbrev main_call1_v63 : Ref sig .tc := ⟨.hbm, 1015, rfl⟩
abbrev main_call1_v64 : Ref sig .tc := ⟨.hbm, 1016, rfl⟩
abbrev main_v13 : Ref sig .tc := ⟨.hbm, 1017, rfl⟩
abbrev main_cst : Ref sig .tc := ⟨.hbm, 1018, rfl⟩
abbrev main_v14 : Ref sig .tc := ⟨.hbm, 1019, rfl⟩
abbrev main_c_4 : Ref sig .tc := ⟨.hbm, 1020, rfl⟩
abbrev main_v15 : Ref sig .tc := ⟨.hbm, 1021, rfl⟩
abbrev main_v16 : Ref sig .tc := ⟨.hbm, 1022, rfl⟩
abbrev main_c_5 : Ref sig .tc := ⟨.hbm, 1023, rfl⟩
abbrev main_v17 : Ref sig .tc := ⟨.hbm, 1024, rfl⟩
abbrev main_v18 : Ref sig .tc := ⟨.hbm, 1025, rfl⟩
abbrev main_v19 : Ref sig .tc := ⟨.hbm, 1026, rfl⟩
abbrev main_c_6 : Ref sig .tc := ⟨.hbm, 1027, rfl⟩
abbrev main_v20 : Ref sig .tc := ⟨.hbm, 1028, rfl⟩
abbrev main_v21 : Ref sig .tc := ⟨.hbm, 1029, rfl⟩
abbrev main_c_7 : Ref sig .tc := ⟨.hbm, 1030, rfl⟩
abbrev main_v22 : Ref sig .tc := ⟨.hbm, 1031, rfl⟩
abbrev main_v23 : Ref sig .tc := ⟨.hbm, 1032, rfl⟩
abbrev main_v24 : Ref sig .tc := ⟨.hbm, 1033, rfl⟩
abbrev main_v25 : Ref sig .tc := ⟨.hbm, 1034, rfl⟩
abbrev main_v26 : Ref sig .tc := ⟨.hbm, 1035, rfl⟩
abbrev main_v27 : Ref sig .tc := ⟨.hbm, 1036, rfl⟩
abbrev main_cst_8 : Ref sig .tc := ⟨.hbm, 1037, rfl⟩
abbrev main_v28 : Ref sig .tc := ⟨.hbm, 1038, rfl⟩
abbrev main_v29 : Ref sig .tc := ⟨.hbm, 1039, rfl⟩
abbrev main_c_9 : Ref sig .tc := ⟨.hbm, 1040, rfl⟩
abbrev main_c_10 : Ref sig .tc := ⟨.hbm, 1041, rfl⟩
abbrev main_call2_c : Ref sig .tc := ⟨.hbm, 1042, rfl⟩
abbrev main_call2_c_0 : Ref sig .tc := ⟨.hbm, 1043, rfl⟩
abbrev main_call2_c_1 : Ref sig .tc := ⟨.hbm, 1044, rfl⟩
abbrev main_call2_call0_v0 : Ref sig .tc := ⟨.hbm, 1045, rfl⟩
abbrev main_call2_v0 : Ref sig .tc := ⟨.hbm, 1046, rfl⟩
abbrev main_call2_v1 : Ref sig .tc := ⟨.hbm, 1047, rfl⟩
abbrev main_call2_c_2 : Ref sig .tc := ⟨.hbm, 1048, rfl⟩
abbrev main_call2_c_3 : Ref sig .tc := ⟨.hbm, 1049, rfl⟩
abbrev main_call2_call1_v0 : Ref sig .tc := ⟨.hbm, 1050, rfl⟩
abbrev main_call2_v2 : Ref sig .tc := ⟨.hbm, 1051, rfl⟩
abbrev main_call2_v3 : Ref sig .tc := ⟨.hbm, 1052, rfl⟩
abbrev main_call2_c_4 : Ref sig .tc := ⟨.hbm, 1053, rfl⟩
abbrev main_call2_c_5 : Ref sig .tc := ⟨.hbm, 1054, rfl⟩
abbrev main_call2_call2_v0 : Ref sig .tc := ⟨.hbm, 1055, rfl⟩
abbrev main_call2_v4 : Ref sig .tc := ⟨.hbm, 1056, rfl⟩
abbrev main_call2_v5 : Ref sig .tc := ⟨.hbm, 1057, rfl⟩
abbrev main_call2_v6 : Ref sig .tc := ⟨.hbm, 1058, rfl⟩
abbrev main_call2_v7 : Ref sig .tc := ⟨.hbm, 1059, rfl⟩
abbrev main_call2_call3_v0 : Ref sig .tc := ⟨.hbm, 1060, rfl⟩
abbrev main_call2_call3_v1 : Ref sig .tc := ⟨.hbm, 1061, rfl⟩
abbrev main_call2_call3_v2 : Ref sig .tc := ⟨.hbm, 1062, rfl⟩
abbrev main_call2_call3_v3 : Ref sig .tc := ⟨.hbm, 1063, rfl⟩
abbrev main_call2_call3_v4 : Ref sig .tc := ⟨.hbm, 1064, rfl⟩
abbrev main_call2_call3_c : Ref sig .tc := ⟨.hbm, 1065, rfl⟩
abbrev main_call2_call3_v5 : Ref sig .tc := ⟨.hbm, 1066, rfl⟩
abbrev main_call2_call3_v6 : Ref sig .tc := ⟨.hbm, 1067, rfl⟩
abbrev main_call2_call3_c_0 : Ref sig .tc := ⟨.hbm, 1068, rfl⟩
abbrev main_call2_call3_v7 : Ref sig .tc := ⟨.hbm, 1069, rfl⟩
abbrev main_call2_call3_v8 : Ref sig .tc := ⟨.hbm, 1070, rfl⟩
abbrev main_call2_call3_v9 : Ref sig .tc := ⟨.hbm, 1071, rfl⟩
abbrev main_call2_call3_v10 : Ref sig .tc := ⟨.hbm, 1072, rfl⟩
abbrev main_call2_call3_call0_v0 : Ref sig .tc := ⟨.hbm, 1073, rfl⟩
abbrev main_call2_call3_call0_c : Ref sig .tc := ⟨.hbm, 1074, rfl⟩
abbrev main_call2_call3_call0_v1 : Ref sig .tc := ⟨.hbm, 1075, rfl⟩
abbrev main_call2_call3_call0_v2 : Ref sig .tc := ⟨.hbm, 1076, rfl⟩
abbrev main_call2_call3_call0_v3 : Ref sig .tc := ⟨.hbm, 1077, rfl⟩
abbrev main_call2_call3_call0_v4 : Ref sig .tc := ⟨.hbm, 1078, rfl⟩
abbrev main_call2_call3_call0_v5 : Ref sig .tc := ⟨.hbm, 1079, rfl⟩
abbrev main_call2_call3_call0_v6 : Ref sig .tc := ⟨.hbm, 1080, rfl⟩
abbrev main_call2_call3_call0_c_0 : Ref sig .tc := ⟨.hbm, 1081, rfl⟩
abbrev main_call2_call3_call0_v7 : Ref sig .tc := ⟨.hbm, 1082, rfl⟩
abbrev main_call2_call3_call0_v8 : Ref sig .tc := ⟨.hbm, 1083, rfl⟩
abbrev main_call2_call3_call0_c_1 : Ref sig .tc := ⟨.hbm, 1084, rfl⟩
abbrev main_call2_call3_call0_v9 : Ref sig .tc := ⟨.hbm, 1085, rfl⟩
abbrev main_call2_call3_call0_v10 : Ref sig .tc := ⟨.hbm, 1086, rfl⟩
abbrev main_call2_call3_call0_v11 : Ref sig .tc := ⟨.hbm, 1087, rfl⟩
abbrev main_call2_call3_call0_v12 : Ref sig .tc := ⟨.hbm, 1088, rfl⟩
abbrev main_call2_call3_call0_v13 : Ref sig .tc := ⟨.hbm, 1089, rfl⟩
abbrev main_call2_call3_call0_c_2 : Ref sig .tc := ⟨.hbm, 1090, rfl⟩
abbrev main_call2_call3_call0_v14 : Ref sig .tc := ⟨.hbm, 1091, rfl⟩
abbrev main_call2_call3_call0_v15 : Ref sig .tc := ⟨.hbm, 1092, rfl⟩
abbrev main_call2_call3_call0_c_3 : Ref sig .tc := ⟨.hbm, 1093, rfl⟩
abbrev main_call2_call3_call0_v16 : Ref sig .tc := ⟨.hbm, 1094, rfl⟩
abbrev main_call2_call3_call0_v17 : Ref sig .tc := ⟨.hbm, 1095, rfl⟩
abbrev main_call2_call3_call0_v18 : Ref sig .tc := ⟨.hbm, 1096, rfl⟩
abbrev main_call2_call3_call0_v19 : Ref sig .tc := ⟨.hbm, 1097, rfl⟩
abbrev main_call2_call3_call0_v20 : Ref sig .tc := ⟨.hbm, 1098, rfl⟩
abbrev main_call2_call3_call0_c_4 : Ref sig .tc := ⟨.hbm, 1099, rfl⟩
abbrev main_call2_call3_call0_v21 : Ref sig .tc := ⟨.hbm, 1100, rfl⟩
abbrev main_call2_call3_call0_v22 : Ref sig .tc := ⟨.hbm, 1101, rfl⟩
abbrev main_call2_call3_call0_c_5 : Ref sig .tc := ⟨.hbm, 1102, rfl⟩
abbrev main_call2_call3_call0_v23 : Ref sig .tc := ⟨.hbm, 1103, rfl⟩
abbrev main_call2_call3_call0_v24 : Ref sig .tc := ⟨.hbm, 1104, rfl⟩
abbrev main_call2_call3_call0_v25 : Ref sig .tc := ⟨.hbm, 1105, rfl⟩
abbrev main_call2_call3_call0_v26 : Ref sig .tc := ⟨.hbm, 1106, rfl⟩
abbrev main_call2_call3_call0_v27 : Ref sig .tc := ⟨.hbm, 1107, rfl⟩
abbrev main_call2_call3_call0_c_6 : Ref sig .tc := ⟨.hbm, 1108, rfl⟩
abbrev main_call2_call3_call0_v28 : Ref sig .tc := ⟨.hbm, 1109, rfl⟩
abbrev main_call2_call3_call0_v29 : Ref sig .tc := ⟨.hbm, 1110, rfl⟩
abbrev main_call2_call3_call0_c_7 : Ref sig .tc := ⟨.hbm, 1111, rfl⟩
abbrev main_call2_call3_call0_v30 : Ref sig .tc := ⟨.hbm, 1112, rfl⟩
abbrev main_call2_call3_call0_v31 : Ref sig .tc := ⟨.hbm, 1113, rfl⟩
abbrev main_call2_call3_call0_v32 : Ref sig .tc := ⟨.hbm, 1114, rfl⟩
abbrev main_call2_call3_call0_v33 : Ref sig .tc := ⟨.hbm, 1115, rfl⟩
abbrev main_call2_call3_call0_v34 : Ref sig .tc := ⟨.hbm, 1116, rfl⟩
abbrev main_call2_call3_call0_v35 : Ref sig .tc := ⟨.hbm, 1117, rfl⟩
abbrev main_call2_call3_call0_v36 : Ref sig .tc := ⟨.hbm, 1118, rfl⟩
abbrev main_call2_call3_call0_v37 : Ref sig .tc := ⟨.hbm, 1119, rfl⟩
abbrev main_call2_call3_call0_c_8 : Ref sig .tc := ⟨.hbm, 1120, rfl⟩
abbrev main_call2_call3_call0_v38 : Ref sig .tc := ⟨.hbm, 1121, rfl⟩
abbrev main_call2_call3_call0_v39 : Ref sig .tc := ⟨.hbm, 1122, rfl⟩
abbrev main_call2_call3_call0_v40 : Ref sig .tc := ⟨.hbm, 1123, rfl⟩
abbrev main_call2_call3_call0_c_9 : Ref sig .tc := ⟨.hbm, 1124, rfl⟩
abbrev main_call2_call3_call0_v41 : Ref sig .tc := ⟨.hbm, 1125, rfl⟩
abbrev main_call2_call3_call0_v42 : Ref sig .tc := ⟨.hbm, 1126, rfl⟩
abbrev main_call2_call3_call0_c_10 : Ref sig .tc := ⟨.hbm, 1127, rfl⟩
abbrev main_call2_call3_call0_v43 : Ref sig .tc := ⟨.hbm, 1128, rfl⟩
abbrev main_call2_call3_call0_v44 : Ref sig .tc := ⟨.hbm, 1129, rfl⟩
abbrev main_call2_call3_call0_v45 : Ref sig .tc := ⟨.hbm, 1130, rfl⟩
abbrev main_call2_call3_call0_v46 : Ref sig .tc := ⟨.hbm, 1131, rfl⟩
abbrev main_call2_call3_call0_v47 : Ref sig .tc := ⟨.hbm, 1132, rfl⟩
abbrev main_call2_call3_call0_c_11 : Ref sig .tc := ⟨.hbm, 1133, rfl⟩
abbrev main_call2_call3_call0_v48 : Ref sig .tc := ⟨.hbm, 1134, rfl⟩
abbrev main_call2_call3_call0_v49 : Ref sig .tc := ⟨.hbm, 1135, rfl⟩
abbrev main_call2_call3_call0_c_12 : Ref sig .tc := ⟨.hbm, 1136, rfl⟩
abbrev main_call2_call3_call0_v50 : Ref sig .tc := ⟨.hbm, 1137, rfl⟩
abbrev main_call2_call3_call0_v51 : Ref sig .tc := ⟨.hbm, 1138, rfl⟩
abbrev main_call2_call3_call0_v52 : Ref sig .tc := ⟨.hbm, 1139, rfl⟩
abbrev main_call2_call3_call0_v53 : Ref sig .tc := ⟨.hbm, 1140, rfl⟩
abbrev main_call2_call3_call0_v54 : Ref sig .tc := ⟨.hbm, 1141, rfl⟩
abbrev main_call2_call3_call0_c_13 : Ref sig .tc := ⟨.hbm, 1142, rfl⟩
abbrev main_call2_call3_call0_v55 : Ref sig .tc := ⟨.hbm, 1143, rfl⟩
abbrev main_call2_call3_call0_v56 : Ref sig .tc := ⟨.hbm, 1144, rfl⟩
abbrev main_call2_call3_call0_c_14 : Ref sig .tc := ⟨.hbm, 1145, rfl⟩
abbrev main_call2_call3_call0_v57 : Ref sig .tc := ⟨.hbm, 1146, rfl⟩
abbrev main_call2_call3_call0_v58 : Ref sig .tc := ⟨.hbm, 1147, rfl⟩
abbrev main_call2_call3_call0_v59 : Ref sig .tc := ⟨.hbm, 1148, rfl⟩
abbrev main_call2_call3_call0_v60 : Ref sig .tc := ⟨.hbm, 1149, rfl⟩
abbrev main_call2_call3_call0_v61 : Ref sig .tc := ⟨.hbm, 1150, rfl⟩
abbrev main_call2_call3_call0_c_15 : Ref sig .tc := ⟨.hbm, 1151, rfl⟩
abbrev main_call2_call3_call0_v62 : Ref sig .tc := ⟨.hbm, 1152, rfl⟩
abbrev main_call2_call3_call0_v63 : Ref sig .tc := ⟨.hbm, 1153, rfl⟩
abbrev main_call2_call3_call0_c_16 : Ref sig .tc := ⟨.hbm, 1154, rfl⟩
abbrev main_call2_call3_call0_v64 : Ref sig .tc := ⟨.hbm, 1155, rfl⟩
abbrev main_call2_call3_call0_v65 : Ref sig .tc := ⟨.hbm, 1156, rfl⟩
abbrev main_call2_call3_call0_v66 : Ref sig .tc := ⟨.hbm, 1157, rfl⟩
abbrev main_call2_call3_call0_v67 : Ref sig .tc := ⟨.hbm, 1158, rfl⟩
abbrev main_call2_call3_call0_v68 : Ref sig .tc := ⟨.hbm, 1159, rfl⟩
abbrev main_call2_call3_call0_v69 : Ref sig .tc := ⟨.hbm, 1160, rfl⟩
abbrev main_call2_call3_call0_v70 : Ref sig .tc := ⟨.hbm, 1161, rfl⟩
abbrev main_call2_call3_call0_v71 : Ref sig .tc := ⟨.hbm, 1162, rfl⟩
abbrev main_call2_call3_call0_c_17 : Ref sig .tc := ⟨.hbm, 1163, rfl⟩
abbrev main_call2_call3_call0_v72 : Ref sig .tc := ⟨.hbm, 1164, rfl⟩
abbrev main_call2_call3_call0_v73 : Ref sig .tc := ⟨.hbm, 1165, rfl⟩
abbrev main_call2_call3_call0_v74 : Ref sig .tc := ⟨.hbm, 1166, rfl⟩
abbrev main_call2_call3_call0_c_18 : Ref sig .tc := ⟨.hbm, 1167, rfl⟩
abbrev main_call2_call3_call0_v75 : Ref sig .tc := ⟨.hbm, 1168, rfl⟩
abbrev main_call2_call3_call0_v76 : Ref sig .tc := ⟨.hbm, 1169, rfl⟩
abbrev main_call2_call3_call0_c_19 : Ref sig .tc := ⟨.hbm, 1170, rfl⟩
abbrev main_call2_call3_call0_v77 : Ref sig .tc := ⟨.hbm, 1171, rfl⟩
abbrev main_call2_call3_call0_v78 : Ref sig .tc := ⟨.hbm, 1172, rfl⟩
abbrev main_call2_call3_call0_v79 : Ref sig .tc := ⟨.hbm, 1173, rfl⟩
abbrev main_call2_call3_call0_v80 : Ref sig .tc := ⟨.hbm, 1174, rfl⟩
abbrev main_call2_call3_call0_v81 : Ref sig .tc := ⟨.hbm, 1175, rfl⟩
abbrev main_call2_call3_call0_c_20 : Ref sig .tc := ⟨.hbm, 1176, rfl⟩
abbrev main_call2_call3_call0_v82 : Ref sig .tc := ⟨.hbm, 1177, rfl⟩
abbrev main_call2_call3_call0_v83 : Ref sig .tc := ⟨.hbm, 1178, rfl⟩
abbrev main_call2_call3_call0_c_21 : Ref sig .tc := ⟨.hbm, 1179, rfl⟩
abbrev main_call2_call3_call0_v84 : Ref sig .tc := ⟨.hbm, 1180, rfl⟩
abbrev main_call2_call3_call0_v85 : Ref sig .tc := ⟨.hbm, 1181, rfl⟩
abbrev main_call2_call3_call0_v86 : Ref sig .tc := ⟨.hbm, 1182, rfl⟩
abbrev main_call2_call3_call0_v87 : Ref sig .tc := ⟨.hbm, 1183, rfl⟩
abbrev main_call2_call3_call0_v88 : Ref sig .tc := ⟨.hbm, 1184, rfl⟩
abbrev main_call2_call3_call0_c_22 : Ref sig .tc := ⟨.hbm, 1185, rfl⟩
abbrev main_call2_call3_call0_v89 : Ref sig .tc := ⟨.hbm, 1186, rfl⟩
abbrev main_call2_call3_call0_v90 : Ref sig .tc := ⟨.hbm, 1187, rfl⟩
abbrev main_call2_call3_call0_c_23 : Ref sig .tc := ⟨.hbm, 1188, rfl⟩
abbrev main_call2_call3_call0_v91 : Ref sig .tc := ⟨.hbm, 1189, rfl⟩
abbrev main_call2_call3_call0_v92 : Ref sig .tc := ⟨.hbm, 1190, rfl⟩
abbrev main_call2_call3_call0_v93 : Ref sig .tc := ⟨.hbm, 1191, rfl⟩
abbrev main_call2_call3_call0_v94 : Ref sig .tc := ⟨.hbm, 1192, rfl⟩
abbrev main_call2_call3_call0_v95 : Ref sig .tc := ⟨.hbm, 1193, rfl⟩
abbrev main_call2_call3_call0_c_24 : Ref sig .tc := ⟨.hbm, 1194, rfl⟩
abbrev main_call2_call3_call0_v96 : Ref sig .tc := ⟨.hbm, 1195, rfl⟩
abbrev main_call2_call3_call0_v97 : Ref sig .tc := ⟨.hbm, 1196, rfl⟩
abbrev main_call2_call3_call0_c_25 : Ref sig .tc := ⟨.hbm, 1197, rfl⟩
abbrev main_call2_call3_call0_v98 : Ref sig .tc := ⟨.hbm, 1198, rfl⟩
abbrev main_call2_call3_call0_v99 : Ref sig .tc := ⟨.hbm, 1199, rfl⟩
abbrev main_call2_call3_call0_v100 : Ref sig .tc := ⟨.hbm, 1200, rfl⟩
abbrev main_call2_call3_call0_v101 : Ref sig .tc := ⟨.hbm, 1201, rfl⟩
abbrev main_call2_call3_call0_v102 : Ref sig .tc := ⟨.hbm, 1202, rfl⟩
abbrev main_call2_call3_call0_v103 : Ref sig .tc := ⟨.hbm, 1203, rfl⟩
abbrev main_call2_call3_call0_v104 : Ref sig .tc := ⟨.hbm, 1204, rfl⟩
abbrev main_call2_call3_call0_v105 : Ref sig .tc := ⟨.hbm, 1205, rfl⟩
abbrev main_call2_call3_call0_c_26 : Ref sig .tc := ⟨.hbm, 1206, rfl⟩
abbrev main_call2_call3_call0_v106 : Ref sig .tc := ⟨.hbm, 1207, rfl⟩
abbrev main_call2_call3_call0_v107 : Ref sig .tc := ⟨.hbm, 1208, rfl⟩
abbrev main_call2_call3_call0_v108 : Ref sig .tc := ⟨.hbm, 1209, rfl⟩
abbrev main_call2_call3_call0_c_27 : Ref sig .tc := ⟨.hbm, 1210, rfl⟩
abbrev main_call2_call3_call0_v109 : Ref sig .tc := ⟨.hbm, 1211, rfl⟩
abbrev main_call2_call3_call0_v110 : Ref sig .tc := ⟨.hbm, 1212, rfl⟩
abbrev main_call2_call3_call0_c_28 : Ref sig .tc := ⟨.hbm, 1213, rfl⟩
abbrev main_call2_call3_call0_v111 : Ref sig .tc := ⟨.hbm, 1214, rfl⟩
abbrev main_call2_call3_call0_v112 : Ref sig .tc := ⟨.hbm, 1215, rfl⟩
abbrev main_call2_call3_call0_v113 : Ref sig .tc := ⟨.hbm, 1216, rfl⟩
abbrev main_call2_call3_call0_v114 : Ref sig .tc := ⟨.hbm, 1217, rfl⟩
abbrev main_call2_call3_call0_v115 : Ref sig .tc := ⟨.hbm, 1218, rfl⟩
abbrev main_call2_call3_call0_c_29 : Ref sig .tc := ⟨.hbm, 1219, rfl⟩
abbrev main_call2_call3_call0_v116 : Ref sig .tc := ⟨.hbm, 1220, rfl⟩
abbrev main_call2_call3_call0_v117 : Ref sig .tc := ⟨.hbm, 1221, rfl⟩
abbrev main_call2_call3_call0_c_30 : Ref sig .tc := ⟨.hbm, 1222, rfl⟩
abbrev main_call2_call3_call0_v118 : Ref sig .tc := ⟨.hbm, 1223, rfl⟩
abbrev main_call2_call3_call0_v119 : Ref sig .tc := ⟨.hbm, 1224, rfl⟩
abbrev main_call2_call3_call0_v120 : Ref sig .tc := ⟨.hbm, 1225, rfl⟩
abbrev main_call2_call3_call0_v121 : Ref sig .tc := ⟨.hbm, 1226, rfl⟩
abbrev main_call2_call3_call0_v122 : Ref sig .tc := ⟨.hbm, 1227, rfl⟩
abbrev main_call2_call3_call0_c_31 : Ref sig .tc := ⟨.hbm, 1228, rfl⟩
abbrev main_call2_call3_call0_v123 : Ref sig .tc := ⟨.hbm, 1229, rfl⟩
abbrev main_call2_call3_call0_v124 : Ref sig .tc := ⟨.hbm, 1230, rfl⟩
abbrev main_call2_call3_call0_c_32 : Ref sig .tc := ⟨.hbm, 1231, rfl⟩
abbrev main_call2_call3_call0_v125 : Ref sig .tc := ⟨.hbm, 1232, rfl⟩
abbrev main_call2_call3_call0_v126 : Ref sig .tc := ⟨.hbm, 1233, rfl⟩
abbrev main_call2_call3_call0_v127 : Ref sig .tc := ⟨.hbm, 1234, rfl⟩
abbrev main_call2_call3_call0_v128 : Ref sig .tc := ⟨.hbm, 1235, rfl⟩
abbrev main_call2_call3_call0_v129 : Ref sig .tc := ⟨.hbm, 1236, rfl⟩
abbrev main_call2_call3_call0_c_33 : Ref sig .tc := ⟨.hbm, 1237, rfl⟩
abbrev main_call2_call3_call0_v130 : Ref sig .tc := ⟨.hbm, 1238, rfl⟩
abbrev main_call2_call3_call0_v131 : Ref sig .tc := ⟨.hbm, 1239, rfl⟩
abbrev main_call2_call3_call0_c_34 : Ref sig .tc := ⟨.hbm, 1240, rfl⟩
abbrev main_call2_call3_call0_v132 : Ref sig .tc := ⟨.hbm, 1241, rfl⟩
abbrev main_call2_call3_call0_v133 : Ref sig .tc := ⟨.hbm, 1242, rfl⟩
abbrev main_call2_call3_call0_v134 : Ref sig .tc := ⟨.hbm, 1243, rfl⟩
abbrev main_call2_call3_call0_v135 : Ref sig .tc := ⟨.hbm, 1244, rfl⟩
abbrev main_call2_call3_call0_v136 : Ref sig .tc := ⟨.hbm, 1245, rfl⟩
abbrev main_call2_call3_call0_v137 : Ref sig .tc := ⟨.hbm, 1246, rfl⟩
abbrev main_call2_call3_call0_v138 : Ref sig .tc := ⟨.hbm, 1247, rfl⟩
abbrev main_call2_call3_call0_v139 : Ref sig .tc := ⟨.hbm, 1248, rfl⟩
abbrev main_call2_call3_call0_c_35 : Ref sig .tc := ⟨.hbm, 1249, rfl⟩
abbrev main_call2_call3_call0_v140 : Ref sig .tc := ⟨.hbm, 1250, rfl⟩
abbrev main_call2_call3_call0_v141 : Ref sig .tc := ⟨.hbm, 1251, rfl⟩
abbrev main_call2_call3_call0_v142 : Ref sig .tc := ⟨.hbm, 1252, rfl⟩
abbrev main_call2_call3_call0_c_36 : Ref sig .tc := ⟨.hbm, 1253, rfl⟩
abbrev main_call2_call3_call0_v143 : Ref sig .tc := ⟨.hbm, 1254, rfl⟩
abbrev main_call2_call3_call0_v144 : Ref sig .tc := ⟨.hbm, 1255, rfl⟩
abbrev main_call2_call3_call0_c_37 : Ref sig .tc := ⟨.hbm, 1256, rfl⟩
abbrev main_call2_call3_call0_v145 : Ref sig .tc := ⟨.hbm, 1257, rfl⟩
abbrev main_call2_call3_call0_v146 : Ref sig .tc := ⟨.hbm, 1258, rfl⟩
abbrev main_call2_call3_call0_v147 : Ref sig .tc := ⟨.hbm, 1259, rfl⟩
abbrev main_call2_call3_call0_v148 : Ref sig .tc := ⟨.hbm, 1260, rfl⟩
abbrev main_call2_call3_call0_v149 : Ref sig .tc := ⟨.hbm, 1261, rfl⟩
abbrev main_call2_call3_call0_c_38 : Ref sig .tc := ⟨.hbm, 1262, rfl⟩
abbrev main_call2_call3_call0_v150 : Ref sig .tc := ⟨.hbm, 1263, rfl⟩
abbrev main_call2_call3_call0_v151 : Ref sig .tc := ⟨.hbm, 1264, rfl⟩
abbrev main_call2_call3_call0_c_39 : Ref sig .tc := ⟨.hbm, 1265, rfl⟩
abbrev main_call2_call3_call0_v152 : Ref sig .tc := ⟨.hbm, 1266, rfl⟩
abbrev main_call2_call3_call0_v153 : Ref sig .tc := ⟨.hbm, 1267, rfl⟩
abbrev main_call2_call3_call0_v154 : Ref sig .tc := ⟨.hbm, 1268, rfl⟩
abbrev main_call2_call3_call0_v155 : Ref sig .tc := ⟨.hbm, 1269, rfl⟩
abbrev main_call2_call3_call0_v156 : Ref sig .tc := ⟨.hbm, 1270, rfl⟩
abbrev main_call2_call3_call0_c_40 : Ref sig .tc := ⟨.hbm, 1271, rfl⟩
abbrev main_call2_call3_call0_v157 : Ref sig .tc := ⟨.hbm, 1272, rfl⟩
abbrev main_call2_call3_call0_v158 : Ref sig .tc := ⟨.hbm, 1273, rfl⟩
abbrev main_call2_call3_call0_c_41 : Ref sig .tc := ⟨.hbm, 1274, rfl⟩
abbrev main_call2_call3_call0_v159 : Ref sig .tc := ⟨.hbm, 1275, rfl⟩
abbrev main_call2_call3_call0_v160 : Ref sig .tc := ⟨.hbm, 1276, rfl⟩
abbrev main_call2_call3_call0_v161 : Ref sig .tc := ⟨.hbm, 1277, rfl⟩
abbrev main_call2_call3_call0_v162 : Ref sig .tc := ⟨.hbm, 1278, rfl⟩
abbrev main_call2_call3_call0_v163 : Ref sig .tc := ⟨.hbm, 1279, rfl⟩
abbrev main_call2_call3_call0_c_42 : Ref sig .tc := ⟨.hbm, 1280, rfl⟩
abbrev main_call2_call3_call0_v164 : Ref sig .tc := ⟨.hbm, 1281, rfl⟩
abbrev main_call2_call3_call0_v165 : Ref sig .tc := ⟨.hbm, 1282, rfl⟩
abbrev main_call2_call3_call0_c_43 : Ref sig .tc := ⟨.hbm, 1283, rfl⟩
abbrev main_call2_call3_call0_v166 : Ref sig .tc := ⟨.hbm, 1284, rfl⟩
abbrev main_call2_call3_call0_v167 : Ref sig .tc := ⟨.hbm, 1285, rfl⟩
abbrev main_call2_call3_call0_v168 : Ref sig .tc := ⟨.hbm, 1286, rfl⟩
abbrev main_call2_call3_call0_v169 : Ref sig .tc := ⟨.hbm, 1287, rfl⟩
abbrev main_call2_call3_call0_v170 : Ref sig .tc := ⟨.hbm, 1288, rfl⟩
abbrev main_call2_call3_v11_0 : Ref sig .tc := ⟨.hbm, 1289, rfl⟩
abbrev main_call2_call3_call0_v172 : Ref sig .tc := ⟨.hbm, 1290, rfl⟩
abbrev main_call2_call3_call0_v173 : Ref sig .tc := ⟨.hbm, 1291, rfl⟩
abbrev main_call2_call3_call0_c_44 : Ref sig .tc := ⟨.hbm, 1292, rfl⟩
abbrev main_call2_call3_call0_v174 : Ref sig .tc := ⟨.hbm, 1293, rfl⟩
abbrev main_call2_call3_v11_1 : Ref sig .tc := ⟨.hbm, 1294, rfl⟩
abbrev main_call2_call3_v12 : Ref sig .tc := ⟨.hbm, 1295, rfl⟩
abbrev main_call2_call3_v13 : Ref sig .tc := ⟨.hbm, 1296, rfl⟩
abbrev main_call2_v8 : Ref sig .tc := ⟨.hbm, 1297, rfl⟩
abbrev main_call2_v9 : Ref sig .tc := ⟨.hbm, 1298, rfl⟩
abbrev main_call2_v10 : Ref sig .tc := ⟨.hbm, 1299, rfl⟩
abbrev main_call2_v11 : Ref sig .tc := ⟨.hbm, 1300, rfl⟩
abbrev main_call2_v12 : Ref sig .tc := ⟨.hbm, 1301, rfl⟩
abbrev main_call2_v13 : Ref sig .tc := ⟨.hbm, 1302, rfl⟩
abbrev main_call2_v14 : Ref sig .tc := ⟨.hbm, 1303, rfl⟩
abbrev main_call2_v15 : Ref sig .tc := ⟨.hbm, 1304, rfl⟩
abbrev main_call2_v16 : Ref sig .tc := ⟨.hbm, 1305, rfl⟩
abbrev main_call2_v17 : Ref sig .tc := ⟨.hbm, 1306, rfl⟩
abbrev main_call2_c_6 : Ref sig .tc := ⟨.hbm, 1307, rfl⟩
abbrev main_call2_v18 : Ref sig .tc := ⟨.hbm, 1308, rfl⟩
abbrev main_call2_v19 : Ref sig .tc := ⟨.hbm, 1309, rfl⟩
abbrev main_call2_c_7 : Ref sig .tc := ⟨.hbm, 1310, rfl⟩
abbrev main_call2_v20 : Ref sig .tc := ⟨.hbm, 1311, rfl⟩
abbrev main_call2_v21 : Ref sig .tc := ⟨.hbm, 1312, rfl⟩
abbrev main_call2_v22 : Ref sig .tc := ⟨.hbm, 1313, rfl⟩
abbrev main_call2_v23 : Ref sig .tc := ⟨.hbm, 1314, rfl⟩
abbrev main_call2_call4_v0 : Ref sig .tc := ⟨.hbm, 1315, rfl⟩
abbrev main_call2_call4_c : Ref sig .tc := ⟨.hbm, 1316, rfl⟩
abbrev main_call2_call4_v1 : Ref sig .tc := ⟨.hbm, 1317, rfl⟩
abbrev main_call2_call4_v2 : Ref sig .tc := ⟨.hbm, 1318, rfl⟩
abbrev main_call2_call4_v3 : Ref sig .tc := ⟨.hbm, 1319, rfl⟩
abbrev main_call2_call4_v4 : Ref sig .tc := ⟨.hbm, 1320, rfl⟩
abbrev main_call2_call4_v5 : Ref sig .tc := ⟨.hbm, 1321, rfl⟩
abbrev main_call2_call4_v6 : Ref sig .tc := ⟨.hbm, 1322, rfl⟩
abbrev main_call2_call4_c_0 : Ref sig .tc := ⟨.hbm, 1323, rfl⟩
abbrev main_call2_call4_v7 : Ref sig .tc := ⟨.hbm, 1324, rfl⟩
abbrev main_call2_call4_v8 : Ref sig .tc := ⟨.hbm, 1325, rfl⟩
abbrev main_call2_call4_c_1 : Ref sig .tc := ⟨.hbm, 1326, rfl⟩
abbrev main_call2_call4_v9 : Ref sig .tc := ⟨.hbm, 1327, rfl⟩
abbrev main_call2_call4_v10 : Ref sig .tc := ⟨.hbm, 1328, rfl⟩
abbrev main_call2_call4_v11 : Ref sig .tc := ⟨.hbm, 1329, rfl⟩
abbrev main_call2_call4_v12 : Ref sig .tc := ⟨.hbm, 1330, rfl⟩
abbrev main_call2_call4_v13 : Ref sig .tc := ⟨.hbm, 1331, rfl⟩
abbrev main_call2_call4_c_2 : Ref sig .tc := ⟨.hbm, 1332, rfl⟩
abbrev main_call2_call4_v14 : Ref sig .tc := ⟨.hbm, 1333, rfl⟩
abbrev main_call2_call4_v15 : Ref sig .tc := ⟨.hbm, 1334, rfl⟩
abbrev main_call2_call4_c_3 : Ref sig .tc := ⟨.hbm, 1335, rfl⟩
abbrev main_call2_call4_v16 : Ref sig .tc := ⟨.hbm, 1336, rfl⟩
abbrev main_call2_call4_v17 : Ref sig .tc := ⟨.hbm, 1337, rfl⟩
abbrev main_call2_call4_v18 : Ref sig .tc := ⟨.hbm, 1338, rfl⟩
abbrev main_call2_call4_v19 : Ref sig .tc := ⟨.hbm, 1339, rfl⟩
abbrev main_call2_call4_v20 : Ref sig .tc := ⟨.hbm, 1340, rfl⟩
abbrev main_call2_call4_c_4 : Ref sig .tc := ⟨.hbm, 1341, rfl⟩
abbrev main_call2_call4_v21 : Ref sig .tc := ⟨.hbm, 1342, rfl⟩
abbrev main_call2_call4_v22 : Ref sig .tc := ⟨.hbm, 1343, rfl⟩
abbrev main_call2_call4_c_5 : Ref sig .tc := ⟨.hbm, 1344, rfl⟩
abbrev main_call2_call4_v23 : Ref sig .tc := ⟨.hbm, 1345, rfl⟩
abbrev main_call2_call4_v24 : Ref sig .tc := ⟨.hbm, 1346, rfl⟩
abbrev main_call2_call4_v25 : Ref sig .tc := ⟨.hbm, 1347, rfl⟩
abbrev main_call2_call4_v26 : Ref sig .tc := ⟨.hbm, 1348, rfl⟩
abbrev main_call2_call4_v27 : Ref sig .tc := ⟨.hbm, 1349, rfl⟩
abbrev main_call2_call4_c_6 : Ref sig .tc := ⟨.hbm, 1350, rfl⟩
abbrev main_call2_call4_v28 : Ref sig .tc := ⟨.hbm, 1351, rfl⟩
abbrev main_call2_call4_v29 : Ref sig .tc := ⟨.hbm, 1352, rfl⟩
abbrev main_call2_call4_c_7 : Ref sig .tc := ⟨.hbm, 1353, rfl⟩
abbrev main_call2_call4_v30 : Ref sig .tc := ⟨.hbm, 1354, rfl⟩
abbrev main_call2_call4_v31 : Ref sig .tc := ⟨.hbm, 1355, rfl⟩
abbrev main_call2_call4_v32 : Ref sig .tc := ⟨.hbm, 1356, rfl⟩
abbrev main_call2_call4_v33 : Ref sig .tc := ⟨.hbm, 1357, rfl⟩
abbrev main_call2_call4_v34 : Ref sig .tc := ⟨.hbm, 1358, rfl⟩
abbrev main_call2_call4_v35 : Ref sig .tc := ⟨.hbm, 1359, rfl⟩
abbrev main_call2_call4_v36 : Ref sig .tc := ⟨.hbm, 1360, rfl⟩
abbrev main_call2_call4_v37 : Ref sig .tc := ⟨.hbm, 1361, rfl⟩
abbrev main_call2_call4_c_8 : Ref sig .tc := ⟨.hbm, 1362, rfl⟩
abbrev main_call2_call4_v38 : Ref sig .tc := ⟨.hbm, 1363, rfl⟩
abbrev main_call2_call4_v39 : Ref sig .tc := ⟨.hbm, 1364, rfl⟩
abbrev main_call2_call4_v40 : Ref sig .tc := ⟨.hbm, 1365, rfl⟩
abbrev main_call2_call4_c_9 : Ref sig .tc := ⟨.hbm, 1366, rfl⟩
abbrev main_call2_call4_v41 : Ref sig .tc := ⟨.hbm, 1367, rfl⟩
abbrev main_call2_call4_v42 : Ref sig .tc := ⟨.hbm, 1368, rfl⟩
abbrev main_call2_call4_c_10 : Ref sig .tc := ⟨.hbm, 1369, rfl⟩
abbrev main_call2_call4_v43 : Ref sig .tc := ⟨.hbm, 1370, rfl⟩
abbrev main_call2_call4_v44 : Ref sig .tc := ⟨.hbm, 1371, rfl⟩
abbrev main_call2_call4_v45 : Ref sig .tc := ⟨.hbm, 1372, rfl⟩
abbrev main_call2_call4_v46 : Ref sig .tc := ⟨.hbm, 1373, rfl⟩
abbrev main_call2_call4_v47 : Ref sig .tc := ⟨.hbm, 1374, rfl⟩
abbrev main_call2_call4_c_11 : Ref sig .tc := ⟨.hbm, 1375, rfl⟩
abbrev main_call2_call4_v48 : Ref sig .tc := ⟨.hbm, 1376, rfl⟩
abbrev main_call2_call4_v49 : Ref sig .tc := ⟨.hbm, 1377, rfl⟩
abbrev main_call2_call4_c_12 : Ref sig .tc := ⟨.hbm, 1378, rfl⟩
abbrev main_call2_call4_v50 : Ref sig .tc := ⟨.hbm, 1379, rfl⟩
abbrev main_call2_call4_v51 : Ref sig .tc := ⟨.hbm, 1380, rfl⟩
abbrev main_call2_call4_v52 : Ref sig .tc := ⟨.hbm, 1381, rfl⟩
abbrev main_call2_call4_v53 : Ref sig .tc := ⟨.hbm, 1382, rfl⟩
abbrev main_call2_call4_v54 : Ref sig .tc := ⟨.hbm, 1383, rfl⟩
abbrev main_call2_call4_c_13 : Ref sig .tc := ⟨.hbm, 1384, rfl⟩
abbrev main_call2_call4_v55 : Ref sig .tc := ⟨.hbm, 1385, rfl⟩
abbrev main_call2_call4_v56 : Ref sig .tc := ⟨.hbm, 1386, rfl⟩
abbrev main_call2_call4_c_14 : Ref sig .tc := ⟨.hbm, 1387, rfl⟩
abbrev main_call2_call4_v57 : Ref sig .tc := ⟨.hbm, 1388, rfl⟩
abbrev main_call2_call4_v58 : Ref sig .tc := ⟨.hbm, 1389, rfl⟩
abbrev main_call2_call4_v59 : Ref sig .tc := ⟨.hbm, 1390, rfl⟩
abbrev main_call2_call4_v60 : Ref sig .tc := ⟨.hbm, 1391, rfl⟩
abbrev main_call2_call4_v61 : Ref sig .tc := ⟨.hbm, 1392, rfl⟩
abbrev main_call2_call4_c_15 : Ref sig .tc := ⟨.hbm, 1393, rfl⟩
abbrev main_call2_call4_v62 : Ref sig .tc := ⟨.hbm, 1394, rfl⟩
abbrev main_call2_call4_v63 : Ref sig .tc := ⟨.hbm, 1395, rfl⟩
abbrev main_call2_call4_c_16 : Ref sig .tc := ⟨.hbm, 1396, rfl⟩
abbrev main_call2_call4_v64 : Ref sig .tc := ⟨.hbm, 1397, rfl⟩
abbrev main_call2_call4_v65 : Ref sig .tc := ⟨.hbm, 1398, rfl⟩
abbrev main_call2_call4_v66 : Ref sig .tc := ⟨.hbm, 1399, rfl⟩
abbrev main_call2_call4_v67 : Ref sig .tc := ⟨.hbm, 1400, rfl⟩
abbrev main_call2_call4_v68 : Ref sig .tc := ⟨.hbm, 1401, rfl⟩
abbrev main_call2_call4_v69 : Ref sig .tc := ⟨.hbm, 1402, rfl⟩
abbrev main_call2_call4_v70 : Ref sig .tc := ⟨.hbm, 1403, rfl⟩
abbrev main_call2_call4_v71 : Ref sig .tc := ⟨.hbm, 1404, rfl⟩
abbrev main_call2_call4_c_17 : Ref sig .tc := ⟨.hbm, 1405, rfl⟩
abbrev main_call2_call4_v72 : Ref sig .tc := ⟨.hbm, 1406, rfl⟩
abbrev main_call2_call4_v73 : Ref sig .tc := ⟨.hbm, 1407, rfl⟩
abbrev main_call2_call4_v74 : Ref sig .tc := ⟨.hbm, 1408, rfl⟩
abbrev main_call2_call4_c_18 : Ref sig .tc := ⟨.hbm, 1409, rfl⟩
abbrev main_call2_call4_v75 : Ref sig .tc := ⟨.hbm, 1410, rfl⟩
abbrev main_call2_call4_v76 : Ref sig .tc := ⟨.hbm, 1411, rfl⟩
abbrev main_call2_call4_c_19 : Ref sig .tc := ⟨.hbm, 1412, rfl⟩
abbrev main_call2_call4_v77 : Ref sig .tc := ⟨.hbm, 1413, rfl⟩
abbrev main_call2_call4_v78 : Ref sig .tc := ⟨.hbm, 1414, rfl⟩
abbrev main_call2_call4_v79 : Ref sig .tc := ⟨.hbm, 1415, rfl⟩
abbrev main_call2_call4_v80 : Ref sig .tc := ⟨.hbm, 1416, rfl⟩
abbrev main_call2_call4_v81 : Ref sig .tc := ⟨.hbm, 1417, rfl⟩
abbrev main_call2_call4_c_20 : Ref sig .tc := ⟨.hbm, 1418, rfl⟩
abbrev main_call2_call4_v82 : Ref sig .tc := ⟨.hbm, 1419, rfl⟩
abbrev main_call2_call4_v83 : Ref sig .tc := ⟨.hbm, 1420, rfl⟩
abbrev main_call2_call4_c_21 : Ref sig .tc := ⟨.hbm, 1421, rfl⟩
abbrev main_call2_call4_v84 : Ref sig .tc := ⟨.hbm, 1422, rfl⟩
abbrev main_call2_call4_v85 : Ref sig .tc := ⟨.hbm, 1423, rfl⟩
abbrev main_call2_call4_v86 : Ref sig .tc := ⟨.hbm, 1424, rfl⟩
abbrev main_call2_call4_v87 : Ref sig .tc := ⟨.hbm, 1425, rfl⟩
abbrev main_call2_call4_v88 : Ref sig .tc := ⟨.hbm, 1426, rfl⟩
abbrev main_call2_call4_c_22 : Ref sig .tc := ⟨.hbm, 1427, rfl⟩
abbrev main_call2_call4_v89 : Ref sig .tc := ⟨.hbm, 1428, rfl⟩
abbrev main_call2_call4_v90 : Ref sig .tc := ⟨.hbm, 1429, rfl⟩
abbrev main_call2_call4_c_23 : Ref sig .tc := ⟨.hbm, 1430, rfl⟩
abbrev main_call2_call4_v91 : Ref sig .tc := ⟨.hbm, 1431, rfl⟩
abbrev main_call2_call4_v92 : Ref sig .tc := ⟨.hbm, 1432, rfl⟩
abbrev main_call2_call4_v93 : Ref sig .tc := ⟨.hbm, 1433, rfl⟩
abbrev main_call2_call4_v94 : Ref sig .tc := ⟨.hbm, 1434, rfl⟩
abbrev main_call2_call4_v95 : Ref sig .tc := ⟨.hbm, 1435, rfl⟩
abbrev main_call2_call4_c_24 : Ref sig .tc := ⟨.hbm, 1436, rfl⟩
abbrev main_call2_call4_v96 : Ref sig .tc := ⟨.hbm, 1437, rfl⟩
abbrev main_call2_call4_v97 : Ref sig .tc := ⟨.hbm, 1438, rfl⟩
abbrev main_call2_call4_c_25 : Ref sig .tc := ⟨.hbm, 1439, rfl⟩
abbrev main_call2_call4_v98 : Ref sig .tc := ⟨.hbm, 1440, rfl⟩
abbrev main_call2_call4_v99 : Ref sig .tc := ⟨.hbm, 1441, rfl⟩
abbrev main_call2_call4_v100 : Ref sig .tc := ⟨.hbm, 1442, rfl⟩
abbrev main_call2_call4_v101 : Ref sig .tc := ⟨.hbm, 1443, rfl⟩
abbrev main_call2_call4_v102 : Ref sig .tc := ⟨.hbm, 1444, rfl⟩
abbrev main_call2_call4_v103 : Ref sig .tc := ⟨.hbm, 1445, rfl⟩
abbrev main_call2_call4_v104 : Ref sig .tc := ⟨.hbm, 1446, rfl⟩
abbrev main_call2_call4_v105 : Ref sig .tc := ⟨.hbm, 1447, rfl⟩
abbrev main_call2_call4_c_26 : Ref sig .tc := ⟨.hbm, 1448, rfl⟩
abbrev main_call2_call4_v106 : Ref sig .tc := ⟨.hbm, 1449, rfl⟩
abbrev main_call2_call4_v107 : Ref sig .tc := ⟨.hbm, 1450, rfl⟩
abbrev main_call2_call4_v108 : Ref sig .tc := ⟨.hbm, 1451, rfl⟩
abbrev main_call2_call4_c_27 : Ref sig .tc := ⟨.hbm, 1452, rfl⟩
abbrev main_call2_call4_v109 : Ref sig .tc := ⟨.hbm, 1453, rfl⟩
abbrev main_call2_call4_v110 : Ref sig .tc := ⟨.hbm, 1454, rfl⟩
abbrev main_call2_call4_c_28 : Ref sig .tc := ⟨.hbm, 1455, rfl⟩
abbrev main_call2_call4_v111 : Ref sig .tc := ⟨.hbm, 1456, rfl⟩
abbrev main_call2_call4_v112 : Ref sig .tc := ⟨.hbm, 1457, rfl⟩
abbrev main_call2_call4_v113 : Ref sig .tc := ⟨.hbm, 1458, rfl⟩
abbrev main_call2_call4_v114 : Ref sig .tc := ⟨.hbm, 1459, rfl⟩
abbrev main_call2_call4_v115 : Ref sig .tc := ⟨.hbm, 1460, rfl⟩
abbrev main_call2_call4_c_29 : Ref sig .tc := ⟨.hbm, 1461, rfl⟩
abbrev main_call2_call4_v116 : Ref sig .tc := ⟨.hbm, 1462, rfl⟩
abbrev main_call2_call4_v117 : Ref sig .tc := ⟨.hbm, 1463, rfl⟩
abbrev main_call2_call4_c_30 : Ref sig .tc := ⟨.hbm, 1464, rfl⟩
abbrev main_call2_call4_v118 : Ref sig .tc := ⟨.hbm, 1465, rfl⟩
abbrev main_call2_call4_v119 : Ref sig .tc := ⟨.hbm, 1466, rfl⟩
abbrev main_call2_call4_v120 : Ref sig .tc := ⟨.hbm, 1467, rfl⟩
abbrev main_call2_call4_v121 : Ref sig .tc := ⟨.hbm, 1468, rfl⟩
abbrev main_call2_call4_v122 : Ref sig .tc := ⟨.hbm, 1469, rfl⟩
abbrev main_call2_call4_c_31 : Ref sig .tc := ⟨.hbm, 1470, rfl⟩
abbrev main_call2_call4_v123 : Ref sig .tc := ⟨.hbm, 1471, rfl⟩
abbrev main_call2_call4_v124 : Ref sig .tc := ⟨.hbm, 1472, rfl⟩
abbrev main_call2_call4_c_32 : Ref sig .tc := ⟨.hbm, 1473, rfl⟩
abbrev main_call2_call4_v125 : Ref sig .tc := ⟨.hbm, 1474, rfl⟩
abbrev main_call2_call4_v126 : Ref sig .tc := ⟨.hbm, 1475, rfl⟩
abbrev main_call2_call4_v127 : Ref sig .tc := ⟨.hbm, 1476, rfl⟩
abbrev main_call2_call4_v128 : Ref sig .tc := ⟨.hbm, 1477, rfl⟩
abbrev main_call2_call4_v129 : Ref sig .tc := ⟨.hbm, 1478, rfl⟩
abbrev main_call2_call4_c_33 : Ref sig .tc := ⟨.hbm, 1479, rfl⟩
abbrev main_call2_call4_v130 : Ref sig .tc := ⟨.hbm, 1480, rfl⟩
abbrev main_call2_call4_v131 : Ref sig .tc := ⟨.hbm, 1481, rfl⟩
abbrev main_call2_call4_c_34 : Ref sig .tc := ⟨.hbm, 1482, rfl⟩
abbrev main_call2_call4_v132 : Ref sig .tc := ⟨.hbm, 1483, rfl⟩
abbrev main_call2_call4_v133 : Ref sig .tc := ⟨.hbm, 1484, rfl⟩
abbrev main_call2_call4_v134 : Ref sig .tc := ⟨.hbm, 1485, rfl⟩
abbrev main_call2_call4_v135 : Ref sig .tc := ⟨.hbm, 1486, rfl⟩
abbrev main_call2_call4_v136 : Ref sig .tc := ⟨.hbm, 1487, rfl⟩
abbrev main_call2_call4_v137 : Ref sig .tc := ⟨.hbm, 1488, rfl⟩
abbrev main_call2_call4_v138 : Ref sig .tc := ⟨.hbm, 1489, rfl⟩
abbrev main_call2_call4_v139 : Ref sig .tc := ⟨.hbm, 1490, rfl⟩
abbrev main_call2_call4_c_35 : Ref sig .tc := ⟨.hbm, 1491, rfl⟩
abbrev main_call2_call4_v140 : Ref sig .tc := ⟨.hbm, 1492, rfl⟩
abbrev main_call2_call4_v141 : Ref sig .tc := ⟨.hbm, 1493, rfl⟩
abbrev main_call2_call4_v142 : Ref sig .tc := ⟨.hbm, 1494, rfl⟩
abbrev main_call2_call4_c_36 : Ref sig .tc := ⟨.hbm, 1495, rfl⟩
abbrev main_call2_call4_v143 : Ref sig .tc := ⟨.hbm, 1496, rfl⟩
abbrev main_call2_call4_v144 : Ref sig .tc := ⟨.hbm, 1497, rfl⟩
abbrev main_call2_call4_c_37 : Ref sig .tc := ⟨.hbm, 1498, rfl⟩
abbrev main_call2_call4_v145 : Ref sig .tc := ⟨.hbm, 1499, rfl⟩
abbrev main_call2_call4_v146 : Ref sig .tc := ⟨.hbm, 1500, rfl⟩
abbrev main_call2_call4_v147 : Ref sig .tc := ⟨.hbm, 1501, rfl⟩
abbrev main_call2_call4_v148 : Ref sig .tc := ⟨.hbm, 1502, rfl⟩
abbrev main_call2_call4_v149 : Ref sig .tc := ⟨.hbm, 1503, rfl⟩
abbrev main_call2_call4_c_38 : Ref sig .tc := ⟨.hbm, 1504, rfl⟩
abbrev main_call2_call4_v150 : Ref sig .tc := ⟨.hbm, 1505, rfl⟩
abbrev main_call2_call4_v151 : Ref sig .tc := ⟨.hbm, 1506, rfl⟩
abbrev main_call2_call4_c_39 : Ref sig .tc := ⟨.hbm, 1507, rfl⟩
abbrev main_call2_call4_v152 : Ref sig .tc := ⟨.hbm, 1508, rfl⟩
abbrev main_call2_call4_v153 : Ref sig .tc := ⟨.hbm, 1509, rfl⟩
abbrev main_call2_call4_v154 : Ref sig .tc := ⟨.hbm, 1510, rfl⟩
abbrev main_call2_call4_v155 : Ref sig .tc := ⟨.hbm, 1511, rfl⟩
abbrev main_call2_call4_v156 : Ref sig .tc := ⟨.hbm, 1512, rfl⟩
abbrev main_call2_call4_c_40 : Ref sig .tc := ⟨.hbm, 1513, rfl⟩
abbrev main_call2_call4_v157 : Ref sig .tc := ⟨.hbm, 1514, rfl⟩
abbrev main_call2_call4_v158 : Ref sig .tc := ⟨.hbm, 1515, rfl⟩
abbrev main_call2_call4_c_41 : Ref sig .tc := ⟨.hbm, 1516, rfl⟩
abbrev main_call2_call4_v159 : Ref sig .tc := ⟨.hbm, 1517, rfl⟩
abbrev main_call2_call4_v160 : Ref sig .tc := ⟨.hbm, 1518, rfl⟩
abbrev main_call2_call4_v161 : Ref sig .tc := ⟨.hbm, 1519, rfl⟩
abbrev main_call2_call4_v162 : Ref sig .tc := ⟨.hbm, 1520, rfl⟩
abbrev main_call2_call4_v163 : Ref sig .tc := ⟨.hbm, 1521, rfl⟩
abbrev main_call2_call4_c_42 : Ref sig .tc := ⟨.hbm, 1522, rfl⟩
abbrev main_call2_call4_v164 : Ref sig .tc := ⟨.hbm, 1523, rfl⟩
abbrev main_call2_call4_v165 : Ref sig .tc := ⟨.hbm, 1524, rfl⟩
abbrev main_call2_call4_c_43 : Ref sig .tc := ⟨.hbm, 1525, rfl⟩
abbrev main_call2_call4_v166 : Ref sig .tc := ⟨.hbm, 1526, rfl⟩
abbrev main_call2_call4_v167 : Ref sig .tc := ⟨.hbm, 1527, rfl⟩
abbrev main_call2_call4_v168 : Ref sig .tc := ⟨.hbm, 1528, rfl⟩
abbrev main_call2_call4_v169 : Ref sig .tc := ⟨.hbm, 1529, rfl⟩
abbrev main_call2_call4_v170 : Ref sig .tc := ⟨.hbm, 1530, rfl⟩
abbrev main_call2_v24_0 : Ref sig .tc := ⟨.hbm, 1531, rfl⟩
abbrev main_call2_call4_v172 : Ref sig .tc := ⟨.hbm, 1532, rfl⟩
abbrev main_call2_call4_v173 : Ref sig .tc := ⟨.hbm, 1533, rfl⟩
abbrev main_call2_call4_c_44 : Ref sig .tc := ⟨.hbm, 1534, rfl⟩
abbrev main_call2_call4_v174 : Ref sig .tc := ⟨.hbm, 1535, rfl⟩
abbrev main_call2_v24_1 : Ref sig .tc := ⟨.hbm, 1536, rfl⟩
abbrev main_call2_v25 : Ref sig .tc := ⟨.hbm, 1537, rfl⟩
abbrev main_call2_v26 : Ref sig .tc := ⟨.hbm, 1538, rfl⟩
abbrev main_call2_v27 : Ref sig .tc := ⟨.hbm, 1539, rfl⟩
abbrev main_call2_v28 : Ref sig .tc := ⟨.hbm, 1540, rfl⟩
abbrev main_call2_v29 : Ref sig .tc := ⟨.hbm, 1541, rfl⟩
abbrev main_call2_v30 : Ref sig .tc := ⟨.hbm, 1542, rfl⟩
abbrev main_call2_c_8 : Ref sig .tc := ⟨.hbm, 1543, rfl⟩
abbrev main_call2_v31 : Ref sig .tc := ⟨.hbm, 1544, rfl⟩
abbrev main_call2_v32 : Ref sig .tc := ⟨.hbm, 1545, rfl⟩
abbrev main_call2_c_9 : Ref sig .tc := ⟨.hbm, 1546, rfl⟩
abbrev main_call2_v33 : Ref sig .tc := ⟨.hbm, 1547, rfl⟩
abbrev main_call2_v34 : Ref sig .tc := ⟨.hbm, 1548, rfl⟩
abbrev main_call2_v35 : Ref sig .tc := ⟨.hbm, 1549, rfl⟩
abbrev main_call2_v36 : Ref sig .tc := ⟨.hbm, 1550, rfl⟩
abbrev main_call2_call5_v0 : Ref sig .tc := ⟨.hbm, 1551, rfl⟩
abbrev main_call2_call5_c : Ref sig .tc := ⟨.hbm, 1552, rfl⟩
abbrev main_call2_call5_v1 : Ref sig .tc := ⟨.hbm, 1553, rfl⟩
abbrev main_call2_call5_v2 : Ref sig .tc := ⟨.hbm, 1554, rfl⟩
abbrev main_call2_call5_v3 : Ref sig .tc := ⟨.hbm, 1555, rfl⟩
abbrev main_call2_call5_v4 : Ref sig .tc := ⟨.hbm, 1556, rfl⟩
abbrev main_call2_call5_v5 : Ref sig .tc := ⟨.hbm, 1557, rfl⟩
abbrev main_call2_call5_v6 : Ref sig .tc := ⟨.hbm, 1558, rfl⟩
abbrev main_call2_call5_c_0 : Ref sig .tc := ⟨.hbm, 1559, rfl⟩
abbrev main_call2_call5_v7 : Ref sig .tc := ⟨.hbm, 1560, rfl⟩
abbrev main_call2_call5_v8 : Ref sig .tc := ⟨.hbm, 1561, rfl⟩
abbrev main_call2_call5_c_1 : Ref sig .tc := ⟨.hbm, 1562, rfl⟩
abbrev main_call2_call5_v9 : Ref sig .tc := ⟨.hbm, 1563, rfl⟩
abbrev main_call2_call5_v10 : Ref sig .tc := ⟨.hbm, 1564, rfl⟩
abbrev main_call2_call5_v11 : Ref sig .tc := ⟨.hbm, 1565, rfl⟩
abbrev main_call2_call5_v12 : Ref sig .tc := ⟨.hbm, 1566, rfl⟩
abbrev main_call2_call5_v13 : Ref sig .tc := ⟨.hbm, 1567, rfl⟩
abbrev main_call2_call5_c_2 : Ref sig .tc := ⟨.hbm, 1568, rfl⟩
abbrev main_call2_call5_v14 : Ref sig .tc := ⟨.hbm, 1569, rfl⟩
abbrev main_call2_call5_v15 : Ref sig .tc := ⟨.hbm, 1570, rfl⟩
abbrev main_call2_call5_c_3 : Ref sig .tc := ⟨.hbm, 1571, rfl⟩
abbrev main_call2_call5_v16 : Ref sig .tc := ⟨.hbm, 1572, rfl⟩
abbrev main_call2_call5_v17 : Ref sig .tc := ⟨.hbm, 1573, rfl⟩
abbrev main_call2_call5_v18 : Ref sig .tc := ⟨.hbm, 1574, rfl⟩
abbrev main_call2_call5_v19 : Ref sig .tc := ⟨.hbm, 1575, rfl⟩
abbrev main_call2_call5_v20 : Ref sig .tc := ⟨.hbm, 1576, rfl⟩
abbrev main_call2_call5_c_4 : Ref sig .tc := ⟨.hbm, 1577, rfl⟩
abbrev main_call2_call5_v21 : Ref sig .tc := ⟨.hbm, 1578, rfl⟩
abbrev main_call2_call5_v22 : Ref sig .tc := ⟨.hbm, 1579, rfl⟩
abbrev main_call2_call5_c_5 : Ref sig .tc := ⟨.hbm, 1580, rfl⟩
abbrev main_call2_call5_v23 : Ref sig .tc := ⟨.hbm, 1581, rfl⟩
abbrev main_call2_call5_v24 : Ref sig .tc := ⟨.hbm, 1582, rfl⟩
abbrev main_call2_call5_v25 : Ref sig .tc := ⟨.hbm, 1583, rfl⟩
abbrev main_call2_call5_v26 : Ref sig .tc := ⟨.hbm, 1584, rfl⟩
abbrev main_call2_call5_v27 : Ref sig .tc := ⟨.hbm, 1585, rfl⟩
abbrev main_call2_call5_c_6 : Ref sig .tc := ⟨.hbm, 1586, rfl⟩
abbrev main_call2_call5_v28 : Ref sig .tc := ⟨.hbm, 1587, rfl⟩
abbrev main_call2_call5_v29 : Ref sig .tc := ⟨.hbm, 1588, rfl⟩
abbrev main_call2_call5_c_7 : Ref sig .tc := ⟨.hbm, 1589, rfl⟩
abbrev main_call2_call5_v30 : Ref sig .tc := ⟨.hbm, 1590, rfl⟩
abbrev main_call2_call5_v31 : Ref sig .tc := ⟨.hbm, 1591, rfl⟩
abbrev main_call2_call5_v32 : Ref sig .tc := ⟨.hbm, 1592, rfl⟩
abbrev main_call2_call5_v33 : Ref sig .tc := ⟨.hbm, 1593, rfl⟩
abbrev main_call2_call5_v34 : Ref sig .tc := ⟨.hbm, 1594, rfl⟩
abbrev main_call2_call5_v35 : Ref sig .tc := ⟨.hbm, 1595, rfl⟩
abbrev main_call2_call5_v36 : Ref sig .tc := ⟨.hbm, 1596, rfl⟩
abbrev main_call2_call5_v37 : Ref sig .tc := ⟨.hbm, 1597, rfl⟩
abbrev main_call2_call5_c_8 : Ref sig .tc := ⟨.hbm, 1598, rfl⟩
abbrev main_call2_call5_v38 : Ref sig .tc := ⟨.hbm, 1599, rfl⟩
abbrev main_call2_call5_v39 : Ref sig .tc := ⟨.hbm, 1600, rfl⟩
abbrev main_call2_call5_v40 : Ref sig .tc := ⟨.hbm, 1601, rfl⟩
abbrev main_call2_call5_c_9 : Ref sig .tc := ⟨.hbm, 1602, rfl⟩
abbrev main_call2_call5_v41 : Ref sig .tc := ⟨.hbm, 1603, rfl⟩
abbrev main_call2_call5_v42 : Ref sig .tc := ⟨.hbm, 1604, rfl⟩
abbrev main_call2_call5_c_10 : Ref sig .tc := ⟨.hbm, 1605, rfl⟩
abbrev main_call2_call5_v43 : Ref sig .tc := ⟨.hbm, 1606, rfl⟩
abbrev main_call2_call5_v44 : Ref sig .tc := ⟨.hbm, 1607, rfl⟩
abbrev main_call2_call5_v45 : Ref sig .tc := ⟨.hbm, 1608, rfl⟩
abbrev main_call2_call5_v46 : Ref sig .tc := ⟨.hbm, 1609, rfl⟩
abbrev main_call2_call5_v47 : Ref sig .tc := ⟨.hbm, 1610, rfl⟩
abbrev main_call2_call5_c_11 : Ref sig .tc := ⟨.hbm, 1611, rfl⟩
abbrev main_call2_call5_v48 : Ref sig .tc := ⟨.hbm, 1612, rfl⟩
abbrev main_call2_call5_v49 : Ref sig .tc := ⟨.hbm, 1613, rfl⟩
abbrev main_call2_call5_c_12 : Ref sig .tc := ⟨.hbm, 1614, rfl⟩
abbrev main_call2_call5_v50 : Ref sig .tc := ⟨.hbm, 1615, rfl⟩
abbrev main_call2_call5_v51 : Ref sig .tc := ⟨.hbm, 1616, rfl⟩
abbrev main_call2_call5_v52 : Ref sig .tc := ⟨.hbm, 1617, rfl⟩
abbrev main_call2_call5_v53 : Ref sig .tc := ⟨.hbm, 1618, rfl⟩
abbrev main_call2_call5_v54 : Ref sig .tc := ⟨.hbm, 1619, rfl⟩
abbrev main_call2_call5_c_13 : Ref sig .tc := ⟨.hbm, 1620, rfl⟩
abbrev main_call2_call5_v55 : Ref sig .tc := ⟨.hbm, 1621, rfl⟩
abbrev main_call2_call5_v56 : Ref sig .tc := ⟨.hbm, 1622, rfl⟩
abbrev main_call2_call5_c_14 : Ref sig .tc := ⟨.hbm, 1623, rfl⟩
abbrev main_call2_call5_v57 : Ref sig .tc := ⟨.hbm, 1624, rfl⟩
abbrev main_call2_call5_v58 : Ref sig .tc := ⟨.hbm, 1625, rfl⟩
abbrev main_call2_call5_v59 : Ref sig .tc := ⟨.hbm, 1626, rfl⟩
abbrev main_call2_call5_v60 : Ref sig .tc := ⟨.hbm, 1627, rfl⟩
abbrev main_call2_call5_v61 : Ref sig .tc := ⟨.hbm, 1628, rfl⟩
abbrev main_call2_call5_c_15 : Ref sig .tc := ⟨.hbm, 1629, rfl⟩
abbrev main_call2_call5_v62 : Ref sig .tc := ⟨.hbm, 1630, rfl⟩
abbrev main_call2_call5_v63 : Ref sig .tc := ⟨.hbm, 1631, rfl⟩
abbrev main_call2_call5_c_16 : Ref sig .tc := ⟨.hbm, 1632, rfl⟩
abbrev main_call2_call5_v64 : Ref sig .tc := ⟨.hbm, 1633, rfl⟩
abbrev main_call2_call5_v65 : Ref sig .tc := ⟨.hbm, 1634, rfl⟩
abbrev main_call2_call5_v66 : Ref sig .tc := ⟨.hbm, 1635, rfl⟩
abbrev main_call2_call5_v67 : Ref sig .tc := ⟨.hbm, 1636, rfl⟩
abbrev main_call2_call5_v68 : Ref sig .tc := ⟨.hbm, 1637, rfl⟩
abbrev main_call2_call5_v69 : Ref sig .tc := ⟨.hbm, 1638, rfl⟩
abbrev main_call2_call5_v70 : Ref sig .tc := ⟨.hbm, 1639, rfl⟩
abbrev main_call2_call5_v71 : Ref sig .tc := ⟨.hbm, 1640, rfl⟩
abbrev main_call2_call5_c_17 : Ref sig .tc := ⟨.hbm, 1641, rfl⟩
abbrev main_call2_call5_v72 : Ref sig .tc := ⟨.hbm, 1642, rfl⟩
abbrev main_call2_call5_v73 : Ref sig .tc := ⟨.hbm, 1643, rfl⟩
abbrev main_call2_call5_v74 : Ref sig .tc := ⟨.hbm, 1644, rfl⟩
abbrev main_call2_call5_c_18 : Ref sig .tc := ⟨.hbm, 1645, rfl⟩
abbrev main_call2_call5_v75 : Ref sig .tc := ⟨.hbm, 1646, rfl⟩
abbrev main_call2_call5_v76 : Ref sig .tc := ⟨.hbm, 1647, rfl⟩
abbrev main_call2_call5_c_19 : Ref sig .tc := ⟨.hbm, 1648, rfl⟩
abbrev main_call2_call5_v77 : Ref sig .tc := ⟨.hbm, 1649, rfl⟩
abbrev main_call2_call5_v78 : Ref sig .tc := ⟨.hbm, 1650, rfl⟩
abbrev main_call2_call5_v79 : Ref sig .tc := ⟨.hbm, 1651, rfl⟩
abbrev main_call2_call5_v80 : Ref sig .tc := ⟨.hbm, 1652, rfl⟩
abbrev main_call2_call5_v81 : Ref sig .tc := ⟨.hbm, 1653, rfl⟩
abbrev main_call2_call5_c_20 : Ref sig .tc := ⟨.hbm, 1654, rfl⟩
abbrev main_call2_call5_v82 : Ref sig .tc := ⟨.hbm, 1655, rfl⟩
abbrev main_call2_call5_v83 : Ref sig .tc := ⟨.hbm, 1656, rfl⟩
abbrev main_call2_call5_c_21 : Ref sig .tc := ⟨.hbm, 1657, rfl⟩
abbrev main_call2_call5_v84 : Ref sig .tc := ⟨.hbm, 1658, rfl⟩
abbrev main_call2_call5_v85 : Ref sig .tc := ⟨.hbm, 1659, rfl⟩
abbrev main_call2_call5_v86 : Ref sig .tc := ⟨.hbm, 1660, rfl⟩
abbrev main_call2_call5_v87 : Ref sig .tc := ⟨.hbm, 1661, rfl⟩
abbrev main_call2_call5_v88 : Ref sig .tc := ⟨.hbm, 1662, rfl⟩
abbrev main_call2_call5_c_22 : Ref sig .tc := ⟨.hbm, 1663, rfl⟩
abbrev main_call2_call5_v89 : Ref sig .tc := ⟨.hbm, 1664, rfl⟩
abbrev main_call2_call5_v90 : Ref sig .tc := ⟨.hbm, 1665, rfl⟩
abbrev main_call2_call5_c_23 : Ref sig .tc := ⟨.hbm, 1666, rfl⟩
abbrev main_call2_call5_v91 : Ref sig .tc := ⟨.hbm, 1667, rfl⟩
abbrev main_call2_call5_v92 : Ref sig .tc := ⟨.hbm, 1668, rfl⟩
abbrev main_call2_call5_v93 : Ref sig .tc := ⟨.hbm, 1669, rfl⟩
abbrev main_call2_call5_v94 : Ref sig .tc := ⟨.hbm, 1670, rfl⟩
abbrev main_call2_call5_v95 : Ref sig .tc := ⟨.hbm, 1671, rfl⟩
abbrev main_call2_call5_c_24 : Ref sig .tc := ⟨.hbm, 1672, rfl⟩
abbrev main_call2_call5_v96 : Ref sig .tc := ⟨.hbm, 1673, rfl⟩
abbrev main_call2_call5_v97 : Ref sig .tc := ⟨.hbm, 1674, rfl⟩
abbrev main_call2_call5_c_25 : Ref sig .tc := ⟨.hbm, 1675, rfl⟩
abbrev main_call2_call5_v98 : Ref sig .tc := ⟨.hbm, 1676, rfl⟩
abbrev main_call2_call5_v99 : Ref sig .tc := ⟨.hbm, 1677, rfl⟩
abbrev main_call2_call5_v100 : Ref sig .tc := ⟨.hbm, 1678, rfl⟩
abbrev main_call2_call5_v101 : Ref sig .tc := ⟨.hbm, 1679, rfl⟩
abbrev main_call2_call5_v102 : Ref sig .tc := ⟨.hbm, 1680, rfl⟩
abbrev main_call2_call5_v103 : Ref sig .tc := ⟨.hbm, 1681, rfl⟩
abbrev main_call2_call5_v104 : Ref sig .tc := ⟨.hbm, 1682, rfl⟩
abbrev main_call2_call5_v105 : Ref sig .tc := ⟨.hbm, 1683, rfl⟩
abbrev main_call2_call5_c_26 : Ref sig .tc := ⟨.hbm, 1684, rfl⟩
abbrev main_call2_call5_v106 : Ref sig .tc := ⟨.hbm, 1685, rfl⟩
abbrev main_call2_call5_v107 : Ref sig .tc := ⟨.hbm, 1686, rfl⟩
abbrev main_call2_call5_v108 : Ref sig .tc := ⟨.hbm, 1687, rfl⟩
abbrev main_call2_call5_c_27 : Ref sig .tc := ⟨.hbm, 1688, rfl⟩
abbrev main_call2_call5_v109 : Ref sig .tc := ⟨.hbm, 1689, rfl⟩
abbrev main_call2_call5_v110 : Ref sig .tc := ⟨.hbm, 1690, rfl⟩
abbrev main_call2_call5_c_28 : Ref sig .tc := ⟨.hbm, 1691, rfl⟩
abbrev main_call2_call5_v111 : Ref sig .tc := ⟨.hbm, 1692, rfl⟩
abbrev main_call2_call5_v112 : Ref sig .tc := ⟨.hbm, 1693, rfl⟩
abbrev main_call2_call5_v113 : Ref sig .tc := ⟨.hbm, 1694, rfl⟩
abbrev main_call2_call5_v114 : Ref sig .tc := ⟨.hbm, 1695, rfl⟩
abbrev main_call2_call5_v115 : Ref sig .tc := ⟨.hbm, 1696, rfl⟩
abbrev main_call2_call5_c_29 : Ref sig .tc := ⟨.hbm, 1697, rfl⟩
abbrev main_call2_call5_v116 : Ref sig .tc := ⟨.hbm, 1698, rfl⟩
abbrev main_call2_call5_v117 : Ref sig .tc := ⟨.hbm, 1699, rfl⟩
abbrev main_call2_call5_c_30 : Ref sig .tc := ⟨.hbm, 1700, rfl⟩
abbrev main_call2_call5_v118 : Ref sig .tc := ⟨.hbm, 1701, rfl⟩
abbrev main_call2_call5_v119 : Ref sig .tc := ⟨.hbm, 1702, rfl⟩
abbrev main_call2_call5_v120 : Ref sig .tc := ⟨.hbm, 1703, rfl⟩
abbrev main_call2_call5_v121 : Ref sig .tc := ⟨.hbm, 1704, rfl⟩
abbrev main_call2_call5_v122 : Ref sig .tc := ⟨.hbm, 1705, rfl⟩
abbrev main_call2_call5_c_31 : Ref sig .tc := ⟨.hbm, 1706, rfl⟩
abbrev main_call2_call5_v123 : Ref sig .tc := ⟨.hbm, 1707, rfl⟩
abbrev main_call2_call5_v124 : Ref sig .tc := ⟨.hbm, 1708, rfl⟩
abbrev main_call2_call5_c_32 : Ref sig .tc := ⟨.hbm, 1709, rfl⟩
abbrev main_call2_call5_v125 : Ref sig .tc := ⟨.hbm, 1710, rfl⟩
abbrev main_call2_call5_v126 : Ref sig .tc := ⟨.hbm, 1711, rfl⟩
abbrev main_call2_call5_v127 : Ref sig .tc := ⟨.hbm, 1712, rfl⟩
abbrev main_call2_call5_v128 : Ref sig .tc := ⟨.hbm, 1713, rfl⟩
abbrev main_call2_call5_v129 : Ref sig .tc := ⟨.hbm, 1714, rfl⟩
abbrev main_call2_call5_c_33 : Ref sig .tc := ⟨.hbm, 1715, rfl⟩
abbrev main_call2_call5_v130 : Ref sig .tc := ⟨.hbm, 1716, rfl⟩
abbrev main_call2_call5_v131 : Ref sig .tc := ⟨.hbm, 1717, rfl⟩
abbrev main_call2_call5_c_34 : Ref sig .tc := ⟨.hbm, 1718, rfl⟩
abbrev main_call2_call5_v132 : Ref sig .tc := ⟨.hbm, 1719, rfl⟩
abbrev main_call2_call5_v133 : Ref sig .tc := ⟨.hbm, 1720, rfl⟩
abbrev main_call2_call5_v134 : Ref sig .tc := ⟨.hbm, 1721, rfl⟩
abbrev main_call2_call5_v135 : Ref sig .tc := ⟨.hbm, 1722, rfl⟩
abbrev main_call2_call5_v136 : Ref sig .tc := ⟨.hbm, 1723, rfl⟩
abbrev main_call2_call5_v137 : Ref sig .tc := ⟨.hbm, 1724, rfl⟩
abbrev main_call2_call5_v138 : Ref sig .tc := ⟨.hbm, 1725, rfl⟩
abbrev main_call2_call5_v139 : Ref sig .tc := ⟨.hbm, 1726, rfl⟩
abbrev main_call2_call5_c_35 : Ref sig .tc := ⟨.hbm, 1727, rfl⟩
abbrev main_call2_call5_v140 : Ref sig .tc := ⟨.hbm, 1728, rfl⟩
abbrev main_call2_call5_v141 : Ref sig .tc := ⟨.hbm, 1729, rfl⟩
abbrev main_call2_call5_v142 : Ref sig .tc := ⟨.hbm, 1730, rfl⟩
abbrev main_call2_call5_c_36 : Ref sig .tc := ⟨.hbm, 1731, rfl⟩
abbrev main_call2_call5_v143 : Ref sig .tc := ⟨.hbm, 1732, rfl⟩
abbrev main_call2_call5_v144 : Ref sig .tc := ⟨.hbm, 1733, rfl⟩
abbrev main_call2_call5_c_37 : Ref sig .tc := ⟨.hbm, 1734, rfl⟩
abbrev main_call2_call5_v145 : Ref sig .tc := ⟨.hbm, 1735, rfl⟩
abbrev main_call2_call5_v146 : Ref sig .tc := ⟨.hbm, 1736, rfl⟩
abbrev main_call2_call5_v147 : Ref sig .tc := ⟨.hbm, 1737, rfl⟩
abbrev main_call2_call5_v148 : Ref sig .tc := ⟨.hbm, 1738, rfl⟩
abbrev main_call2_call5_v149 : Ref sig .tc := ⟨.hbm, 1739, rfl⟩
abbrev main_call2_call5_c_38 : Ref sig .tc := ⟨.hbm, 1740, rfl⟩
abbrev main_call2_call5_v150 : Ref sig .tc := ⟨.hbm, 1741, rfl⟩
abbrev main_call2_call5_v151 : Ref sig .tc := ⟨.hbm, 1742, rfl⟩
abbrev main_call2_call5_c_39 : Ref sig .tc := ⟨.hbm, 1743, rfl⟩
abbrev main_call2_call5_v152 : Ref sig .tc := ⟨.hbm, 1744, rfl⟩
abbrev main_call2_call5_v153 : Ref sig .tc := ⟨.hbm, 1745, rfl⟩
abbrev main_call2_call5_v154 : Ref sig .tc := ⟨.hbm, 1746, rfl⟩
abbrev main_call2_call5_v155 : Ref sig .tc := ⟨.hbm, 1747, rfl⟩
abbrev main_call2_call5_v156 : Ref sig .tc := ⟨.hbm, 1748, rfl⟩
abbrev main_call2_call5_c_40 : Ref sig .tc := ⟨.hbm, 1749, rfl⟩
abbrev main_call2_call5_v157 : Ref sig .tc := ⟨.hbm, 1750, rfl⟩
abbrev main_call2_call5_v158 : Ref sig .tc := ⟨.hbm, 1751, rfl⟩
abbrev main_call2_call5_c_41 : Ref sig .tc := ⟨.hbm, 1752, rfl⟩
abbrev main_call2_call5_v159 : Ref sig .tc := ⟨.hbm, 1753, rfl⟩
abbrev main_call2_call5_v160 : Ref sig .tc := ⟨.hbm, 1754, rfl⟩
abbrev main_call2_call5_v161 : Ref sig .tc := ⟨.hbm, 1755, rfl⟩
abbrev main_call2_call5_v162 : Ref sig .tc := ⟨.hbm, 1756, rfl⟩
abbrev main_call2_call5_v163 : Ref sig .tc := ⟨.hbm, 1757, rfl⟩
abbrev main_call2_call5_c_42 : Ref sig .tc := ⟨.hbm, 1758, rfl⟩
abbrev main_call2_call5_v164 : Ref sig .tc := ⟨.hbm, 1759, rfl⟩
abbrev main_call2_call5_v165 : Ref sig .tc := ⟨.hbm, 1760, rfl⟩
abbrev main_call2_call5_c_43 : Ref sig .tc := ⟨.hbm, 1761, rfl⟩
abbrev main_call2_call5_v166 : Ref sig .tc := ⟨.hbm, 1762, rfl⟩
abbrev main_call2_call5_v167 : Ref sig .tc := ⟨.hbm, 1763, rfl⟩
abbrev main_call2_call5_v168 : Ref sig .tc := ⟨.hbm, 1764, rfl⟩
abbrev main_call2_call5_v169 : Ref sig .tc := ⟨.hbm, 1765, rfl⟩
abbrev main_call2_call5_v170 : Ref sig .tc := ⟨.hbm, 1766, rfl⟩
abbrev main_call2_v37_0 : Ref sig .tc := ⟨.hbm, 1767, rfl⟩
abbrev main_call2_call5_v172 : Ref sig .tc := ⟨.hbm, 1768, rfl⟩
abbrev main_call2_call5_v173 : Ref sig .tc := ⟨.hbm, 1769, rfl⟩
abbrev main_call2_call5_c_44 : Ref sig .tc := ⟨.hbm, 1770, rfl⟩
abbrev main_call2_call5_v174 : Ref sig .tc := ⟨.hbm, 1771, rfl⟩
abbrev main_call2_v37_1 : Ref sig .tc := ⟨.hbm, 1772, rfl⟩
abbrev main_call2_v38 : Ref sig .tc := ⟨.hbm, 1773, rfl⟩
abbrev main_call2_v39 : Ref sig .tc := ⟨.hbm, 1774, rfl⟩
abbrev main_call2_v40 : Ref sig .tc := ⟨.hbm, 1775, rfl⟩
abbrev main_call2_v41 : Ref sig .tc := ⟨.hbm, 1776, rfl⟩
abbrev main_call2_c_10 : Ref sig .tc := ⟨.hbm, 1777, rfl⟩
abbrev main_call2_v42 : Ref sig .tc := ⟨.hbm, 1778, rfl⟩
abbrev main_call2_v43 : Ref sig .tc := ⟨.hbm, 1779, rfl⟩
abbrev main_call2_v44 : Ref sig .tc := ⟨.hbm, 1780, rfl⟩
abbrev main_call2_v45 : Ref sig .tc := ⟨.hbm, 1781, rfl⟩
abbrev main_call2_v46 : Ref sig .tc := ⟨.hbm, 1782, rfl⟩
abbrev main_call2_c_11 : Ref sig .tc := ⟨.hbm, 1783, rfl⟩
abbrev main_call2_v47 : Ref sig .tc := ⟨.hbm, 1784, rfl⟩
abbrev main_call2_v48 : Ref sig .tc := ⟨.hbm, 1785, rfl⟩
abbrev main_call2_v49 : Ref sig .tc := ⟨.hbm, 1786, rfl⟩
abbrev main_call2_c_12 : Ref sig .tc := ⟨.hbm, 1787, rfl⟩
abbrev main_call2_v50 : Ref sig .tc := ⟨.hbm, 1788, rfl⟩
abbrev main_call2_v51 : Ref sig .tc := ⟨.hbm, 1789, rfl⟩
abbrev main_call2_v52 : Ref sig .tc := ⟨.hbm, 1790, rfl⟩
abbrev main_call2_v53 : Ref sig .tc := ⟨.hbm, 1791, rfl⟩
abbrev main_call2_v54 : Ref sig .tc := ⟨.hbm, 1792, rfl⟩
abbrev main_call2_v55 : Ref sig .tc := ⟨.hbm, 1793, rfl⟩
abbrev main_call2_v56 : Ref sig .tc := ⟨.hbm, 1794, rfl⟩
abbrev main_call2_v57 : Ref sig .tc := ⟨.hbm, 1795, rfl⟩
abbrev main_call2_v58 : Ref sig .tc := ⟨.hbm, 1796, rfl⟩
abbrev main_call2_v59 : Ref sig .tc := ⟨.hbm, 1797, rfl⟩
abbrev main_call2_v60 : Ref sig .tc := ⟨.hbm, 1798, rfl⟩
abbrev main_call2_v61 : Ref sig .tc := ⟨.hbm, 1799, rfl⟩
abbrev main_call2_v62 : Ref sig .tc := ⟨.hbm, 1800, rfl⟩
abbrev main_call2_v63 : Ref sig .tc := ⟨.hbm, 1801, rfl⟩
abbrev main_call2_v64 : Ref sig .tc := ⟨.hbm, 1802, rfl⟩
abbrev main_v30 : Ref sig .tc := ⟨.hbm, 1803, rfl⟩
abbrev main_cst_11 : Ref sig .tc := ⟨.hbm, 1804, rfl⟩
abbrev main_v31 : Ref sig .tc := ⟨.hbm, 1805, rfl⟩
abbrev main_c_12 : Ref sig .tc := ⟨.hbm, 1806, rfl⟩
abbrev main_v32 : Ref sig .tc := ⟨.hbm, 1807, rfl⟩
abbrev main_v33 : Ref sig .tc := ⟨.hbm, 1808, rfl⟩
abbrev main_c_13 : Ref sig .tc := ⟨.hbm, 1809, rfl⟩
abbrev main_v34 : Ref sig .tc := ⟨.hbm, 1810, rfl⟩
abbrev main_v35 : Ref sig .tc := ⟨.hbm, 1811, rfl⟩
abbrev main_v36 : Ref sig .tc := ⟨.hbm, 1812, rfl⟩
abbrev main_c_14 : Ref sig .tc := ⟨.hbm, 1813, rfl⟩
abbrev main_v37 : Ref sig .tc := ⟨.hbm, 1814, rfl⟩
abbrev main_v38 : Ref sig .tc := ⟨.hbm, 1815, rfl⟩
abbrev main_c_15 : Ref sig .tc := ⟨.hbm, 1816, rfl⟩
abbrev main_v39 : Ref sig .tc := ⟨.hbm, 1817, rfl⟩
abbrev main_v40 : Ref sig .tc := ⟨.hbm, 1818, rfl⟩
abbrev main_v41 : Ref sig .tc := ⟨.hbm, 1819, rfl⟩
abbrev main_v42 : Ref sig .tc := ⟨.hbm, 1820, rfl⟩
abbrev main_v43 : Ref sig .tc := ⟨.hbm, 1821, rfl⟩
abbrev main_v44 : Ref sig .tc := ⟨.hbm, 1822, rfl⟩
abbrev main_cst_16 : Ref sig .tc := ⟨.hbm, 1823, rfl⟩
abbrev main_v45 : Ref sig .tc := ⟨.hbm, 1824, rfl⟩
abbrev main_v46 : Ref sig .tc := ⟨.hbm, 1825, rfl⟩

abbrev nD : Nat := 1
abbrev τ : Topo := Topo.v7x

variable {F : FTy → Type} [FloatOps F]
-- ==== Proof.Transfer.lean ====
module

public import proofs.«01_k».proof.Defs
public import proofs.«01_k».proof.Proof.Gen.Kernel.Regions
public import proofs.«01_k».proof.Proof.Gen.KernelIdeal.Regions

@[expose] public section

noncomputable section

namespace Cert.Proof

open Idealize.ShloMosaic Idealize.SL.Sem

/-- What the ideal print's program does at an instance of the float operations: from every start it ends with its
argument unchanged and every semaphore counter zero. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

/-- The two prints of the kernel are one program. -/
theorem frame_eq : quiescent_Kernel = FrameAt Bits := by chain_rfl

end Cert.Proof
-- ==== Proof.RngRun.lean ====
/-
  The drawing kernel (`cc0__rng_kernel`, no grid): the two arrays it stores as terms over its printed values, and the
  run of its body from any contents of its two result buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first draw's high words: the first block cipher of the body, on the counters. -/
def hiA : IVec S8x128 32 :=
  let u := k0_pay26 k0_pay12 k0_pay13 k0_pay14
  let v := k0_pay27 k0_pay12 k0_pay13 k0_pay14
  let w := k0_pay28 k0_pay12 k0_pay13 k0_pay14
  k0_pay41 (k0_pay39 u v w) (k0_pay40 u v w)

/-- The first draw's low words: the second block cipher. -/
def loA : IVec S8x128 32 :=
  let a := k0_pay44 k0_pay2
  let b := k0_pay45 k0_pay2
  let d := k0_pay46 k0_pay2
  let u := k0_pay57 a b d
  let v := k0_pay58 a b d
  let w := k0_pay59 a b d
  let x := k0_pay69 u v w
  let y := k0_pay70 u v w
  let z := k0_pay71 u v w
  k0_pay86 (k0_pay83 x y z) (k0_pay84 x y z) (k0_pay85 x y z)

/-- The first draw from its high and low words: the remainder by 18, by conditional subtractions. -/
def outA (hi lo : IVec S8x128 32) : IVec S8x128 32 :=
  let a := k0_pay90 (k0_pay87 hi)
  let b := k0_pay91
  let d := k0_pay96 lo
  let e := k0_pay97 lo
  k0_pay105 (k0_pay95 (k0_pay89 (k0_pay88 hi) 1152#32) (k0_pay92 a b) (k0_pay93 a b) (k0_pay94 a b))
    (k0_pay104 (k0_pay100 (k0_pay98 d) (k0_pay99 d) 144#32) (k0_pay101 e) (k0_pay102 e) k0_pay103) 144#32

/-- The second draw's high words: the third block cipher. -/
def hiL : IVec S8x128 32 :=
  let a := k0_pay118 (k0_pay106 k0_pay2) (k0_pay107 k0_pay2) 13#32
  let b := k0_pay119 (k0_pay106 k0_pay2) (k0_pay107 k0_pay2) 13#32
  let u := k0_pay129 a b 16#32
  let v := k0_pay130 a b 16#32
  k0_pay145 (k0_pay142 u v k0_pay131) (k0_pay143 u v k0_pay131) (k0_pay144 u v k0_pay131) 17#32

/-- The second draw's low words: the fourth block cipher. -/
def loL : IVec S8x128 32 :=
  let a := k0_pay163 (k0_pay151 k0_pay2) (k0_pay152 k0_pay2)
  let b := k0_pay164 (k0_pay151 k0_pay2) (k0_pay152 k0_pay2)
  let u := k0_pay175 a b 13#32
  let v := k0_pay176 a b 13#32
  k0_pay189 (k0_pay186 u v 16#32) (k0_pay187 u v 16#32) k0_pay188

/-- The second draw from its high and low words: the remainder by 32000, by conditional subtractions. -/
def outL (hi lo : IVec S8x128 32) : IVec S8x128 32 :=
  let a := k0_pay197 (k0_pay193 (k0_pay192 (k0_pay190 hi) (k0_pay191 hi))) (k0_pay194 lo) (k0_pay195 lo) k0_pay196
  let b := k0_pay198 a 524288000#32
  let d := k0_pay199 a 524288000#32
  k0_pay1 (k0_pay201 b d k0_pay200) (k0_pay202 b d k0_pay200)

/-- A store through the whole rectangle of a shape, from any contents, leaves the stored value. -/
theorem read_store_whole {s : Shape} {e : EltTy} {sp : Space} {off : Fin s.rank → Nat} (h : off = fun _ => 0)
    (inb : ∀ a, off a + s.size a ≤ s.size a) (M : Memref sig .tc sp s e) (f : M.view.ty.Contents (Elt F)) (p : s.Idx → Elt F e) :
    M.view.read (Elt F) (M.view.writes (Elt F) f [⟨Rect.unit (s := s) off s.size inb, p⟩]) = p := by
  refine (View.read_writes_eq_canon _ _ _ fun y => ⟨_, List.mem_singleton_self _, ?_⟩).trans (View.canon_unit_zero h inb p)
  subst h
  exact (Rect.set_whole s).symm ▸ Finset.mem_univ y

/-- A load through the whole rectangle of a shape reads what the buffer was given. -/
theorem readAt_whole {s : Shape} {e : EltTy} {sp : Space} {off : Fin s.rank → Nat} (h : off = fun _ => 0)
    (inb : ∀ a, off a + s.size a ≤ s.size a) (M : Memref sig .tc sp s e) (f : M.view.ty.Contents (Elt F)) (x : s.Idx → Elt F e)
    (hf : M.view.read (Elt F) f = x) :
    View.readAt (Elt F) M.view (Rect.unit (s := s) off s.size inb).toLoadRect f = x :=
  (show _ = View.ld (M.view.read (Elt F) f) (Rect.unit (s := s) off s.size inb) from rfl).trans ((View.ld_unit_zero h inb _).trans hf)

/-- The two offsets are zero. -/
theorem off_zero : (![0, 0] : Fin 2 → Nat) = fun _ => 0 := by decide

set_option maxHeartbeats 1063850 in
/-- The drawing body, on whole result buffers at anything, runs to the continuation holding the first draw in the first
buffer and the second draw in the second. -/
theorem rng_triple (c : Dev nD) (E : Set ℕ) (arg0 : Memref sig .tc .vmem S8x128 .i32) (harg0 : arg0.IsWhole) (arg1 : Memref sig .tc .vmem S8x128 .i32) (harg1 : arg1.IsWhole)
     (K : PUnit → sProp 𝕄) :
    iprop((∃ d, owns (c : Thread nD τ) arg0 fullShare d) ∗ (∃ d, owns (c : Thread nD τ) arg1 fullShare d)
        ∗ (iprop(owns (c : Thread nD τ) arg0 fullShare (outA hiA loA) ∗ owns (c : Thread nD τ) arg1 fullShare (outL hiL loL)) -∗ K ⟨⟩))
      ⊢ wp frame (wpE (defs₀ (F := F)) Variants.none c none) E (cc0__rng_kernel arg0 harg0 arg1 harg1) K := by
  simp only [cc0__rng_kernel_eq_skeleton]; unfold cc0__rng_kernel_skel
  simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%d0, %f0, -, H0⟩, ⟨%d1, %f1, -, H1⟩, Hk⟩
  sl_exec
  sl_step
  iapply Hk
  isplitl [H0]
  · iexists _; isplitr
    swap; · iexact H0
    ipureintro
    exact read_store_whole off_zero _ arg0 f0 _
  iexists _; isplitr
  swap; · iexact H1
  ipureintro
  exact read_store_whole off_zero _ arg1 f1 _

end Cert.Proof

end
-- ==== Proof.HotRun.lean ====
/-
  The indicator kernel (`cc1__onehot_kernel`, 25 points over blocks of 1280 columns): the run of its body at the first
  point, where both results are stored, and at a later point, where only the second is.
-/
module

public import proofs.«01_k».proof.Proof.RngRun
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first result is stored at the first point only. -/
theorem first_iff : ∀ t : Fin cfg1.N, k1_cond1 (grid1.coords t) = 1#1 ↔ t.val = 0 :=
  (fun t => by
    have ht : t.val < 25 := Nat.lt_of_lt_of_eq t.isLt N_1
    have e0 : (grid1.coords t 0).val = t.val / 1 % 25 := Pipeline.Grid.coords_val t 0 (by decide) rfl
    simp only [k1_cond1, e0]
    word_cmp
   : ∀ t : Fin grid1.N, k1_cond1 (grid1.coords t) = 1#1 ↔ t.val = 0)

set_option maxHeartbeats 1000000 in
/-- At the first point: from the two drawn columns in their buffers, the body leaves the first column's indicator in the
first result's buffer and the second column's indicator over this block in the second result's. -/
theorem hot_triple_first (c : Dev nD) (i : grid1.Coords) (arg1 : Memref sig .tc .vmem S1024x1 .i32) (harg1 : arg1.IsWhole) (arg2 : Memref sig .tc .vmem S1024x1 .i32) (harg2 : arg2.IsWhole) (arg3 : Memref sig .tc .vmem S1024x18 .f32) (harg3 : arg3.IsWhole) (arg4 : Memref sig .tc .vmem S1024x1280 .f32) (harg4 : arg4.IsWhole) (hc0 : k1_cond1 i = 1#1)
    (x0 : Vec F S1024x1 .i32) (x1 : Vec F S1024x1 .i32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k1_pay2 x0) ∗ owns (c : Thread nD τ) arg4 fullShare (k1_pay1 i x1)) -∗ K ⟨⟩))
      ⊢ wp frame (wpE (defs₀ (F := F)) Variants.none c none) E (cc1__onehot_kernel i arg1 harg1 arg2 harg2 arg3 harg3 arg4 harg4) K := by
  simp only [cc1__onehot_kernel_eq_skeleton]; unfold cc1__onehot_kernel_skel
  unfold owns
  iintro ⟨⟨%f0, %hf0, H0⟩, ⟨%f1, %hf1, H1⟩, ⟨%d2, %f2, -, H2⟩, ⟨%d3, %f3, -, H3⟩, Hk⟩
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    exact (read_store_whole off_zero _ arg3 f2 _).trans (congrArg k1_pay2 (readAt_whole off_zero _ arg1 _ x0 hf0))
  iexists _; isplitr; swap; · iexact H3
  ipureintro
  exact (read_store_whole off_zero _ arg4 f3 _).trans (congrArg (k1_pay1 i) (readAt_whole off_zero _ arg2 _ x1 hf1))

set_option maxHeartbeats 1000000 in
/-- At a later point: the first result's buffer stays as it was, and the second result's is left with the second
column's indicator over this block. -/
theorem hot_triple_later (c : Dev nD) (i : grid1.Coords) (arg1 : Memref sig .tc .vmem S1024x1 .i32) (harg1 : arg1.IsWhole) (arg2 : Memref sig .tc .vmem S1024x1 .i32) (harg2 : arg2.IsWhole) (arg3 : Memref sig .tc .vmem S1024x18 .f32) (harg3 : arg3.IsWhole) (arg4 : Memref sig .tc .vmem S1024x1280 .f32) (harg4 : arg4.IsWhole) (hc0 : ¬ k1_cond1 i = 1#1)
    (x0 : Vec F S1024x1 .i32) (x1 : Vec F S1024x1 .i32) (x2 : Vec F S1024x18 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k1_pay1 i x1)) -∗ K ⟨⟩))
      ⊢ wp frame (wpE (defs₀ (F := F)) Variants.none c none) E (cc1__onehot_kernel i arg1 harg1 arg2 harg2 arg3 harg3 arg4 harg4) K := by
  simp only [cc1__onehot_kernel_eq_skeleton]; unfold cc1__onehot_kernel_skel
  unfold owns
  iintro ⟨⟨%f0, %hf0, H0⟩, ⟨%f1, %hf1, H1⟩, ⟨%f2, %hf2, H2⟩, ⟨%d3, %f3, -, H3⟩, Hk⟩
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H3
  ipureintro
  exact (read_store_whole off_zero _ arg4 f3 _).trans (congrArg (k1_pay1 i) (readAt_whole off_zero _ arg2 _ x1 hf1))

end Cert.Proof

end
-- ==== Proof.KernelRun.lean ====
/-
  The run of the kernel program: the drawing region, the two reshapes of its results, the indicator region. What every
  final state holds, over any instance of the float operations.
-/
module

public import proofs.«01_k».proof.Proof.HotRun
public import proofs.«01_k».proof.Proof.Gen.KernelIdeal.Regions
public import Idealize.ShloMosaic.Lib.Pipeline.FrameTail
public import Idealize.ShloMosaic.Lib.Pipeline.TableIdle

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg cellOf)

variable {F : FTy → Type} [FloatOps F]

local notation "𝕄" => MT nD τ sig Unit (Elt F) ℕ (UR sig nD τ) ℕ

/-! ## The drawing region's proof data -/

/-- The drawing region from buffers `V`: after its body each result's buffer holds its draw. -/
def datR (V : Valuation τ sig (Elt F)) (c : Dev nD) : Dat τ (Elt F) Unit ℕ (UR sig nD τ) ℕ cfg0 c where
  A w := V (Pipeline.arrRef spec0 w)
  after w _ := match w with
    | ⟨0, _⟩ => outA hiA loA
    | ⟨1, _⟩ => outL hiL loL
  Φ _ := Pipeline.ΦA spec0 c
  q _ := fullShare
  owed _ := 0

theorem datR_after0 (V : Valuation τ sig (Elt F)) (c : Dev nD) (t : Fin cfg0.N) : (datR V c).after 0 t = outA hiA loA := by dsimp only [datR]
theorem datR_after1 (V : Valuation τ sig (Elt F)) (c : Dev nD) (t : Fin cfg0.N) : (datR V c).after 1 t = outL hiL loL := by dsimp only [datR]

/-- The drawing body meets the region's obligation. -/
theorem datR_body (V : Valuation τ sig (Elt F)) (c : Dev nD) : BodyObligation (datR V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  rw [show (datR V c).Φ t.succ = (datR V c).Φ t.castSucc from rfl,
    show (datR V c).owesAt () t.succ = (datR V c).owesAt () t.castSucc from rfl]
  simp only [datR_after0, datR_after1]
  iintro ⟨HΦ, Ho, ⟨%d0, H0⟩, ⟨%d1, H1⟩⟩
  iapply (rng_triple c Set.univ _ _ _ _ _)
  isplitl [H0]; · iexists _; iexact H0
  isplitl [H1]; · iexists _; iexact H1
  iintro ⟨H0, H1⟩
  isplitl [HΦ]; · iexact HΦ
  isplitl [Ho]; · iexact Ho
  isplitl [H0]; · iexact H0
  iexact H1

/-! ## The indicator region's proof data -/

/-- Window `w`'s block at point `t`, read off its array in `V`. -/
def blkOf (V : Valuation τ sig (Elt F)) (w : Fin cfg1.W) (t : Fin cfg1.N) : ((cfg1.win w).xblock (cfg1.grid.coords t)).Idx → Elt F (cfg1.win w).elt :=
  ((cfg1.win w).blk t).view.read (Elt F) (V (Pipeline.arrRef spec1 w))

/-- The first point. -/
def pt0 : Fin cfg1.N := ⟨0, by rw [show cfg1.N = 25 from N_1]; decide⟩

/-- The indicator region from buffers `V`: after its body at any point the two drawn columns' buffers hold the columns,
the first result's the first column's indicator, the second's the second column's over the point's block. -/
def datH (V : Valuation τ sig (Elt F)) (c : Dev nD) : Dat τ (Elt F) Unit ℕ (UR sig nD τ) ℕ cfg1 c where
  A w := V (Pipeline.arrRef spec1 w)
  after w t := match w with
    | ⟨0, _⟩ => blkOf V 0 t
    | ⟨1, _⟩ => blkOf V 1 t
    | ⟨2, _⟩ => k1_pay2 (blkOf V 0 pt0)
    | ⟨3, _⟩ => k1_pay1 (grid1.coords t) (blkOf V 1 t)
  Φ _ := Pipeline.ΦA spec1 c
  q _ := fullShare
  owed _ := 0

section
variable (V : Valuation τ sig (Elt F)) (c : Dev nD)

theorem datH_A (w : Fin cfg1.W) : (datH V c).A w = V (Pipeline.arrRef spec1 w) := by dsimp only [datH]
theorem datH_after0 (t : Fin cfg1.N) : (datH V c).after 0 t = blkOf V 0 t := by dsimp only [datH]
theorem datH_after1 (t : Fin cfg1.N) : (datH V c).after 1 t = blkOf V 1 t := by dsimp only [datH]
theorem datH_after2 (t : Fin cfg1.N) : (datH V c).after 2 t = k1_pay2 (blkOf V 0 pt0) := by dsimp only [datH]
theorem datH_after3 (t : Fin cfg1.N) : (datH V c).after 3 t = k1_pay1 (grid1.coords t) (blkOf V 1 t) := by dsimp only [datH]

/-- The first column's buffer holds the column at every point. -/
theorem datH_before0 (t : Fin cfg1.N) (d) : (datH V c).before 0 t d = blkOf V 0 t :=
  ((datH V c).before_in_eq_fetched 0 rfl (fun _ => rfl) (fun _ _ _ => rfl) (fun t => by rw [datH_after0]; unfold Dat.blockOf blkOf; rw [datH_A]; try rfl) t d).trans
    (by unfold Dat.fetched Dat.blockOf blkOf; rw [datH_A]; try rfl)
/-- So does the second column's. -/
theorem datH_before1 (t : Fin cfg1.N) (d) : (datH V c).before 1 t d = blkOf V 1 t :=
  ((datH V c).before_in_eq_fetched 1 rfl (fun _ => rfl) (fun _ _ _ => rfl) (fun t => by rw [datH_after1]; unfold Dat.blockOf blkOf; rw [datH_A]; try rfl) t d).trans
    (by unfold Dat.fetched Dat.blockOf blkOf; rw [datH_A]; try rfl)

/-- The first result's buffer is fresh at the first point only. -/
theorem fresh2 (t : Fin cfg1.N) (h : t.val ≠ 0) : cfg1.fresh 2 t.val = false :=
  (by decide +kernel : ∀ t : Fin 25, t.val ≠ 0 → cfg1.fresh 2 t.val = false) (t.cast N_1) h

/-- From the second point on the first result's buffer holds the first column's indicator. -/
theorem datH_before2 (t : Fin cfg1.N) (h : t.val ≠ 0) (d) : (datH V c).before 2 t d = k1_pay2 (blkOf V 0 pt0) := by
  rw [(datH V c).before_out_traj 2 rfl (fun _ _ => rfl) (fun t ht _ _ => by rw [datH_after2, datH_after2]) t.val t rfl d,
    fresh2 t h, if_neg (by decide), datH_after2]

/-- The first result's window is idle exactly after the first point. -/
theorem idle2 (t : Fin cfg1.N) : cfg1.idle 2 (cfg1.grid.coords t) = !decide (t.val = 0) := by
  have h := first_iff t
  show (!(k1_cond1 (grid1.coords t) == 1#1)) = _
  rw [beq_eq_decide]
  simp only [h]

/-- What the indicator body must leave of the first result's buffer follows from its holding the indicator. -/
theorem leaves2 (t : Fin cfg1.N) :
    owns (c : Thread nD τ) ((cfg1.win 2).stage (cfg1.slots t 2)) fullShare (k1_pay2 (blkOf V 0 pt0)) ⊢ (datH V c).leavesExact 2 t := by
  unfold Dat.leavesExact
  rw [idle2 t]
  by_cases h : t.val = 0
  · rw [decide_eq_true h, datH_after2]; exact .rfl
  · rw [decide_eq_false h]
    cases (cfg1.win 2).flush t
    · show _ ⊢ iprop(∃ d, owns (c : Thread nD τ) ((cfg1.win 2).stage (cfg1.slots t 2)) fullShare ((datH V c).before 2 t d))
      iintro H
      iexists (fun _ => Classical.arbitrary _)
      rw [datH_before2 V c t h]
      iexact H
    · rw [datH_after2]; exact .rfl

/-- A window that is never idle is left at its stated contents. -/
theorem leaves_live (w : Fin cfg1.W) (t : Fin cfg1.N) (h : cfg1.idle w (cfg1.grid.coords t) = false) :
    owns (c : Thread nD τ) ((cfg1.win w).stage (cfg1.slots t w)) fullShare ((datH V c).after w t) ⊢ (datH V c).leavesExact w t := by
  unfold Dat.leavesExact; rw [h]

/-- What the indicator body is called with at point `t`, -/
def hotPre (t : Fin cfg1.N) : sProp 𝕄 :=
  iprop((datH V c).Φ t.castSucc ∗ (datH V c).owesAt () t.castSucc
    ∗ (∃ d, owns (c : Thread nD τ) (st1_0 t) fullShare ((datH V c).before 0 t d))
    ∗ (∃ d, owns (c : Thread nD τ) (st1_1 t) fullShare ((datH V c).before 1 t d))
    ∗ (∃ d, owns (c : Thread nD τ) (st1_2 t) fullShare ((datH V c).before 2 t d))
    ∗ (∃ d, owns (c : Thread nD τ) (st1_3 t) fullShare ((datH V c).before 3 t d)))

/-- and what it returns. -/
def hotPost (t : Fin cfg1.N) : sProp 𝕄 :=
  iprop((datH V c).Φ t.succ ∗ (datH V c).owesAt () t.succ
    ∗ (datH V c).leavesExact 0 t ∗ (datH V c).leavesExact 1 t ∗ (datH V c).leavesExact 2 t ∗ (datH V c).leavesExact 3 t)

set_option maxHeartbeats 800000 in
/-- The indicator body at any point, first or later. -/
theorem hot_body (t : Fin cfg1.N) :
    hotPre V c t ⊢ wp frame (wpE (defs₀ (F := F)) Variants.none c none) Set.univ (bodyAt1 t) (fun _ => hotPost V c t) := by
  unfold hotPre hotPost bodyAt1
  simp only [datH_before0, datH_before1]
  rw [show (datH V c).Φ t.succ = (datH V c).Φ t.castSucc from rfl,
    show (datH V c).owesAt () t.succ = (datH V c).owesAt () t.castSucc from rfl]
  have l0 := leaves_live V c 0 t rfl
  have l1 := leaves_live V c 1 t rfl
  have l2 := leaves2 V c t
  have l3 := leaves_live V c 3 t rfl
  rw [datH_after0] at l0; rw [datH_after1] at l1; rw [datH_after3] at l3
  by_cases h0 : t.val = 0
  · rw [show blkOf V 0 pt0 = blkOf V 0 t from by rw [show pt0 = t from Fin.ext h0.symm]] at l2
    iintro ⟨HΦ, Ho, ⟨%d0, H0⟩, ⟨%d1, H1⟩, ⟨%d2, H2⟩, ⟨%d3, H3⟩⟩
    iapply (hot_triple_first c (grid1.coords t) _ _ _ _ _ _ _ _ ((first_iff t).mpr h0) (blkOf V 0 t) (blkOf V 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iapply l0; iexact H0
    isplitl [H1]; · iapply l1; iexact H1
    isplitl [H2]; · iapply l2; iexact H2
    iapply l3; iexact H3
  · simp only [datH_before2 V c t h0]
    iintro ⟨HΦ, Ho, ⟨%d0, H0⟩, ⟨%d1, H1⟩, ⟨%d2, H2⟩, ⟨%d3, H3⟩⟩
    iapply (hot_triple_later c (grid1.coords t) _ _ _ _ _ _ _ _ (fun h => h0 ((first_iff t).mp h)) (blkOf V 0 t) (blkOf V 1 t) (k1_pay2 (blkOf V 0 pt0)) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iapply l0; iexact H0
    isplitl [H1]; · iapply l1; iexact H1
    isplitl [H2]; · iapply l2; iexact H2
    iapply l3; iexact H3

/-- The indicator body meets the region's obligation. -/
theorem datH_body : BodyObligation (datH V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (hot_body V c t) rfl .rfl fun _ => .rfl
end

/-! ## The buffers between the items -/

section
variable (m : (ℓ : Loc nD τ sig) → Buf (Elt F) ℓ)

/-- Core `c`'s buffers at launch, -/
def W0 (c : Dev nD) : Valuation τ sig (Elt F) := fun b => m (c, b)
/-- after the drawing region, -/
def W1 (c : Dev nD) : Valuation τ sig (Elt F) := Pipeline.afterRegion (datR (W0 m c) c) (W0 m c)
/-- after the reshapes, -/
def W2 (c : Dev nD) : Valuation τ sig (Elt F) := StableHlo.after hostOps1 (W1 m c)
/-- and after the indicator region. -/
def W3 (c : Dev nD) : Valuation τ sig (Elt F) := Pipeline.afterRegion (datH (W2 m c) c) (W2 m c)

/-- The argument ends as launched. -/
theorem W3_arg0 (c : Dev nD) : W3 m c main_arg0 = m ((c : Thread nD τ).loc main_arg0) :=
  (Pipeline.afterRegion_of_not_arr (datH (W2 m c) c) (W2 m c) (b := main_arg0) (by decide)).trans <|
    (StableHlo.after_of_writes_sub hostOps1 (W1 m c) hostOps1_writes (r := main_arg0) (by decide)).trans <|
      Pipeline.afterRegion_of_not_arr (datR (W0 m c) c) (W0 m c) (b := main_arg0) (by decide)

/-- The two regions' proof data, each from the buffers it is entered with. -/
def pdats : (p : Fin 2) → (c : Dev nD) → Dat τ (Elt F) Unit ℕ (UR sig nD τ) ℕ (cfgs p) c
  | ⟨0, _⟩ => fun c => datR (W0 m c) c
  | ⟨1, _⟩ => fun c => datH (W2 m c) c

end

/-! ## The regions' records -/

/-- No core owes another anything: no level is assigned. -/
abbrev noIdx : GSem nD τ sig → Finset Unit := fun _ => ∅
abbrev noLev : GSem nD τ sig → Unit → ℕ := fun _ _ => 0

/-- What rides beside the buffers from item to item: the generator register and the core owing nothing. -/
abbrev ride (c : Dev nD) : sProp 𝕄 := iprop((∃ r, prngReg c r) ∗ ∃ W, owes (c : Thread nD τ) (0 : CellTallies nD τ sig Unit) W)

/-- Every unscoped buffer of core `c` whole at `V`, and what rides beside. -/
abbrev state (V : Dev nD → Valuation τ sig (Elt F)) (c : Dev nD) : sProp 𝕄 :=
  iprop(StableHlo.held (c : Thread nD τ) (Pipeline.ucRefs τ sig) (V c) ∗ ride c)

section
variable (ds : (p : Fin 2) → (c : Dev nD) → Dat τ (Elt F) Unit ℕ (UR sig nD τ) ℕ (cfgs p) c)

set_option backward.isDefEq.respectTransparency.types false in
/-- A region of this program between two states: entered with every unscoped buffer at `V`, left with its windows' arrays
at what its proof data computes and every other buffer as it was. -/
def region (p : Fin 2) (kit : Pipeline.LaunchFacts (nD := nD) (τ := τ) cfgs p) (V : Dev nD → Valuation τ sig (Elt F))
    (hA : ∀ c w, (ds p c).A w = V c (Pipeline.arrRef (cfgs p).spec w)) (hshare : ∀ c w, (ds p c).q w = fullShare)
    (howed : ∀ c t, (ds p c).owed t = 0) (hrec : ∀ c x, x ∈ (ds p c).recorded 0) (hΦ : ∀ c t, (ds p c).Φ t = Pipeline.ΦA (cfgs p).spec c)
    (hbody : ∀ c, BodyObligation (ds p c) (defs₀ (F := F)) Variants.none () Set.univ) :
    RegionSeg (pcfgs (F := F)) adm ds () defs₀ Variants.none noIdx noLev p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noIdx noLev p howed
  pre := state V
  post := state fun c => Pipeline.afterRegion (ds p c) (V c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    unfold state
    rw [Pipeline.ownSems0_none, ← Pipeline.unscopedBufs_held (Ix := Unit) (Name := ℕ) (U := UR sig nD τ) (Lvl := ℕ) c (V c)]
    have hsplit := Pipeline.arrays_of_unscopedBufs (p := p) (pcfgs (F := F)) adm ds kit.win kit.arr_whole c
      ((ds p c).share_full (hshare c)) (fun b => V c b) (hA c)
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr] <;> iassumption
  hout c := by
    rw [hΦ c (Fin.last _), Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c ds ((ds p c).share_full (hshare c)) (fun b => V c b)
      (fun b => Pipeline.afterRegion (ds p c) (V c) b) ((ds p c).arrAt · (cfgs p).N)
      (fun w => (Pipeline.afterRegion_arr (ds p c) (V c) kit.win.arr_inj w).symm)
      (fun b hb => Pipeline.afterRegion_of_not_arr (ds p c) (V c)
        fun w h => hb (h ▸ Finset.mem_image.mpr ⟨w, Finset.mem_univ _, rfl⟩))
    unfold state
    rw [← Pipeline.unscopedBufs_held (Ix := Unit) (Name := ℕ) (U := UR sig nD τ) (Lvl := ℕ) c (Pipeline.afterRegion (ds p c) (V c))]
    iintro ⟨Ha, HO, Hp, Hrest⟩
    imodintro
    isplitl [Ha Hrest]
    · iapply hjoin; isplitl [Ha] <;> iassumption
    isplitl [Hp]; · iexact Hp
    unfold Dat.owesAt Pipeline.owesWithin
    rw [howed c (Fin.last _)]
    icases HO with ⟨%W, -, HO⟩; iexists W; iexact HO
end

/-! ## The run -/

section
variable (m : (ℓ : Loc nD τ sig) → Buf (Elt F) ℓ) (ρ : Dev nD → PrngReg)

/-- The drawing region, from the launch. -/
def regR : RegionSeg (pcfgs (F := F)) adm (pdats m) () defs₀ Variants.none noIdx noLev 0 :=
  region (pdats m) 0 launch0 (W0 m) (fun _ _ => rfl) (fun _ _ => rfl) (fun _ _ => rfl) (fun _ _ => trivial) (fun _ _ => rfl) fun c => datR_body (W0 m c) c

/-- The reshapes. -/
def segS : HostSeg (Ix := Unit) (Name := ℕ) (U := UR sig nD τ) (Lvl := ℕ) (pcfgs (F := F)) defs₀ Variants.none noIdx noLev :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) ride

/-- The indicator region, from the reshapes. -/
def regH : RegionSeg (pcfgs (F := F)) adm (pdats m) () defs₀ Variants.none noIdx noLev 1 :=
  region (pdats m) 1 launch1 (W2 m) (fun _ _ => rfl) (fun _ _ => rfl) (fun _ _ => rfl) (fun _ _ => trivial) (fun _ _ => rfl) fun c => datH_body (W2 m c) c

set_option backward.isDefEq.respectTransparency.types false in
/-- From any memory with zero counters every weakly fair execution of the program ends, each unscoped buffer at what the
items leave there and every semaphore counter at zero. -/
theorem kernel_run : θ_run defs (onTc (τ := τ) (main (F := F))) ⟨m, fun _ => 0, ρ⟩ (fun r =>
    (∀ (c : Dev nD) (b : Ref sig .tc), b.isScoped = false → r.2.mem ((c : Thread nD τ).loc b) = W3 m c b) ∧ r.2.sem = fun _ => 0) := by
  refine Pipeline.θ_run_regions_kit_sems (pcfgs (F := F)) adm (pdats m) () cellOf_inj emb₁ defs₀ Variants.none noIdx noLev m ρ main
    [.region (regR m), .host (segS m), .region (regH m)]
    (fun c Q => by rw [main_segs adm (pdats m) () Variants.none noIdx noLev (segS m) (regR m) (regH m) rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (W0 m)) (Tₙ := fun c => StableHlo.held (c : Thread nD τ) (Pipeline.ucRefs τ sig) (W3 m c))
    (hch := ⟨fun _ => .rfl, fun _ => .rfl, fun _ => .rfl, fun c => (show state (W3 m) c ⊢ (_ : sProp 𝕄) from by
      iintro ⟨Hh, -, HO⟩
      isplitl [Hh] <;> iassumption)⟩)
    (hinit := by
      refine Pipeline.initEach noIdx noLev fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c.tc : Thread nD τ).1, b) = W3 m c b)
    (hfin := fun c s' => by
      unfold StableHlo.held
      iintro ⟨Hh, HSI⟩
      ihave Hr := (pointsTo_read_all (Pipeline.ucRefs τ sig) (fun b => ((c.tc : Thread nD τ).1, b)) (W3 m c) s') $$ [Hh HSI]
      · isplitl [Hh] <;> iassumption
      imodintro; iexact Hr)
    (hQ := fun _ h hz => ⟨fun c b hb => h c (Proc.devRef .tc b) (Pipeline.devRef_mem_ucRefs hb), funext fun g => hz g (.inr (regions_no_unscoped g.2))⟩)
end

end Cert.Proof

end
-- ==== Proof.Spec.lean ====
module

public import Mathlib.Data.BitVec

@[expose] public section

/-!
The mathematics that both programs compute, on single words: the Threefry-2x32 block cipher, the
64-bit draw reduced modulo a span, and the keys that come from the seed. Nothing here names a program.
-/

namespace Cert.Proof.Spec

/-- A word rotated left by `r` places, for `r` below 32. -/
def rot (x r : BitVec 32) : BitVec 32 := (x <<< r) ||| (x >>> (32#32 - r))

/-- One round of the cipher: add the words, rotate the second, mix it with the sum. -/
def rnd (r : BitVec 32) (p : BitVec 32 × BitVec 32) : BitVec 32 × BitVec 32 :=
  (p.1 + p.2, (p.1 + p.2) ^^^ rot p.2 r)

/-- A key injection: one key word onto each half, and the injection's number onto the second. -/
def inj (a b n : BitVec 32) (p : BitVec 32 × BitVec 32) : BitVec 32 × BitVec 32 := (p.1 + a, p.2 + b + n)

/-- The four rounds of an odd-numbered group. -/
def grpA (p : BitVec 32 × BitVec 32) : BitVec 32 × BitVec 32 := rnd 6#32 (rnd 26#32 (rnd 15#32 (rnd 13#32 p)))

/-- The four rounds of an even-numbered group. -/
def grpB (p : BitVec 32 × BitVec 32) : BitVec 32 × BitVec 32 := rnd 24#32 (rnd 16#32 (rnd 29#32 (rnd 17#32 p)))

/-- The third key word, made from the two given ones. -/
def third (k : BitVec 32 × BitVec 32) : BitVec 32 := k.1 ^^^ k.2 ^^^ 466688986#32

/-- Threefry-2x32 with twenty rounds, of a two-word block `x` under the two-word key `k`. -/
def threefry (k x : BitVec 32 × BitVec 32) : BitVec 32 × BitVec 32 :=
  inj (third k) k.1 5#32 (grpA (inj k.2 (third k) 4#32 (grpB (inj k.1 k.2 3#32 (grpA (inj (third k) k.1 2#32
    (grpB (inj k.2 (third k) 1#32 (grpA (x.1 + k.1, x.2 + k.2))))))))))

/-- The random word number `c` of a key: both halves of the cipher's block, mixed. -/
def bits (k : BitVec 32 × BitVec 32) (c : BitVec 32) : BitVec 32 := (threefry k (0#32, c)).1 ^^^ (threefry k (0#32, c)).2

/-- Key number `c` of the keys split off `k`. -/
def child (k : BitVec 32 × BitVec 32) (c : BitVec 32) : BitVec 32 × BitVec 32 := threefry k (0#32, c)

/-- `2 ^ 32` modulo the span, as the square of `2 ^ 16` modulo it. -/
def mult (s : BitVec 32) : BitVec 32 := ((65536#32 % s) * (65536#32 % s)) % s

/-- Two random words brought into the span `s`. -/
def reduce (s hi lo : BitVec 32) : BitVec 32 := ((hi % s) * mult s + lo % s) % s

/-- Draw number `c` of the key `k` in the span `s`. -/
def draw (s : BitVec 32) (k : BitVec 32 × BitVec 32) (c : BitVec 32) : BitVec 32 :=
  reduce s (bits (child k 0#32) c) (bits (child k 1#32) c)

/-- The key of the action draws: the first key split off the seed 42's key. -/
def keyA : BitVec 32 × BitVec 32 := child (0#32, 42#32) 0#32

/-- The key of the language draws: the second key split off the seed 42's key. -/
def keyL : BitVec 32 × BitVec 32 := child (0#32, 42#32) 1#32

/-- The keys' words, and those of the keys split off them, as numbers. -/
theorem keyA_hi : child keyA 0#32 = (1012194634#32, 3152801799#32) := by decide +kernel
theorem keyA_lo : child keyA 1#32 = (1705926158#32, 899080142#32) := by decide +kernel
theorem keyL_hi : child keyL 0#32 = (3187376881#32, 129218101#32) := by decide +kernel
theorem keyL_lo : child keyL 1#32 = (2350016172#32, 1168365246#32) := by decide +kernel

/-- A draw lies below its span. -/
theorem draw_lt (s : BitVec 32) (hs : s ≠ 0#32) (k : BitVec 32 × BitVec 32) (c : BitVec 32) :
    (draw s k c).toNat < s.toNat := by
  have h : 0 < s.toNat := Nat.pos_of_ne_zero fun h => hs (BitVec.eq_of_toNat_eq h)
  simpa [draw, reduce, BitVec.toNat_umod] using Nat.mod_lt _ h

end Cert.Proof.Spec
-- ==== Proof.Draws.lean ====
/-
  The drawing kernel's two arrays as plain mathematics: its stored terms are vector forms of the Threefry cipher and
  of a remainder by conditional subtraction, and at each entry these are the scalar draws of Spec.lean.
-/
module

public import proofs.«01_k».proof.Proof.RngRun
public import proofs.«01_k».proof.Proof.Spec
public import Idealize.ShloMosaic.Lib.WordCmp

@[expose] public section

set_option maxRecDepth 16384

noncomputable section

namespace Cert.Proof

open Cert.KernelIdeal Cert.KernelIdeal.Gen
open Idealize.ShloMosaic

variable {S : Shape}

/-! ## The cipher on vectors -/

/-- Every word rotated left by `r`, with `r'` the complementary amount. -/
def rotV (x : IVec S 32) (r r' : BitVec 32) : IVec S 32 :=
  ori (shli x (broadcast S r)) (shrui x (broadcast S r'))

/-- One round on vectors. -/
def rndV (r r' : BitVec 32) (p : IVec S 32 × IVec S 32) : IVec S 32 × IVec S 32 :=
  (addi p.1 p.2, xori (rotV p.2 r r') (addi p.1 p.2))

/-- One injection on vectors. -/
def injV (a b : BitVec 32) (p : IVec S 32 × IVec S 32) : IVec S 32 × IVec S 32 :=
  (addi p.1 (broadcast S a), addi p.2 (broadcast S b))

/-- The rounds of an odd-numbered group on vectors. -/
def grpAV (p : IVec S 32 × IVec S 32) : IVec S 32 × IVec S 32 :=
  rndV 6#32 26#32 (rndV 26#32 6#32 (rndV 15#32 17#32 (rndV 13#32 19#32 p)))

/-- The rounds of an even-numbered group on vectors. -/
def grpBV (p : IVec S 32 × IVec S 32) : IVec S 32 × IVec S 32 :=
  rndV 24#32 8#32 (rndV 16#32 16#32 (rndV 29#32 3#32 (rndV 17#32 15#32 p)))

/-- The cipher on vectors of counters whose high word is zero. -/
def tfV (k0 k1 k2 : BitVec 32) (cnt : IVec S 32) : IVec S 32 × IVec S 32 :=
  injV k2 (k0 + 5#32) (grpAV (injV k1 (k2 + 4#32) (grpBV (injV k0 (k1 + 3#32) (grpAV (injV k2 (k0 + 2#32) (grpBV
    (injV k1 (k2 + 1#32) (grpAV (broadcast S k0, addi cnt (broadcast S k1)))))))))))

/-- The random words of a key on vectors. -/
def bitsV (k0 k1 : BitVec 32) (cnt : IVec S 32) : IVec S 32 :=
  xori (tfV k0 k1 (k0 ^^^ k1 ^^^ 466688986#32) cnt).1 (tfV k0 k1 (k0 ^^^ k1 ^^^ 466688986#32) cnt).2

/-- The pair of words at one entry. -/
def entry (p : IVec S 32 × IVec S 32) (i : S.Idx) : BitVec 32 × BitVec 32 := (p.1 i, p.2 i)

/-- A round on vectors is the scalar round at each entry. -/
theorem entry_rndV (r r' : BitVec 32) (p : IVec S 32 × IVec S 32) (i : S.Idx)
    (h : r.toNat < 32 := by decide) (h' : r'.toNat < 32 := by decide) (e : r' = 32#32 - r := by decide) :
    entry (rndV r r' p) i = Spec.rnd r (entry p i) := by
  have hs : rotV p.2 r r' i = Spec.rot (p.2 i) r := by
    show IntOp.shli .vector (p.2 i) r ||| IntOp.shrui .vector (p.2 i) r' = _
    rw [IntOp.shli, IntOp.shrui, if_pos h, if_pos h', e]; rfl
  exact Prod.ext rfl ((congrArg (· ^^^ (p.1 i + p.2 i)) hs).trans (BitVec.xor_comm _ _))

/-- An injection on vectors, its number added to the key word beforehand, is the scalar injection at each entry. -/
theorem entry_injV (a b n : BitVec 32) (p : IVec S 32 × IVec S 32) (i : S.Idx) :
    entry (injV a (b + n) p) i = Spec.inj a b n (entry p i) :=
  Prod.ext rfl (BitVec.add_assoc _ _ _).symm

/-- The two groups of rounds at each entry. -/
theorem entry_grpAV (p : IVec S 32 × IVec S 32) (i : S.Idx) : entry (grpAV p) i = Spec.grpA (entry p i) := by
  simp only [grpAV, Spec.grpA]
  rw [entry_rndV 6#32 26#32, entry_rndV 26#32 6#32, entry_rndV 15#32 17#32, entry_rndV 13#32 19#32]

/-- The groups with the other amounts at each entry. -/
theorem entry_grpBV (p : IVec S 32 × IVec S 32) (i : S.Idx) : entry (grpBV p) i = Spec.grpB (entry p i) := by
  simp only [grpBV, Spec.grpB]
  rw [entry_rndV 24#32 8#32, entry_rndV 16#32 16#32, entry_rndV 29#32 3#32, entry_rndV 17#32 15#32]

/-- The random words on vectors are the scalar ones at each entry. -/
theorem bitsV_apply (k : BitVec 32 × BitVec 32) (cnt : IVec S 32) (i : S.Idx) :
    bitsV k.1 k.2 cnt i = Spec.bits k (cnt i) := by
  have h : entry (tfV k.1 k.2 (Spec.third k) cnt) i = Spec.threefry k (0#32, cnt i) := by
    simp only [tfV, Spec.threefry, entry_injV, entry_grpAV, entry_grpBV]
    simp only [entry, broadcast, BitVec.zero_add]
    rfl
  exact congrArg₂ (· ^^^ ·) (congrArg Prod.fst h) (congrArg Prod.snd h)

/-! ## The remainder by conditional subtraction -/

/-- `c` subtracted from the entries that are at least `c`. -/
def subV (c : Nat) (x : IVec S 32) : IVec S 32 :=
  select (cmpi .sge x (broadcast S (BitVec.ofNat 32 c))) (subi x (broadcast S (BitVec.ofNat 32 c))) x

/-- The doublings `s * 2 ^ b`, …, `s` of the span subtracted one after another, each where it fits. -/
def modV (s : Nat) : Nat → IVec S 32 → IVec S 32
  | 0, x => subV s x
  | b + 1, x => modV s b (subV (s * 2 ^ (b + 1)) x)

/-- A whole word modulo `s`, from its two halves. -/
def mod32V (s m16 b16 bc : Nat) (w : IVec S 32) : IVec S 32 :=
  modV s bc (addi (muli (modV s b16 (shrui w (broadcast S 16#32))) (broadcast S (BitVec.ofNat 32 m16)))
    (modV s b16 (andi w (broadcast S 65535#32))))

/-- Two random words brought into the span `s`. -/
def spanV (s m16 mult b16 bc bo : Nat) (hi lo : IVec S 32) : IVec S 32 :=
  modV s bo (addi (muli (mod32V s m16 b16 bc hi) (broadcast S (BitVec.ofNat 32 mult))) (mod32V s m16 b16 bc lo))

/-- One conditional subtraction, both numbers below `2 ^ 31`. -/
theorem subV_toNat (c : Nat) (x : IVec S 32) (i : S.Idx) (hc : c < 2 ^ 31) (hx : (x i).toNat < 2 ^ 31) :
    (subV c x i).toNat = if c ≤ (x i).toNat then (x i).toNat - c else (x i).toNat := by
  have e : (BitVec.ofNat 32 c).toNat = c := by rw [BitVec.toNat_ofNat]; exact Nat.mod_eq_of_lt (by omega)
  show (if IntOp.cmpi .sge (x i) (BitVec.ofNat 32 c) = 1 then x i - BitVec.ofNat 32 c else x i).toNat = _
  rw [WordCmp.cmpi_sge_of_lt hx (by rw [e]; exact hc), e]
  by_cases h : c ≤ (x i).toNat
  · rw [if_pos h, decide_eq_true h, if_pos (by decide), BitVec.toNat_sub_of_le (by rw [BitVec.le_def, e]; exact h), e]
  · rw [if_neg h, decide_eq_false h, if_neg (by decide)]

/-- The conditional subtractions leave the remainder. -/
theorem modV_toNat (s : Nat) (hs : 0 < s) : ∀ (b : Nat) (x : IVec S 32) (i : S.Idx), s * 2 ^ b < 2 ^ 31 → (x i).toNat < 2 ^ 31 →
    (x i).toNat < s * 2 ^ (b + 1) → (modV s b x i).toNat = (x i).toNat % s
  | 0, x, i, hb, hx, h => by
    rw [modV, subV_toNat s x i (by simpa using hb) hx]
    split
    · next hle => rw [Nat.mod_eq_sub_mod hle, Nat.mod_eq_of_lt (by omega)]
    · next hle => exact (Nat.mod_eq_of_lt (by omega)).symm
  | b + 1, x, i, hb, hx, h => by
    have e := subV_toNat (s * 2 ^ (b + 1)) x i hb hx
    have hp : s * 2 ^ (b + 1 + 1) = s * 2 ^ (b + 1) + s * 2 ^ (b + 1) := by rw [Nat.pow_succ, ← Nat.mul_assoc]; omega
    have hp' : s * 2 ^ (b + 1) = s * 2 ^ b + s * 2 ^ b := by rw [Nat.pow_succ, ← Nat.mul_assoc]; omega
    rw [modV, modV_toNat s hs b _ i (by omega) (by rw [e]; split <;> omega) (by rw [e]; split <;> omega), e]
    split
    · next hle =>
      conv_rhs => rw [← Nat.sub_add_cancel hle]
      rw [Nat.add_mul_mod_self_left]
    · rfl

/-- What the constants of a span must satisfy for the sums below never to pass `2 ^ 31`. -/
structure Fits (s m16 mult b16 bc bo : Nat) : Prop where
  pos : 0 < s
  half : 65536 ≤ s * 2 ^ (b16 + 1) ∧ s * 2 ^ b16 < 2 ^ 31
  word : (s - 1) * m16 + (s - 1) < s * 2 ^ (bc + 1) ∧ s * 2 ^ bc < 2 ^ 31 ∧ (s - 1) * m16 + (s - 1) < 2 ^ 31
  off : (s - 1) * mult + (s - 1) < s * 2 ^ (bo + 1) ∧ s * 2 ^ bo < 2 ^ 31 ∧ (s - 1) * mult + (s - 1) < 2 ^ 31
  small : m16 < 2 ^ 31 ∧ mult < 2 ^ 31
  m16_eq : m16 = 65536 % s

/-- A product of a remainder and a constant, and another remainder added: no overflow. -/
theorem mul_add_toNat (s m : Nat) (hs : 0 < s) (hm : m < 2 ^ 31) (h : (s - 1) * m + (s - 1) < 2 ^ 31) (x y : BitVec 32)
    (hx : x.toNat < s) (hy : y.toNat < s) :
    (x * BitVec.ofNat 32 m + y).toNat = x.toNat * m + y.toNat ∧ x.toNat * m + y.toNat ≤ (s - 1) * m + (s - 1) := by
  have hle : x.toNat * m ≤ (s - 1) * m := Nat.mul_le_mul_right _ (by omega)
  refine ⟨?_, by omega⟩
  rw [BitVec.toNat_add, BitVec.toNat_mul, BitVec.toNat_ofNat, Nat.mod_eq_of_lt (show m < 2 ^ 32 by omega),
    Nat.mod_eq_of_lt (show x.toNat * m < 2 ^ 32 by omega), Nat.mod_eq_of_lt (by omega)]

/-- A whole word modulo the span. -/
theorem mod32V_toNat {s m16 mult b16 bc bo : Nat} (f : Fits s m16 mult b16 bc bo) (w : IVec S 32) (i : S.Idx) :
    (mod32V s m16 b16 bc w i).toNat = (w i).toNat % s := by
  have hh : (shrui w (broadcast S 16#32) i).toNat = (w i).toNat / 65536 := by
    show (IntOp.shrui .vector (w i) 16#32).toNat = _
    rw [IntOp.shrui, if_pos (by decide)]
    simp [Nat.shiftRight_eq_div_pow]
  have hl : (andi w (broadcast S 65535#32) i).toNat = (w i).toNat % 65536 := by
    show (w i &&& 65535#32).toNat = _
    rw [BitVec.toNat_and]
    exact Nat.and_two_pow_sub_one_eq_mod (w i).toNat 16
  have hw := (w i).isLt
  have eh := modV_toNat s f.pos b16 (shrui w (broadcast S 16#32)) i f.half.2 (by omega) (by have := f.half.1; omega)
  have el := modV_toNat s f.pos b16 (andi w (broadcast S 65535#32)) i f.half.2 (by omega) (by have := f.half.1; omega)
  have key := mul_add_toNat s m16 f.pos f.small.1 f.word.2.2 _ _ (eh ▸ Nat.mod_lt _ f.pos) (el ▸ Nat.mod_lt _ f.pos)
  rw [mod32V, modV_toNat s f.pos bc _ i f.word.2.1]
  · refine (congrArg (· % s) key.1).trans ?_
    rw [eh, el, hh, hl, f.m16_eq]
    conv_rhs => rw [← Nat.div_add_mod (w i).toNat 65536, Nat.mul_comm]
    simp [Nat.add_mod, Nat.mul_mod]
  · exact lt_of_eq_of_lt key.1 (by have := f.word.2.2; omega)
  · exact lt_of_eq_of_lt key.1 (by have := f.word.1; omega)

/-- The kernel's reduction of two random words into the span is the plain one. -/
theorem spanV_apply {s m16 mult b16 bc bo : Nat} (f : Fits s m16 mult b16 bc bo) (hs : s < 2 ^ 31)
    (hm : Spec.mult (BitVec.ofNat 32 s) = BitVec.ofNat 32 mult) (hi lo : IVec S 32) (i : S.Idx) :
    spanV s m16 mult b16 bc bo hi lo i = Spec.reduce (BitVec.ofNat 32 s) (hi i) (lo i) := by
  have eh := mod32V_toNat f hi i
  have el := mod32V_toNat f lo i
  have es : (BitVec.ofNat 32 s).toNat = s := by rw [BitVec.toNat_ofNat]; exact Nat.mod_eq_of_lt (by omega)
  have rh : mod32V s m16 b16 bc hi i = hi i % BitVec.ofNat 32 s :=
    BitVec.eq_of_toNat_eq (by rw [eh, BitVec.toNat_umod, es])
  have rl : mod32V s m16 b16 bc lo i = lo i % BitVec.ofNat 32 s :=
    BitVec.eq_of_toNat_eq (by rw [el, BitVec.toNat_umod, es])
  have key := mul_add_toNat s mult f.pos f.small.2 f.off.2.2 _ _ (eh ▸ Nat.mod_lt _ f.pos) (el ▸ Nat.mod_lt _ f.pos)
  refine BitVec.eq_of_toNat_eq ?_
  rw [spanV, modV_toNat s f.pos bo _ i f.off.2.1 (lt_of_eq_of_lt key.1 (by have := f.off.2.2; omega))
    (lt_of_eq_of_lt key.1 (by have := f.off.1; omega)), Spec.reduce, BitVec.toNat_umod, es, hm, ← rh, ← rl]
  rfl

/-! ## The kernel's two arrays -/

/-- The stored terms are the vector forms above. -/
theorem hiA_eq : hiA = bitsV 1012194634#32 3152801799#32 k0_pay2 := by chain_rfl
theorem loA_eq : loA = bitsV 1705926158#32 899080142#32 k0_pay2 := by chain_rfl
theorem hiL_eq : hiL = bitsV 3187376881#32 129218101#32 k0_pay2 := by chain_rfl
theorem loL_eq : loL = bitsV 2350016172#32 1168365246#32 k0_pay2 := by chain_rfl
theorem outA_eq (hi lo : IVec S8x128 32) : outA hi lo = spanV 18 16 4 11 4 2 hi lo := by chain_rfl
theorem outL_eq (hi lo : IVec S8x128 32) : outL hi lo = spanV 32000 1536 23296 1 10 14 hi lo := by chain_rfl

/-- The action array holds the action draws, numbered by the counters. -/
theorem outA_apply (i : S8x128.Idx) : outA hiA loA i = Spec.draw 18#32 Spec.keyA (k0_pay2 i) := by
  rw [outA_eq, spanV_apply ⟨by decide, by decide, by decide, by decide, by decide, by decide⟩ (by decide) (by decide +kernel),
    hiA_eq, loA_eq, bitsV_apply (_, _), bitsV_apply (_, _), Spec.draw, Spec.keyA_hi, Spec.keyA_lo]

/-- The language array holds the language draws, numbered by the counters. -/
theorem outL_apply (i : S8x128.Idx) : outL hiL loL i = Spec.draw 32000#32 Spec.keyL (k0_pay2 i) := by
  rw [outL_eq, spanV_apply ⟨by decide, by decide, by decide, by decide, by decide, by decide⟩ (by decide) (by decide +kernel),
    hiL_eq, loL_eq, bitsV_apply (_, _), bitsV_apply (_, _), Spec.draw, Spec.keyL_hi, Spec.keyL_lo]

end Cert.Proof
-- ==== Proof.OneHot.lean ====
/-
  One-hot rows by a scatter: ones written at the pairs (row, column) of an index table. Nothing here names a program.
-/
module

public import Idealize.ShloMosaic.Lib.Routing.OpsSet
public import Idealize.ShloMosaic.Lib.IdealHost

@[expose] public section

noncomputable section

namespace Cert.Proof

open Idealize.ShloMosaic Idealize.ShloMosaic.ValueIdx Idealize.ShloMosaic.Routing

/-- The one-hot array of `C` columns: 1 at the column that `d` names for the row, 0 elsewhere. -/
def oneHot (C : Nat) (d : BitVec 32 → BitVec 32) : (shape2 1024 C).Idx → EReal :=
  fun j => if (d (BitVec.ofNat 32 (j 0).val)).toNat = (j 1).val then 1 else 0

/-- A matrix has the axes 0 and 1. -/
theorem mem_axes : ∀ q : Fin 2, q ∈ ([0, 1] : List (Fin 2)) := by decide

section Lands
variable {A R C : Nat} (d : ScatterDims (shape2 R C) (shape2 A 2) (shape1 A))

/-- Where both axes of the operand are inserted an update has no window coordinate. -/
theorem window_pairs (hiw : d.insertedWindowDims = [0, 1]) (a : Fin A) (q : Fin 2) : d.window (ix1 a) q = 0 := by
  have hq : q ∉ d.sKept := fun h => by
    have hn : q ∉ d.insertedWindowDims := of_decide_eq_true (List.mem_filter.1 h).2
    exact hn (hiw ▸ mem_axes q)
  unfold ScatterDims.window
  exact dif_neg hq

/-- The word that update `a` reads for axis `q` is entry `(a, q)` of the index table. -/
theorem start_pairs (hsd : d.scatterDimsToOperandDims = [0, 1]) (hivd : d.indexVectorDim = 1)
    (idx : IVec (shape2 A 2) 32) (a : Fin A) (q : Fin 2) : d.start (ix1 a) idx q = (idx (ix2 a q)).toInt := by
  have hq : q ∈ d.scatterDimsToOperandDims := hsd ▸ mem_axes q
  unfold ScatterDims.start
  rw [dif_pos hq]
  refine congrArg (fun k => (idx k).toInt) (funext fun b => Fin.ext ?_)
  unfold ScatterDims.siIdx
  match b with
  | ⟨0, _⟩ =>
    rw [dif_neg (by rw [hivd]; exact Nat.zero_ne_one)]
    unfold ScatterDims.siCoord
    have one : ∀ X : Fin 1, (ix1 a X).val = a.val := fun X => by rw [Subsingleton.elim X 0]
    exact one _
  | ⟨1, _⟩ =>
    rw [dif_pos (by rw [hivd])]
    show List.idxOf q d.scatterDimsToOperandDims = q.val
    rw [hsd]
    fin_cases q <;> rfl

/-- Update `a` lands at `(r, c)` exactly when its two words, read signed, are `r` and `c`. -/
theorem lands_pairs (hiw : d.insertedWindowDims = [0, 1]) (hsd : d.scatterDimsToOperandDims = [0, 1]) (hivd : d.indexVectorDim = 1)
    (idx : IVec (shape2 A 2) 32) (a : Fin A) (r : Fin R) (c : Fin C) :
    d.resultIdx? (ix1 a) idx = some (ix2 r c) ↔ (idx (ix2 a 0)).toInt = r.val ∧ (idx (ix2 a 1)).toInt = c.val := by
  rw [resultIdx?_ix2, start_pairs d hsd hivd, start_pairs d hsd hivd, window_pairs d hiw, window_pairs d hiw]
  simp

end Lands

/-- Ones scattered into zeros at the pairs (row number, `w row`) make the one-hot array of `w`. -/
theorem scatter_oneHot {C : Nat} (d : ScatterDims (shape2 1024 C) (shape2 1024 2) (shape1 1024))
    (hiw : d.insertedWindowDims = [0, 1]) (hsd : d.scatterDimsToOperandDims = [0, 1]) (hivd : d.indexVectorDim = 1)
    (x : (shape2 1024 C).Idx → EReal) (idx : IVec (shape2 1024 2) 32) (u : (shape1 1024).Idx → EReal)
    (hx : ∀ j, x j = 0) (hu : ∀ a, u a = 1) (w : BitVec 32 → BitVec 32)
    (h0 : ∀ a : Fin 1024, idx (ix2 a 0) = BitVec.ofNat 32 a.val)
    (h1 : ∀ a : Fin 1024, idx (ix2 a 1) = w (BitVec.ofNat 32 a.val)) (hw : ∀ c, (w c).toNat < 2 ^ 31) :
    Host.scatter d (fun _ b => b) x idx u = oneHot C w := by
  have small : ∀ b : BitVec 32, b.toNat < 2 ^ 31 → b.toInt = b.toNat := fun b hb => by
    rw [BitVec.toInt_eq_toNat_cond, if_pos (by omega)]
  have lands : ∀ (a r : Fin 1024) (c : Fin C), d.resultIdx? (ix1 a) idx = some (ix2 r c)
      ↔ a = r ∧ (w (BitVec.ofNat 32 a.val)).toNat = c.val := fun a r c => by
    have ha : (BitVec.ofNat 32 a.val).toNat = a.val := by rw [BitVec.toNat_ofNat]; exact Nat.mod_eq_of_lt (by omega)
    rw [lands_pairs d hiw hsd hivd, h0, h1, small _ (hw _), small _ (by omega), ha, Fin.ext_iff]
    omega
  refine funext fun j => ?_
  obtain ⟨r, c, rfl⟩ : ∃ (r : Fin 1024) (c : Fin C), j = ix2 r c := ⟨j 0, j 1, eq_ix2 j⟩
  by_cases h : (w (BitVec.ofNat 32 r.val)).toNat = c.val
  · rw [scatter_set_hit d x idx u _ 1 (fun k _ => hu k) (ix1 r) ((lands _ _ _).2 ⟨rfl, h⟩)]
    exact (if_pos h).symm
  · rw [scatter_set_miss d x idx u _ fun k hk => ?_, hx]
    · exact (if_neg h).symm
    · obtain ⟨a, rfl⟩ : ∃ a : Fin 1024, k = ix1 a := ⟨k 0, eq_ix1 k⟩
      obtain ⟨e, e'⟩ := (lands _ _ _).1 hk
      rw [e] at e'
      exact h e'

end Cert.Proof
-- ==== Proof.Indicator.lean ====
/-
  The kernel's arrays at an entry: its counters, the columns of draws, and the two indicators.
-/
module

public import proofs.«01_k».proof.Proof.HotRun
public import proofs.«01_k».proof.Proof.Draws
public import proofs.«01_k».proof.Proof.OneHot
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe
open Idealize.SL.Sem

/-! ## The counters and the columns of draws -/

/-- The counter at row `r` and lane `l` is `128 r + l`. -/
theorem counter_apply (r : Fin 8) (l : Fin 128) : k0_pay2 (ValueIdx.ix2 r l) = BitVec.ofNat 32 (r.val * 128 + l.val) := by
  unfold k0_pay2
  show iota .tc S8x128 32 [0] _ _ * 128#32 + iota .tc S8x128 32 [1] _ _ = _
  rw [iota_single_apply, iota_single_apply, BitVec.ofNat_add, BitVec.ofNat_mul]

/-- The column of draws: entry `n` is the draw numbered `n`. -/
def column (d : BitVec 32 → BitVec 32) : IVec S1024x1 32 := fun j => d (BitVec.ofNat 32 (j 0).val)

/-- An array of draws numbered by the counters, read as a column, is the column of draws. -/
theorem reshape_draws (d : BitVec 32 → BitVec 32) (x : IVec S8x128 32) (h : ∀ i, x i = d (k0_pay2 i)) :
    shapeCast S1024x1 x shapeCasts_S8x128_S1024x1 = column d := by
  funext j
  obtain ⟨n, z, rfl⟩ : ∃ (n : Fin 1024) (z : Fin 1), j = ValueIdx.ix2 n z := ⟨j 0, j 1, ValueIdx.eq_ix2 j⟩
  have hr : n.val / 128 < 8 := by omega
  have hl : n.val % 128 < 128 := Nat.mod_lt _ (by decide)
  rw [shapeCast_apply x _ (ValueIdx.ix2 n z) (ValueIdx.ix2 (⟨n.val / 128, hr⟩ : Fin 8) (⟨n.val % 128, hl⟩ : Fin 128)) (by
    rw [Shape.rowMajor_val_two, Shape.rowMajor_val_two]
    show n.val / 128 * 128 + n.val % 128 = n.val * 1 + z.val
    omega), h, counter_apply]
  show d _ = d (BitVec.ofNat 32 n.val)
  congr 2
  show n.val / 128 * 128 + n.val % 128 = n.val
  omega

/-! ## The indicators at an entry -/

/-- A comparison for equality, widened and converted, is 1 where the words are equal and 0 elsewhere. -/
theorem indicator (a b : BitVec 32) :
    ((((BitVec.ofBool (a == b)).zeroExtend 32).toInt : ℝ) : EReal) = if b.toNat = a.toNat then 1 else 0 := by
  by_cases h : a = b
  · subst h
    rw [if_pos rfl, beq_self_eq_true, show ((BitVec.ofBool true).zeroExtend 32).toInt = 1 from by decide]
    norm_num
  · rw [if_neg fun e => h (BitVec.eq_of_toNat_eq e.symm), beq_eq_false_iff_ne.mpr h,
      show ((BitVec.ofBool false).zeroExtend 32).toInt = 0 from by decide]
    norm_num

/-- The column spread along the rows of an array reads, at row `n`, its entry `n`. -/
theorem spread_apply {C : Nat} (h : S1024x1.Broadcasts ⟨2, ![1024, C]⟩) (d : BitVec 32 → BitVec 32) (n : Fin 1024) (k : Fin C) :
    broadcastTo ⟨2, ![1024, C]⟩ (column d) h (ValueIdx.ix2 n k) = d (BitVec.ofNat 32 n.val) :=
  broadcastTo_apply (column d) h _ (ValueIdx.ix2 n (0 : Fin 1)) fun a => match a with
    | ⟨0, _⟩ => rfl
    | ⟨1, _⟩ => rfl

/-- An entry of the first indicator. -/
theorem pay2_apply (d : BitVec 32 → BitVec 32) (j : S1024x18.Idx) : k1_pay2 (F := Ideal) (column d) j = oneHot 18 d j := by
  obtain ⟨n, k, rfl⟩ : ∃ (n : Fin 1024) (k : Fin 18), j = ValueIdx.ix2 n k := ⟨j 0, j 1, ValueIdx.eq_ix2 j⟩
  unfold k1_pay2
  rw [shapeCast_self]
  refine Eq.trans ?_ ((indicator (BitVec.ofNat 32 k.val) (d (BitVec.ofNat 32 n.val))).trans ?_)
  · show ((((BitVec.ofBool (iota .tc S1024x18 32 [1] _ _ == broadcastTo S1024x18 (column d) _ _)).zeroExtend 32).toInt : ℝ) : EReal) = _
    rw [iota_single_apply, spread_apply]
  · rw [BitVec.toNat_ofNat, Nat.mod_eq_of_lt (by omega)]; rfl

/-- An entry of the second indicator at a block of columns. -/
theorem pay1_apply (d : BitVec 32 → BitVec 32) (i : grid1.Coords) (n : Fin 1024) (k : Fin 1280) (c : Fin 32000)
    (hc : c.val = (i 0).val * 1280 + k.val) : k1_pay1 (F := Ideal) i (column d) (ValueIdx.ix2 n k) = oneHot 32000 d (ValueIdx.ix2 n c) := by
  unfold k1_pay1
  rw [shapeCast_self]
  refine Eq.trans ?_ ((indicator (BitVec.ofNat 32 k.val + BitVec.ofNat 32 (i 0).val * 1280#32) (d (BitVec.ofNat 32 n.val))).trans ?_)
  · show ((((BitVec.ofBool (iota .tc S1024x1280 32 [1] _ _ + BitVec.ofNat 32 (i 0).val * 1280#32 == broadcastTo S1024x1280 (column d) _ _)).zeroExtend 32).toInt : ℝ) : EReal) = _
    rw [iota_single_apply, spread_apply]
  · rw [← BitVec.ofNat_mul, ← BitVec.ofNat_add, BitVec.toNat_ofNat, Nat.mod_eq_of_lt (by omega),
      show k.val + (i 0).val * 1280 = c.val from by omega]; rfl

end Cert.Proof

end
-- ==== Proof.KernelValue.lean ====
/-
  What the kernel returns: the one-hot arrays of the action draws and of the language draws.
-/
module

public import proofs.«01_k».proof.Proof.KernelRun
public import proofs.«01_k».proof.Proof.Indicator
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.SL.Sem
open Idealize.ShloMosaic.Pipeline (Dat)

/-! ## A region's arrays from what its body leaves -/

section
variable {c : Dev nD}

/-- The drawing region writes each result whole, at its one point: the first -/
theorem drawn0 (dat : Dat τ (Elt Ideal) Unit ℕ (UR sig nD τ) ℕ cfg0 c) (x : IVec S8x128 32) (h : ∀ t, dat.after 0 t = x) :
    dat.arrAt 0 cfg0.N = x := by
  refine dat.arrAt_eq_of_covers 0 x (by decide +kernel) fun t _ y => ?_
  blk_simp
  rw [h]
  refine congrArg x ?_
  blk_ext [(by decide +kernel : ∀ t : Fin grid0.N, win0_0.index t = ![0, 0])]

/-- and the second. -/
theorem drawn1 (dat : Dat τ (Elt Ideal) Unit ℕ (UR sig nD τ) ℕ cfg0 c) (x : IVec S8x128 32) (h : ∀ t, dat.after 1 t = x) :
    dat.arrAt 1 cfg0.N = x := by
  refine dat.arrAt_eq_of_covers 1 x (by decide +kernel) fun t _ y => ?_
  blk_simp
  rw [h]
  refine congrArg x ?_
  blk_ext [(by decide +kernel : ∀ t : Fin grid0.N, win0_1.index t = ![0, 0])]

/-- The indicator region writes its first result whole, -/
theorem shown0 (dat : Dat τ (Elt Ideal) Unit ℕ (UR sig nD τ) ℕ cfg1 c) (x : S1024x18.Idx → EReal) (h : ∀ t, dat.after 2 t = x) :
    dat.arrAt 2 cfg1.N = x := by
  refine dat.arrAt_eq_of_covers 2 x (by decide +kernel) fun t _ y => ?_
  blk_simp
  rw [h]
  refine congrArg x ?_
  blk_ext [(by decide +kernel : ∀ t : Fin grid1.N, win1_2.index t = ![0, 0])]

/-- and its second by blocks of 1280 columns. -/
theorem shown1 (dat : Dat τ (Elt Ideal) Unit ℕ (UR sig nD τ) ℕ cfg1 c) (x : S1024x32000.Idx → EReal)
    (h : ∀ (t : Fin cfg1.N) (n : Fin 1024) (k : Fin 1280) (j : Fin 32000), j.val = (grid1.coords t 0).val * 1280 + k.val →
      dat.after 3 t (ValueIdx.ix2 n k) = x (ValueIdx.ix2 n j)) :
    dat.arrAt 3 cfg1.N = x := by
  refine dat.arrAt_eq_of_covers 3 x (by decide +kernel) fun t _ y => ?_
  have hi : ∀ t : Fin grid1.N, win1_3.index t = ![0, (grid1.coords t 0).val] := by decide +kernel
  blk_simp
  obtain ⟨n, k, rfl⟩ : ∃ (n : Fin 1024) (k : Fin 1280), y = ValueIdx.ix2 n k := ⟨y 0, y 1, ValueIdx.eq_ix2 y⟩
  have ht : (grid1.coords t 0).val < 25 := (grid1.coords t 0).isLt
  rw [h t n k ⟨(grid1.coords t 0).val * 1280 + k.val, by omega⟩ rfl]
  refine congrArg x ?_
  blk_ext [hi]

/-- The indicator region reads each column whole, at every point: the first -/
theorem blk0 (V : Valuation τ sig (Elt Ideal)) (x : IVec S1024x1 32) (h : V main_v1 = x) (t : Fin cfg1.N) : blkOf V 0 t = x := by
  funext y
  unfold blkOf
  rw [show V (Pipeline.arrRef spec1 0) = x from h]
  blk_simp
  refine congrArg x ?_
  blk_ext [(by decide +kernel : ∀ t : Fin grid1.N, win1_0.index t = ![0, 0])]

/-- and the second. -/
theorem blk1 (V : Valuation τ sig (Elt Ideal)) (x : IVec S1024x1 32) (h : V main_v2 = x) (t : Fin cfg1.N) : blkOf V 1 t = x := by
  funext y
  unfold blkOf
  rw [show V (Pipeline.arrRef spec1 1) = x from h]
  blk_simp
  refine congrArg x ?_
  blk_ext [(by decide +kernel : ∀ t : Fin grid1.N, win1_1.index t = ![0, 0])]

end

/-! ## The buffers between the items -/

section
variable (m : (ℓ : Loc nD τ sig) → Buf (Elt Ideal) ℓ) (c : Dev nD)

/-- After the drawing region its first result holds the action draws -/
theorem W1_actn : W1 m c main_v0_0 = outA hiA loA :=
  (Pipeline.afterRegion_arr (datR (W0 m c) c) (W0 m c) launch0.win.arr_inj (0 : Fin 2)).trans (drawn0 _ _ (datR_after0 _ c))

/-- and its second the language draws. -/
theorem W1_lang : W1 m c main_v0_1 = outL hiL loL :=
  (Pipeline.afterRegion_arr (datR (W0 m c) c) (W0 m c) launch0.win.arr_inj (1 : Fin 2)).trans (drawn1 _ _ (datR_after1 _ c))

/-- After the reshapes the columns hold the draws in order: the action draws -/
theorem W2_actn : W2 m c main_v1 = column (Spec.draw 18#32 Spec.keyA) := by
  rw [← reshape_draws _ _ outA_apply, ← W1_actn m c]
  unfold W2
  rw [StableHlo.after_cons, StableHlo.after_cons, StableHlo.after_nil, StableHlo.reshape_result_ne _ _ _ _ _ _ _ (by decide), StableHlo.reshape_result]
  rfl

/-- and the language draws. -/
theorem W2_lang : W2 m c main_v2 = column (Spec.draw 32000#32 Spec.keyL) := by
  rw [← reshape_draws _ _ outL_apply, ← W1_lang m c]
  unfold W2
  rw [StableHlo.after_cons, StableHlo.after_cons, StableHlo.after_nil, StableHlo.reshape_result, StableHlo.reshape_result_ne _ _ _ _ _ _ _ (by decide)]
  rfl

/-- The kernel's first result is the one-hot array of the action draws. -/
theorem W3_actn : W3 m c main_v3_0 = oneHot 18 (Spec.draw 18#32 Spec.keyA) :=
  (Pipeline.afterRegion_arr (datH (W2 m c) c) (W2 m c) launch1.win.arr_inj (2 : Fin 4)).trans <|
    shown0 _ _ fun t => by
      rw [datH_after2, blk0 _ _ (W2_actn m c)]
      exact funext fun j => pay2_apply _ j

/-- The kernel's second result is the one-hot array of the language draws. -/
theorem W3_lang : W3 m c main_v3_1 = oneHot 32000 (Spec.draw 32000#32 Spec.keyL) :=
  (Pipeline.afterRegion_arr (datH (W2 m c) c) (W2 m c) launch1.win.arr_inj (3 : Fin 4)).trans <|
    shown1 _ _ fun t n k j hj => by
      rw [datH_after3, blk1 _ _ (W2_lang m c)]
      exact pay1_apply _ _ n k j hj

end

end Cert.Proof

end
-- ==== Proof.Line.lean ====
/-
  Straight lines of host operations in which every value has a buffer of its own and buffers are numbered in the order of
  the operations. After such a line every operation's equation still holds: the result's buffer is the operation's value on
  the operands' buffers, all read at the end. So a long line is read as a set of equations rather than as a long fold.
-/
module

public import Idealize.ShloMosaic.Lib.StableHlo.Run

@[expose] public section

noncomputable section

namespace Cert.Proof

open Idealize.ShloMosaic Idealize.ShloMosaic.StableHlo Idealize.ShloMosaic.TcCoe

variable {τ : Topo} {sig : RefSig} {Val : EltTy → Type}

/-- An operation with the one buffer it writes and the buffers its value depends on. -/
structure Step (τ : Topo) (sig : RefSig) (Val : EltTy → Type) where
  /-- The operation. -/
  op : HloOp τ sig Val
  /-- The buffer it writes. -/
  dst : Ref sig .tc
  /-- The buffers it reads. -/
  srcs : List (Ref sig .tc)
  /-- It writes that buffer only. -/
  writes_eq : op.writes = {Proc.devRef .tc dst}
  /-- It touches tensor values of the program only. -/
  bufs_sub : op.bufs ⊆ tcRefs τ sig
  /-- It leaves nothing undetermined. -/
  fresh_eq : op.fresh = ∅
  /-- Its value is a function of the buffers it reads. -/
  reads : ∀ V V' : Valuation τ sig Val, (∀ s ∈ srcs, V (Proc.devRef .tc s) = V' (Proc.devRef .tc s)) →
    op.result V (Proc.devRef .tc dst) = op.result V' (Proc.devRef .tc dst)

/-- The value at a typed reference in a valuation. -/
def val {T : BufTy} (x : TRef sig T) (W : Valuation τ sig Val) : T.Contents Val :=
  x.ofBuf (W (Proc.devRef .tc x.ref))

namespace Step

variable {Tx Ta Tb Tc Ty : BufTy}

/-- A constant. -/
def nul (y : TRef sig Ty) (v : Ty.Contents Val) : Step τ sig Val where
  op := TRef.nullary y v
  dst := y.ref
  srcs := []
  writes_eq := rfl
  bufs_sub := nullary_bufs_sub _ _ _
  fresh_eq := rfl
  reads V V' _ := by rw [nullary_result, nullary_result]

/-- An operation of one operand. -/
def una (x : TRef sig Tx) (y : TRef sig Ty) (f : Tx.Contents Val → Ty.Contents Val) : Step τ sig Val where
  op := TRef.unary x y f
  dst := y.ref
  srcs := [x.ref]
  writes_eq := rfl
  bufs_sub := unary_bufs_sub _ _ _ _ _
  fresh_eq := rfl
  reads V V' h := by rw [unary_result, unary_result, h x.ref (by simp)]

/-- An operation of two operands. -/
def bin (a : TRef sig Ta) (b : TRef sig Tb) (y : TRef sig Ty) (f : Ta.Contents Val → Tb.Contents Val → Ty.Contents Val) :
    Step τ sig Val where
  op := TRef.binary a b y f
  dst := y.ref
  srcs := [a.ref, b.ref]
  writes_eq := rfl
  bufs_sub := binary_bufs_sub _ _ _ _ _ _ _
  fresh_eq := rfl
  reads V V' h := by rw [binary_result, binary_result, h a.ref (by simp), h b.ref (by simp)]

/-- An operation of three operands. -/
def ter (c : TRef sig Tc) (a : TRef sig Ta) (b : TRef sig Tb) (y : TRef sig Ty)
    (f : Tc.Contents Val → Ta.Contents Val → Tb.Contents Val → Ty.Contents Val) : Step τ sig Val where
  op := TRef.ternary c a b y f
  dst := y.ref
  srcs := [c.ref, a.ref, b.ref]
  writes_eq := rfl
  bufs_sub := ternary_bufs_sub _ _ _ _ _ _ _ _ _
  fresh_eq := rfl
  reads V V' h := by
    rw [ternary_result, ternary_result, h c.ref (by simp), h a.ref (by simp), h b.ref (by simp)]

/-- The same elements under another shape. -/
def rsh {S S' : Shape} {e : EltTy} (x : TRef sig ⟨S, e⟩) (y : TRef sig ⟨S', e⟩) (h : S.ShapeCasts S') : Step τ sig Val where
  op := TRef.reshape x y (rfl : e = e) h
  dst := y.ref
  srcs := [x.ref]
  writes_eq := rfl
  bufs_sub := reshape_bufs_sub _ _ _ _ _ _
  fresh_eq := rfl
  reads V V' hs := by rw [reshape_result, reshape_result, hs x.ref (by simp)]

/-- The operation's equation at a valuation: its result's buffer holds its value there. -/
def Holds (s : Step τ sig Val) (W : Valuation τ sig Val) : Prop :=
  s.op.result W (Proc.devRef .tc s.dst) = W (Proc.devRef .tc s.dst)

theorem nul_holds (y : TRef sig Ty) (v : Ty.Contents Val) (W : Valuation τ sig Val) :
    (nul y v).Holds W ↔ val y W = v := by
  obtain ⟨y, rfl, hy, hy'⟩ := y
  unfold Holds
  erw [nullary_result _ _ ⟨hy, hy'⟩]; exact eq_comm

theorem una_holds (x : TRef sig Tx) (y : TRef sig Ty) (f : Tx.Contents Val → Ty.Contents Val) (W : Valuation τ sig Val) :
    (una x y f).Holds W ↔ val y W = f (val x W) := by
  obtain ⟨y, rfl, hy, hy'⟩ := y
  unfold Holds
  erw [unary_result]; exact eq_comm

theorem bin_holds (a : TRef sig Ta) (b : TRef sig Tb) (y : TRef sig Ty)
    (f : Ta.Contents Val → Tb.Contents Val → Ty.Contents Val) (W : Valuation τ sig Val) :
    (bin a b y f).Holds W ↔ val y W = f (val a W) (val b W) := by
  obtain ⟨y, rfl, hy, hy'⟩ := y
  unfold Holds
  erw [binary_result]; exact eq_comm

theorem ter_holds (c : TRef sig Tc) (a : TRef sig Ta) (b : TRef sig Tb) (y : TRef sig Ty)
    (f : Tc.Contents Val → Ta.Contents Val → Tb.Contents Val → Ty.Contents Val) (W : Valuation τ sig Val) :
    (ter c a b y f).Holds W ↔ val y W = f (val c W) (val a W) (val b W) := by
  obtain ⟨y, rfl, hy, hy'⟩ := y
  unfold Holds
  erw [ternary_result]; exact eq_comm

theorem reshape_value {Tx Ty : BufTy} (x : TRef sig Tx) (y : TRef sig Ty) (he : Tx.elt = Ty.elt)
    (hn : Tx.shape.ShapeCasts Ty.shape) (W : Valuation τ sig Val) :
    y.ofBuf ((TRef.reshape x y he hn : HloOp τ sig Val).result W (Proc.devRef .tc y.ref))
      = fun i => he ▸ shapeCast Ty.shape (val x W) hn i := by
  obtain ⟨x, rfl, hx, hx'⟩ := x
  obtain ⟨y, rfl, hy, hy'⟩ := y
  erw [reshape_result]
  rfl

theorem rsh_holds {S S' : Shape} {e : EltTy} (x : TRef sig ⟨S, e⟩) (y : TRef sig ⟨S', e⟩) (h : S.ShapeCasts S')
    (W : Valuation τ sig Val) : (rsh x y h).Holds W ↔ val y W = shapeCast S' (val x W) h := by
  have hv := reshape_value x y (rfl : e = e) h W
  have hinj : Function.Injective (y.ofBuf (Val := Val)) := fun a b hab => (cast_inj _).mp hab
  constructor
  · intro hh
    exact (congrArg y.ofBuf hh).symm.trans hv
  · intro hh
    exact hinj (hv.trans hh.symm)

end Step

/-! ## Lines -/

/-- The operations of a line. -/
def opsOf (l : List (Step τ sig Val)) : List (HloOp τ sig Val) := l.map Step.op

theorem opsOf_append (l l' : List (Step τ sig Val)) : opsOf (l ++ l') = opsOf l ++ opsOf l' := List.map_append

/-- Every equation of a line holds at a valuation. -/
def Sound : List (Step τ sig Val) → Valuation τ sig Val → Prop
  | [], _ => True
  | s :: l, W => s.Holds W ∧ Sound l W

theorem sound_append (l l' : List (Step τ sig Val)) (W : Valuation τ sig Val) :
    Sound (l ++ l') W ↔ Sound l W ∧ Sound l' W := by
  induction l with
  | nil => simp [Sound]
  | cons s l ih => simp [Sound, ih, and_assoc]

/-- The line's results are the buffers numbered from `n` on, in order, and each operation reads lower numbers only. -/
def numbered : Nat → List (Step τ sig Val) → Bool
  | _, [] => true
  | n, s :: l => Nat.beq s.dst.idx n && s.srcs.all (fun r => Nat.blt r.idx n) && numbered (n + 1) l

/-- A buffer numbered below a line's results keeps its contents. -/
theorem after_below {n : Nat} {l : List (Step τ sig Val)} (h : numbered n l = true) {r : Ref sig .tc} (hr : r.idx.val < n)
    (V : Valuation τ sig Val) : after (opsOf l) V (Proc.devRef .tc r) = V (Proc.devRef .tc r) := by
  induction l generalizing n V with
  | nil => rfl
  | cons s l ih =>
    simp only [numbered, Bool.and_eq_true, Nat.beq_eq] at h
    have hd := h.1.1
    have hne : r ≠ s.dst := fun e => by subst e; omega
    show after (opsOf l) (s.op.result V) _ = _
    rw [ih h.2 (by omega), HloOp.result_of_not_mem]
    rw [s.writes_eq, Finset.mem_singleton]
    exact devRef_ne_of_ne hne

/-- After a numbered line every one of its equations holds. -/
theorem sound_after {n : Nat} {l : List (Step τ sig Val)} (h : numbered n l = true) (V : Valuation τ sig Val) :
    Sound l (after (opsOf l) V) := by
  induction l generalizing n V with
  | nil => trivial
  | cons s l ih =>
    simp only [numbered, Bool.and_eq_true, Nat.beq_eq, List.all_eq_true, Nat.blt_eq] at h
    refine ⟨?_, ih h.2 _⟩
    show s.op.result (after (opsOf l) (s.op.result V)) _ = after (opsOf l) (s.op.result V) _
    have hd := h.1.1
    rw [after_below h.2 (by omega)]
    refine s.reads _ _ fun r hr => ?_
    have hlt := h.1.2 r hr
    have hne : r ≠ s.dst := fun e => by subst e; omega
    rw [after_below h.2 (by omega), HloOp.result_of_not_mem]
    rw [s.writes_eq, Finset.mem_singleton]
    exact devRef_ne_of_ne hne

theorem opsOf_bufs (l : List (Step τ sig Val)) : (opsOf l).Forall fun op => op.bufs ⊆ tcRefs τ sig :=
  List.forall_iff_forall_mem.mpr fun op hop => by
    obtain ⟨s, _, rfl⟩ := List.mem_map.mp hop
    exact s.bufs_sub

theorem opsOf_fresh (l : List (Step τ sig Val)) : ∀ op ∈ opsOf l, op.fresh = ∅ := fun op hop => by
  obtain ⟨s, _, rfl⟩ := List.mem_map.mp hop
  exact s.fresh_eq

end Cert.Proof
-- ==== Proof.RefSteps.lean ====
/-
  The reference as straight lines: each function's operations in order, over its arguments and one call's buffers.
-/
module

public import proofs.«01_k».proof.Proof.Line
public import proofs.«01_k».proof.Proof.Gen.ReferenceIdeal
public import Idealize.ShloMosaic.Lib.Pipeline.Regions

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe
open Idealize.SL.Sem

variable {F : FTy → Type} [FloatOps F]

/-! ## The values of the main function -/

/-- The value `c`. -/
abbrev t_c : TRef sig ⟨S_, .i32⟩ := .of main_c
/-- The value `c_0`. -/
abbrev t_c_0 : TRef sig ⟨S_, .i32⟩ := .of main_c_0
/-- The value `c_1`. -/
abbrev t_c_1 : TRef sig ⟨S_, .i32⟩ := .of main_c_1
/-- The value `c_2`. -/
abbrev t_c_2 : TRef sig ⟨S_, .i32⟩ := .of main_c_2
/-- The value `c_3`. -/
abbrev t_c_3 : TRef sig ⟨S_, .i32⟩ := .of main_c_3
/-- The value `c_4`. -/
abbrev t_c_4 : TRef sig ⟨S_, .i32⟩ := .of main_c_4
/-- The value `c_5`. -/
abbrev t_c_5 : TRef sig ⟨S_, .i32⟩ := .of main_c_5
/-- The value `c_6`. -/
abbrev t_c_6 : TRef sig ⟨S_, .i32⟩ := .of main_c_6
/-- The value `c_7`. -/
abbrev t_c_7 : TRef sig ⟨S_, .i32⟩ := .of main_c_7
/-- The value `c_9`. -/
abbrev t_c_9 : TRef sig ⟨S_, .i32⟩ := .of main_c_9
/-- The value `c_10`. -/
abbrev t_c_10 : TRef sig ⟨S_, .i32⟩ := .of main_c_10
/-- The value `c_12`. -/
abbrev t_c_12 : TRef sig ⟨S_, .i32⟩ := .of main_c_12
/-- The value `c_13`. -/
abbrev t_c_13 : TRef sig ⟨S_, .i32⟩ := .of main_c_13
/-- The value `c_14`. -/
abbrev t_c_14 : TRef sig ⟨S_, .i32⟩ := .of main_c_14
/-- The value `c_15`. -/
abbrev t_c_15 : TRef sig ⟨S_, .i32⟩ := .of main_c_15
/-- The value `cst`. -/
abbrev t_cst : TRef sig ⟨S_, .f32⟩ := .of main_cst
/-- The value `cst_8`. -/
abbrev t_cst_8 : TRef sig ⟨S_, .f32⟩ := .of main_cst_8
/-- The value `cst_11`. -/
abbrev t_cst_11 : TRef sig ⟨S_, .f32⟩ := .of main_cst_11
/-- The value `cst_16`. -/
abbrev t_cst_16 : TRef sig ⟨S_, .f32⟩ := .of main_cst_16
/-- The value `v0`. -/
abbrev t_v0 : TRef sig ⟨S_, .i32⟩ := .of main_v0
/-- The value `v1`. -/
abbrev t_v1 : TRef sig ⟨S_, .i32⟩ := .of main_v1
/-- The value `v2`. -/
abbrev t_v2 : TRef sig ⟨S1, .i32⟩ := .of main_v2
/-- The value `v3`. -/
abbrev t_v3 : TRef sig ⟨S_, .i32⟩ := .of main_v3
/-- The value `v4`. -/
abbrev t_v4 : TRef sig ⟨S_, .i32⟩ := .of main_v4
/-- The value `v5`. -/
abbrev t_v5 : TRef sig ⟨S1, .i32⟩ := .of main_v5
/-- The value `v6`. -/
abbrev t_v6 : TRef sig ⟨S2, .i32⟩ := .of main_v6
/-- The value `v7`. -/
abbrev t_v7 : TRef sig ⟨S2x2, .i32⟩ := .of main_v7
/-- The value `v8`. -/
abbrev t_v8 : TRef sig ⟨S1x2, .i32⟩ := .of main_v8
/-- The value `v9`. -/
abbrev t_v9 : TRef sig ⟨S2, .i32⟩ := .of main_v9
/-- The value `v10`. -/
abbrev t_v10 : TRef sig ⟨S1x2, .i32⟩ := .of main_v10
/-- The value `v11`. -/
abbrev t_v11 : TRef sig ⟨S2, .i32⟩ := .of main_v11
/-- The value `v12`. -/
abbrev t_v12 : TRef sig ⟨S1024, .i32⟩ := .of main_v12
/-- The value `v13`. -/
abbrev t_v13 : TRef sig ⟨S1024, .i32⟩ := .of main_v13
/-- The value `v14`. -/
abbrev t_v14 : TRef sig ⟨S1024x18, .f32⟩ := .of main_v14
/-- The value `v15`. -/
abbrev t_v15 : TRef sig ⟨S1024, .i32⟩ := .of main_v15
/-- The value `v16`. -/
abbrev t_v16 : TRef sig ⟨S1024, .i1⟩ := .of main_v16
/-- The value `v17`. -/
abbrev t_v17 : TRef sig ⟨S1024, .i32⟩ := .of main_v17
/-- The value `v18`. -/
abbrev t_v18 : TRef sig ⟨S1024, .i32⟩ := .of main_v18
/-- The value `v19`. -/
abbrev t_v19 : TRef sig ⟨S1024, .i32⟩ := .of main_v19
/-- The value `v20`. -/
abbrev t_v20 : TRef sig ⟨S1024, .i32⟩ := .of main_v20
/-- The value `v21`. -/
abbrev t_v21 : TRef sig ⟨S1024, .i1⟩ := .of main_v21
/-- The value `v22`. -/
abbrev t_v22 : TRef sig ⟨S1024, .i32⟩ := .of main_v22
/-- The value `v23`. -/
abbrev t_v23 : TRef sig ⟨S1024, .i32⟩ := .of main_v23
/-- The value `v24`. -/
abbrev t_v24 : TRef sig ⟨S1024, .i32⟩ := .of main_v24
/-- The value `v25`. -/
abbrev t_v25 : TRef sig ⟨S1024x1, .i32⟩ := .of main_v25
/-- The value `v26`. -/
abbrev t_v26 : TRef sig ⟨S1024x1, .i32⟩ := .of main_v26
/-- The value `v27`. -/
abbrev t_v27 : TRef sig ⟨S1024x2, .i32⟩ := .of main_v27
/-- The value `v28`. -/
abbrev t_v28 : TRef sig ⟨S1024, .f32⟩ := .of main_v28
/-- The value `v29`. -/
abbrev t_v29 : TRef sig ⟨S1024x18, .f32⟩ := .of main_v29
/-- The value `v30`. -/
abbrev t_v30 : TRef sig ⟨S1024, .i32⟩ := .of main_v30
/-- The value `v31`. -/
abbrev t_v31 : TRef sig ⟨S1024x32000, .f32⟩ := .of main_v31
/-- The value `v32`. -/
abbrev t_v32 : TRef sig ⟨S1024, .i32⟩ := .of main_v32
/-- The value `v33`. -/
abbrev t_v33 : TRef sig ⟨S1024, .i1⟩ := .of main_v33
/-- The value `v34`. -/
abbrev t_v34 : TRef sig ⟨S1024, .i32⟩ := .of main_v34
/-- The value `v35`. -/
abbrev t_v35 : TRef sig ⟨S1024, .i32⟩ := .of main_v35
/-- The value `v36`. -/
abbrev t_v36 : TRef sig ⟨S1024, .i32⟩ := .of main_v36
/-- The value `v37`. -/
abbrev t_v37 : TRef sig ⟨S1024, .i32⟩ := .of main_v37
/-- The value `v38`. -/
abbrev t_v38 : TRef sig ⟨S1024, .i1⟩ := .of main_v38
/-- The value `v39`. -/
abbrev t_v39 : TRef sig ⟨S1024, .i32⟩ := .of main_v39
/-- The value `v40`. -/
abbrev t_v40 : TRef sig ⟨S1024, .i32⟩ := .of main_v40
/-- The value `v41`. -/
abbrev t_v41 : TRef sig ⟨S1024, .i32⟩ := .of main_v41
/-- The value `v42`. -/
abbrev t_v42 : TRef sig ⟨S1024x1, .i32⟩ := .of main_v42
/-- The value `v43`. -/
abbrev t_v43 : TRef sig ⟨S1024x1, .i32⟩ := .of main_v43
/-- The value `v44`. -/
abbrev t_v44 : TRef sig ⟨S1024x2, .i32⟩ := .of main_v44
/-- The value `v45`. -/
abbrev t_v45 : TRef sig ⟨S1024, .f32⟩ := .of main_v45
/-- The value `v46`. -/
abbrev t_v46 : TRef sig ⟨S1024x32000, .f32⟩ := .of main_v46

/-! ## The lines -/

/-- The line of `threefry2x32`: the cipher on two counters. -/
def steps_threefry2x32 (arg0 : TRef sig ⟨S_, .i32⟩) (arg1 : TRef sig ⟨S_, .i32⟩) (arg2 : TRef sig ⟨S2, .i32⟩) (arg3 : TRef sig ⟨S2, .i32⟩)
    (φ : fn_threefry2x32.Bufs) :
    List (Step τ sig (Elt F)) :=
  [.bin arg0 arg1 φ.v0 xori, .nul φ.c (constantI S_ 32 466688986#32), .bin φ.v0 φ.c φ.v1 xori,
    .una arg0 φ.v2 (broadcastInDim S2 ![] bcast_S_S2), .bin arg2 φ.v2 φ.v3 addi,
    .una arg1 φ.v4 (broadcastInDim S2 ![] bcast_S_S2), .bin arg3 φ.v4 φ.v5 addi, .bin φ.v3 φ.v5 φ.v6 addi,
    .nul φ.c_0 (constantI S_ 32 13#32), .una φ.c_0 φ.v7 (broadcastInDim S2 ![] bcast_S_S2),
    .bin φ.v5 φ.v7 φ.v8 Host.shli, .nul φ.c_1 (constantI S_ 32 19#32),
    .una φ.c_1 φ.v9 (broadcastInDim S2 ![] bcast_S_S2), .bin φ.v5 φ.v9 φ.v10 Host.shrui, .bin φ.v8 φ.v10 φ.v11 ori,
    .bin φ.v6 φ.v11 φ.v12 xori, .bin φ.v6 φ.v12 φ.v13 addi, .nul φ.c_2 (constantI S_ 32 15#32),
    .una φ.c_2 φ.v14 (broadcastInDim S2 ![] bcast_S_S2), .bin φ.v12 φ.v14 φ.v15 Host.shli,
    .nul φ.c_3 (constantI S_ 32 17#32), .una φ.c_3 φ.v16 (broadcastInDim S2 ![] bcast_S_S2),
    .bin φ.v12 φ.v16 φ.v17 Host.shrui, .bin φ.v15 φ.v17 φ.v18 ori, .bin φ.v13 φ.v18 φ.v19 xori,
    .bin φ.v13 φ.v19 φ.v20 addi, .nul φ.c_4 (constantI S_ 32 26#32),
    .una φ.c_4 φ.v21 (broadcastInDim S2 ![] bcast_S_S2), .bin φ.v19 φ.v21 φ.v22 Host.shli,
    .nul φ.c_5 (constantI S_ 32 6#32), .una φ.c_5 φ.v23 (broadcastInDim S2 ![] bcast_S_S2),
    .bin φ.v19 φ.v23 φ.v24 Host.shrui, .bin φ.v22 φ.v24 φ.v25 ori, .bin φ.v20 φ.v25 φ.v26 xori,
    .bin φ.v20 φ.v26 φ.v27 addi, .nul φ.c_6 (constantI S_ 32 6#32),
    .una φ.c_6 φ.v28 (broadcastInDim S2 ![] bcast_S_S2), .bin φ.v26 φ.v28 φ.v29 Host.shli,
    .nul φ.c_7 (constantI S_ 32 26#32), .una φ.c_7 φ.v30 (broadcastInDim S2 ![] bcast_S_S2),
    .bin φ.v26 φ.v30 φ.v31 Host.shrui, .bin φ.v29 φ.v31 φ.v32 ori, .bin φ.v27 φ.v32 φ.v33 xori,
    .una arg1 φ.v34 (broadcastInDim S2 ![] bcast_S_S2), .bin φ.v27 φ.v34 φ.v35 addi,
    .una φ.v1 φ.v36 (broadcastInDim S2 ![] bcast_S_S2), .bin φ.v33 φ.v36 φ.v37 addi,
    .nul φ.c_8 (constantI S_ 32 1#32), .una φ.c_8 φ.v38 (broadcastInDim S2 ![] bcast_S_S2),
    .bin φ.v37 φ.v38 φ.v39 addi, .bin φ.v35 φ.v39 φ.v40 addi, .nul φ.c_9 (constantI S_ 32 17#32),
    .una φ.c_9 φ.v41 (broadcastInDim S2 ![] bcast_S_S2), .bin φ.v39 φ.v41 φ.v42 Host.shli,
    .nul φ.c_10 (constantI S_ 32 15#32), .una φ.c_10 φ.v43 (broadcastInDim S2 ![] bcast_S_S2),
    .bin φ.v39 φ.v43 φ.v44 Host.shrui, .bin φ.v42 φ.v44 φ.v45 ori, .bin φ.v40 φ.v45 φ.v46 xori,
    .bin φ.v40 φ.v46 φ.v47 addi, .nul φ.c_11 (constantI S_ 32 29#32),
    .una φ.c_11 φ.v48 (broadcastInDim S2 ![] bcast_S_S2), .bin φ.v46 φ.v48 φ.v49 Host.shli,
    .nul φ.c_12 (constantI S_ 32 3#32), .una φ.c_12 φ.v50 (broadcastInDim S2 ![] bcast_S_S2),
    .bin φ.v46 φ.v50 φ.v51 Host.shrui, .bin φ.v49 φ.v51 φ.v52 ori, .bin φ.v47 φ.v52 φ.v53 xori,
    .bin φ.v47 φ.v53 φ.v54 addi, .nul φ.c_13 (constantI S_ 32 16#32),
    .una φ.c_13 φ.v55 (broadcastInDim S2 ![] bcast_S_S2), .bin φ.v53 φ.v55 φ.v56 Host.shli,
    .nul φ.c_14 (constantI S_ 32 16#32), .una φ.c_14 φ.v57 (broadcastInDim S2 ![] bcast_S_S2),
    .bin φ.v53 φ.v57 φ.v58 Host.shrui, .bin φ.v56 φ.v58 φ.v59 ori, .bin φ.v54 φ.v59 φ.v60 xori,
    .bin φ.v54 φ.v60 φ.v61 addi, .nul φ.c_15 (constantI S_ 32 24#32),
    .una φ.c_15 φ.v62 (broadcastInDim S2 ![] bcast_S_S2), .bin φ.v60 φ.v62 φ.v63 Host.shli,
    .nul φ.c_16 (constantI S_ 32 8#32), .una φ.c_16 φ.v64 (broadcastInDim S2 ![] bcast_S_S2),
    .bin φ.v60 φ.v64 φ.v65 Host.shrui, .bin φ.v63 φ.v65 φ.v66 ori, .bin φ.v61 φ.v66 φ.v67 xori,
    .una φ.v1 φ.v68 (broadcastInDim S2 ![] bcast_S_S2), .bin φ.v61 φ.v68 φ.v69 addi,
    .una arg0 φ.v70 (broadcastInDim S2 ![] bcast_S_S2), .bin φ.v67 φ.v70 φ.v71 addi,
    .nul φ.c_17 (constantI S_ 32 2#32), .una φ.c_17 φ.v72 (broadcastInDim S2 ![] bcast_S_S2),
    .bin φ.v71 φ.v72 φ.v73 addi, .bin φ.v69 φ.v73 φ.v74 addi, .nul φ.c_18 (constantI S_ 32 13#32),
    .una φ.c_18 φ.v75 (broadcastInDim S2 ![] bcast_S_S2), .bin φ.v73 φ.v75 φ.v76 Host.shli,
    .nul φ.c_19 (constantI S_ 32 19#32), .una φ.c_19 φ.v77 (broadcastInDim S2 ![] bcast_S_S2),
    .bin φ.v73 φ.v77 φ.v78 Host.shrui, .bin φ.v76 φ.v78 φ.v79 ori, .bin φ.v74 φ.v79 φ.v80 xori,
    .bin φ.v74 φ.v80 φ.v81 addi, .nul φ.c_20 (constantI S_ 32 15#32),
    .una φ.c_20 φ.v82 (broadcastInDim S2 ![] bcast_S_S2), .bin φ.v80 φ.v82 φ.v83 Host.shli,
    .nul φ.c_21 (constantI S_ 32 17#32), .una φ.c_21 φ.v84 (broadcastInDim S2 ![] bcast_S_S2),
    .bin φ.v80 φ.v84 φ.v85 Host.shrui, .bin φ.v83 φ.v85 φ.v86 ori, .bin φ.v81 φ.v86 φ.v87 xori,
    .bin φ.v81 φ.v87 φ.v88 addi, .nul φ.c_22 (constantI S_ 32 26#32),
    .una φ.c_22 φ.v89 (broadcastInDim S2 ![] bcast_S_S2), .bin φ.v87 φ.v89 φ.v90 Host.shli,
    .nul φ.c_23 (constantI S_ 32 6#32), .una φ.c_23 φ.v91 (broadcastInDim S2 ![] bcast_S_S2),
    .bin φ.v87 φ.v91 φ.v92 Host.shrui, .bin φ.v90 φ.v92 φ.v93 ori, .bin φ.v88 φ.v93 φ.v94 xori,
    .bin φ.v88 φ.v94 φ.v95 addi, .nul φ.c_24 (constantI S_ 32 6#32),
    .una φ.c_24 φ.v96 (broadcastInDim S2 ![] bcast_S_S2), .bin φ.v94 φ.v96 φ.v97 Host.shli,
    .nul φ.c_25 (constantI S_ 32 26#32), .una φ.c_25 φ.v98 (broadcastInDim S2 ![] bcast_S_S2),
    .bin φ.v94 φ.v98 φ.v99 Host.shrui, .bin φ.v97 φ.v99 φ.v100 ori, .bin φ.v95 φ.v100 φ.v101 xori,
    .una arg0 φ.v102 (broadcastInDim S2 ![] bcast_S_S2), .bin φ.v95 φ.v102 φ.v103 addi,
    .una arg1 φ.v104 (broadcastInDim S2 ![] bcast_S_S2), .bin φ.v101 φ.v104 φ.v105 addi,
    .nul φ.c_26 (constantI S_ 32 3#32), .una φ.c_26 φ.v106 (broadcastInDim S2 ![] bcast_S_S2),
    .bin φ.v105 φ.v106 φ.v107 addi, .bin φ.v103 φ.v107 φ.v108 addi, .nul φ.c_27 (constantI S_ 32 17#32),
    .una φ.c_27 φ.v109 (broadcastInDim S2 ![] bcast_S_S2), .bin φ.v107 φ.v109 φ.v110 Host.shli,
    .nul φ.c_28 (constantI S_ 32 15#32), .una φ.c_28 φ.v111 (broadcastInDim S2 ![] bcast_S_S2),
    .bin φ.v107 φ.v111 φ.v112 Host.shrui, .bin φ.v110 φ.v112 φ.v113 ori, .bin φ.v108 φ.v113 φ.v114 xori,
    .bin φ.v108 φ.v114 φ.v115 addi, .nul φ.c_29 (constantI S_ 32 29#32),
    .una φ.c_29 φ.v116 (broadcastInDim S2 ![] bcast_S_S2), .bin φ.v114 φ.v116 φ.v117 Host.shli,
    .nul φ.c_30 (constantI S_ 32 3#32), .una φ.c_30 φ.v118 (broadcastInDim S2 ![] bcast_S_S2),
    .bin φ.v114 φ.v118 φ.v119 Host.shrui, .bin φ.v117 φ.v119 φ.v120 ori, .bin φ.v115 φ.v120 φ.v121 xori,
    .bin φ.v115 φ.v121 φ.v122 addi, .nul φ.c_31 (constantI S_ 32 16#32),
    .una φ.c_31 φ.v123 (broadcastInDim S2 ![] bcast_S_S2), .bin φ.v121 φ.v123 φ.v124 Host.shli,
    .nul φ.c_32 (constantI S_ 32 16#32), .una φ.c_32 φ.v125 (broadcastInDim S2 ![] bcast_S_S2),
    .bin φ.v121 φ.v125 φ.v126 Host.shrui, .bin φ.v124 φ.v126 φ.v127 ori, .bin φ.v122 φ.v127 φ.v128 xori,
    .bin φ.v122 φ.v128 φ.v129 addi, .nul φ.c_33 (constantI S_ 32 24#32),
    .una φ.c_33 φ.v130 (broadcastInDim S2 ![] bcast_S_S2), .bin φ.v128 φ.v130 φ.v131 Host.shli,
    .nul φ.c_34 (constantI S_ 32 8#32), .una φ.c_34 φ.v132 (broadcastInDim S2 ![] bcast_S_S2),
    .bin φ.v128 φ.v132 φ.v133 Host.shrui, .bin φ.v131 φ.v133 φ.v134 ori, .bin φ.v129 φ.v134 φ.v135 xori,
    .una arg1 φ.v136 (broadcastInDim S2 ![] bcast_S_S2), .bin φ.v129 φ.v136 φ.v137 addi,
    .una φ.v1 φ.v138 (broadcastInDim S2 ![] bcast_S_S2), .bin φ.v135 φ.v138 φ.v139 addi,
    .nul φ.c_35 (constantI S_ 32 4#32), .una φ.c_35 φ.v140 (broadcastInDim S2 ![] bcast_S_S2),
    .bin φ.v139 φ.v140 φ.v141 addi, .bin φ.v137 φ.v141 φ.v142 addi, .nul φ.c_36 (constantI S_ 32 13#32),
    .una φ.c_36 φ.v143 (broadcastInDim S2 ![] bcast_S_S2), .bin φ.v141 φ.v143 φ.v144 Host.shli,
    .nul φ.c_37 (constantI S_ 32 19#32), .una φ.c_37 φ.v145 (broadcastInDim S2 ![] bcast_S_S2),
    .bin φ.v141 φ.v145 φ.v146 Host.shrui, .bin φ.v144 φ.v146 φ.v147 ori, .bin φ.v142 φ.v147 φ.v148 xori,
    .bin φ.v142 φ.v148 φ.v149 addi, .nul φ.c_38 (constantI S_ 32 15#32),
    .una φ.c_38 φ.v150 (broadcastInDim S2 ![] bcast_S_S2), .bin φ.v148 φ.v150 φ.v151 Host.shli,
    .nul φ.c_39 (constantI S_ 32 17#32), .una φ.c_39 φ.v152 (broadcastInDim S2 ![] bcast_S_S2),
    .bin φ.v148 φ.v152 φ.v153 Host.shrui, .bin φ.v151 φ.v153 φ.v154 ori, .bin φ.v149 φ.v154 φ.v155 xori,
    .bin φ.v149 φ.v155 φ.v156 addi, .nul φ.c_40 (constantI S_ 32 26#32),
    .una φ.c_40 φ.v157 (broadcastInDim S2 ![] bcast_S_S2), .bin φ.v155 φ.v157 φ.v158 Host.shli,
    .nul φ.c_41 (constantI S_ 32 6#32), .una φ.c_41 φ.v159 (broadcastInDim S2 ![] bcast_S_S2),
    .bin φ.v155 φ.v159 φ.v160 Host.shrui, .bin φ.v158 φ.v160 φ.v161 ori, .bin φ.v156 φ.v161 φ.v162 xori,
    .bin φ.v156 φ.v162 φ.v163 addi, .nul φ.c_42 (constantI S_ 32 6#32),
    .una φ.c_42 φ.v164 (broadcastInDim S2 ![] bcast_S_S2), .bin φ.v162 φ.v164 φ.v165 Host.shli,
    .nul φ.c_43 (constantI S_ 32 26#32), .una φ.c_43 φ.v166 (broadcastInDim S2 ![] bcast_S_S2),
    .bin φ.v162 φ.v166 φ.v167 Host.shrui, .bin φ.v165 φ.v167 φ.v168 ori, .bin φ.v163 φ.v168 φ.v169 xori,
    .una φ.v1 φ.v170 (broadcastInDim S2 ![] bcast_S_S2), .bin φ.v163 φ.v170 φ.v171 addi,
    .una arg0 φ.v172 (broadcastInDim S2 ![] bcast_S_S2), .bin φ.v169 φ.v172 φ.v173 addi,
    .nul φ.c_44 (constantI S_ 32 5#32), .una φ.c_44 φ.v174 (broadcastInDim S2 ![] bcast_S_S2),
    .bin φ.v173 φ.v174 φ.v175 addi]

/-- The line of `threefry_split`: a key split in two. -/
def steps_threefry_split (arg0 : TRef sig ⟨S2, .i32⟩)
    (φ : fn_threefry_split.Bufs) :
    List (Step τ sig (Elt F)) :=
  [.una arg0 φ.v0 (extractStridedSlice S1 ![0] · slices_S2_S1_0), .rsh φ.v0 φ.v1 shapeCasts_S1_S_,
    .una arg0 φ.v2 (extractStridedSlice S1 ![1] · slices_S2_S1_1), .rsh φ.v2 φ.v3 shapeCasts_S1_S_,
    .nul φ.v4 (iotaInDim S2 64 0), .nul φ.c (constantI S_ 64 1#64), .una φ.c φ.v5 (broadcastInDim S2 ![] bcast_S_S2),
    .bin φ.v5 φ.v4 φ.v6 muli, .nul φ.c_0 (constantI S_ 64 32#64), .una φ.c_0 φ.v7 (broadcastInDim S2 ![] bcast_S_S2),
    .bin φ.v6 φ.v7 φ.v8 Host.shrui, .una φ.v6 φ.v9 (trunci 32 · natLt_32_64),
    .una φ.v8 φ.v10 (trunci 32 · natLt_32_64)] ++
  steps_threefry2x32 φ.v1 φ.v3 φ.v10 φ.v9 φ.call0 ++
  [.una φ.call0.v171 φ.v12 (broadcastInDim S2x1 ![0] bcast_S2_S2x1_0),
    .una φ.call0.v175 φ.v13 (broadcastInDim S2x1 ![0] bcast_S2_S2x1_0),
    .bin φ.v12 φ.v13 φ.v14 (fun a b => concatenate S2x2 1 [⟨S2x1, a⟩, ⟨S2x1, b⟩] concatenates_S2x1_S2x1_S2x2_d1)]

/-- The line of `clip`: a bound taken into a range. -/
def steps_clip (arg0 : TRef sig ⟨S_, .i32⟩) (arg1 : TRef sig ⟨S_, .i32⟩) (arg2 : TRef sig ⟨S_, .i32⟩)
    (φ : fn_clip.Bufs) :
    List (Step τ sig (Elt F)) :=
  [.bin arg1 arg0 φ.v0 maxsi, .bin arg2 φ.v0 φ.v1 minsi]

/-- The line of `clip_0`: a bound taken into a range. -/
def steps_clip_0 (arg0 : TRef sig ⟨S_, .i32⟩) (arg1 : TRef sig ⟨S_, .i32⟩) (arg2 : TRef sig ⟨S_, .i32⟩)
    (φ : fn_clip_0.Bufs) :
    List (Step τ sig (Elt F)) :=
  [.bin arg1 arg0 φ.v0 maxsi, .bin arg2 φ.v0 φ.v1 minsi]

/-- The line of `threefry_split_1`: a key split in two. -/
def steps_threefry_split_1 (arg0 : TRef sig ⟨S2, .i32⟩)
    (φ : fn_threefry_split_1.Bufs) :
    List (Step τ sig (Elt F)) :=
  [.una arg0 φ.v0 (extractStridedSlice S1 ![0] · slices_S2_S1_0), .rsh φ.v0 φ.v1 shapeCasts_S1_S_,
    .una arg0 φ.v2 (extractStridedSlice S1 ![1] · slices_S2_S1_1), .rsh φ.v2 φ.v3 shapeCasts_S1_S_,
    .nul φ.v4 (iotaInDim S2 64 0), .nul φ.c (constantI S_ 64 1#64), .una φ.c φ.v5 (broadcastInDim S2 ![] bcast_S_S2),
    .bin φ.v5 φ.v4 φ.v6 muli, .nul φ.c_0 (constantI S_ 64 32#64), .una φ.c_0 φ.v7 (broadcastInDim S2 ![] bcast_S_S2),
    .bin φ.v6 φ.v7 φ.v8 Host.shrui, .una φ.v6 φ.v9 (trunci 32 · natLt_32_64),
    .una φ.v8 φ.v10 (trunci 32 · natLt_32_64)] ++
  steps_threefry2x32 φ.v1 φ.v3 φ.v10 φ.v9 φ.call0 ++
  [.una φ.call0.v171 φ.v12 (broadcastInDim S2x1 ![0] bcast_S2_S2x1_0),
    .una φ.call0.v175 φ.v13 (broadcastInDim S2x1 ![0] bcast_S2_S2x1_0),
    .bin φ.v12 φ.v13 φ.v14 (fun a b => concatenate S2x2 1 [⟨S2x1, a⟩, ⟨S2x1, b⟩] concatenates_S2x1_S2x1_S2x2_d1)]

/-- The line of `threefry2x32_2`: the cipher on 1024 counters. -/
def steps_threefry2x32_2 (arg0 : TRef sig ⟨S_, .i32⟩) (arg1 : TRef sig ⟨S_, .i32⟩) (arg2 : TRef sig ⟨S1024, .i32⟩) (arg3 : TRef sig ⟨S1024, .i32⟩)
    (φ : fn_threefry2x32_2.Bufs) :
    List (Step τ sig (Elt F)) :=
  [.bin arg0 arg1 φ.v0 xori, .nul φ.c (constantI S_ 32 466688986#32), .bin φ.v0 φ.c φ.v1 xori,
    .una arg0 φ.v2 (broadcastInDim S1024 ![] bcast_S_S1024), .bin arg2 φ.v2 φ.v3 addi,
    .una arg1 φ.v4 (broadcastInDim S1024 ![] bcast_S_S1024), .bin arg3 φ.v4 φ.v5 addi, .bin φ.v3 φ.v5 φ.v6 addi,
    .nul φ.c_0 (constantI S_ 32 13#32), .una φ.c_0 φ.v7 (broadcastInDim S1024 ![] bcast_S_S1024),
    .bin φ.v5 φ.v7 φ.v8 Host.shli, .nul φ.c_1 (constantI S_ 32 19#32),
    .una φ.c_1 φ.v9 (broadcastInDim S1024 ![] bcast_S_S1024), .bin φ.v5 φ.v9 φ.v10 Host.shrui,
    .bin φ.v8 φ.v10 φ.v11 ori, .bin φ.v6 φ.v11 φ.v12 xori, .bin φ.v6 φ.v12 φ.v13 addi,
    .nul φ.c_2 (constantI S_ 32 15#32), .una φ.c_2 φ.v14 (broadcastInDim S1024 ![] bcast_S_S1024),
    .bin φ.v12 φ.v14 φ.v15 Host.shli, .nul φ.c_3 (constantI S_ 32 17#32),
    .una φ.c_3 φ.v16 (broadcastInDim S1024 ![] bcast_S_S1024), .bin φ.v12 φ.v16 φ.v17 Host.shrui,
    .bin φ.v15 φ.v17 φ.v18 ori, .bin φ.v13 φ.v18 φ.v19 xori, .bin φ.v13 φ.v19 φ.v20 addi,
    .nul φ.c_4 (constantI S_ 32 26#32), .una φ.c_4 φ.v21 (broadcastInDim S1024 ![] bcast_S_S1024),
    .bin φ.v19 φ.v21 φ.v22 Host.shli, .nul φ.c_5 (constantI S_ 32 6#32),
    .una φ.c_5 φ.v23 (broadcastInDim S1024 ![] bcast_S_S1024), .bin φ.v19 φ.v23 φ.v24 Host.shrui,
    .bin φ.v22 φ.v24 φ.v25 ori, .bin φ.v20 φ.v25 φ.v26 xori, .bin φ.v20 φ.v26 φ.v27 addi,
    .nul φ.c_6 (constantI S_ 32 6#32), .una φ.c_6 φ.v28 (broadcastInDim S1024 ![] bcast_S_S1024),
    .bin φ.v26 φ.v28 φ.v29 Host.shli, .nul φ.c_7 (constantI S_ 32 26#32),
    .una φ.c_7 φ.v30 (broadcastInDim S1024 ![] bcast_S_S1024), .bin φ.v26 φ.v30 φ.v31 Host.shrui,
    .bin φ.v29 φ.v31 φ.v32 ori, .bin φ.v27 φ.v32 φ.v33 xori, .una arg1 φ.v34 (broadcastInDim S1024 ![] bcast_S_S1024),
    .bin φ.v27 φ.v34 φ.v35 addi, .una φ.v1 φ.v36 (broadcastInDim S1024 ![] bcast_S_S1024),
    .bin φ.v33 φ.v36 φ.v37 addi, .nul φ.c_8 (constantI S_ 32 1#32),
    .una φ.c_8 φ.v38 (broadcastInDim S1024 ![] bcast_S_S1024), .bin φ.v37 φ.v38 φ.v39 addi,
    .bin φ.v35 φ.v39 φ.v40 addi, .nul φ.c_9 (constantI S_ 32 17#32),
    .una φ.c_9 φ.v41 (broadcastInDim S1024 ![] bcast_S_S1024), .bin φ.v39 φ.v41 φ.v42 Host.shli,
    .nul φ.c_10 (constantI S_ 32 15#32), .una φ.c_10 φ.v43 (broadcastInDim S1024 ![] bcast_S_S1024),
    .bin φ.v39 φ.v43 φ.v44 Host.shrui, .bin φ.v42 φ.v44 φ.v45 ori, .bin φ.v40 φ.v45 φ.v46 xori,
    .bin φ.v40 φ.v46 φ.v47 addi, .nul φ.c_11 (constantI S_ 32 29#32),
    .una φ.c_11 φ.v48 (broadcastInDim S1024 ![] bcast_S_S1024), .bin φ.v46 φ.v48 φ.v49 Host.shli,
    .nul φ.c_12 (constantI S_ 32 3#32), .una φ.c_12 φ.v50 (broadcastInDim S1024 ![] bcast_S_S1024),
    .bin φ.v46 φ.v50 φ.v51 Host.shrui, .bin φ.v49 φ.v51 φ.v52 ori, .bin φ.v47 φ.v52 φ.v53 xori,
    .bin φ.v47 φ.v53 φ.v54 addi, .nul φ.c_13 (constantI S_ 32 16#32),
    .una φ.c_13 φ.v55 (broadcastInDim S1024 ![] bcast_S_S1024), .bin φ.v53 φ.v55 φ.v56 Host.shli,
    .nul φ.c_14 (constantI S_ 32 16#32), .una φ.c_14 φ.v57 (broadcastInDim S1024 ![] bcast_S_S1024),
    .bin φ.v53 φ.v57 φ.v58 Host.shrui, .bin φ.v56 φ.v58 φ.v59 ori, .bin φ.v54 φ.v59 φ.v60 xori,
    .bin φ.v54 φ.v60 φ.v61 addi, .nul φ.c_15 (constantI S_ 32 24#32),
    .una φ.c_15 φ.v62 (broadcastInDim S1024 ![] bcast_S_S1024), .bin φ.v60 φ.v62 φ.v63 Host.shli,
    .nul φ.c_16 (constantI S_ 32 8#32), .una φ.c_16 φ.v64 (broadcastInDim S1024 ![] bcast_S_S1024),
    .bin φ.v60 φ.v64 φ.v65 Host.shrui, .bin φ.v63 φ.v65 φ.v66 ori, .bin φ.v61 φ.v66 φ.v67 xori,
    .una φ.v1 φ.v68 (broadcastInDim S1024 ![] bcast_S_S1024), .bin φ.v61 φ.v68 φ.v69 addi,
    .una arg0 φ.v70 (broadcastInDim S1024 ![] bcast_S_S1024), .bin φ.v67 φ.v70 φ.v71 addi,
    .nul φ.c_17 (constantI S_ 32 2#32), .una φ.c_17 φ.v72 (broadcastInDim S1024 ![] bcast_S_S1024),
    .bin φ.v71 φ.v72 φ.v73 addi, .bin φ.v69 φ.v73 φ.v74 addi, .nul φ.c_18 (constantI S_ 32 13#32),
    .una φ.c_18 φ.v75 (broadcastInDim S1024 ![] bcast_S_S1024), .bin φ.v73 φ.v75 φ.v76 Host.shli,
    .nul φ.c_19 (constantI S_ 32 19#32), .una φ.c_19 φ.v77 (broadcastInDim S1024 ![] bcast_S_S1024),
    .bin φ.v73 φ.v77 φ.v78 Host.shrui, .bin φ.v76 φ.v78 φ.v79 ori, .bin φ.v74 φ.v79 φ.v80 xori,
    .bin φ.v74 φ.v80 φ.v81 addi, .nul φ.c_20 (constantI S_ 32 15#32),
    .una φ.c_20 φ.v82 (broadcastInDim S1024 ![] bcast_S_S1024), .bin φ.v80 φ.v82 φ.v83 Host.shli,
    .nul φ.c_21 (constantI S_ 32 17#32), .una φ.c_21 φ.v84 (broadcastInDim S1024 ![] bcast_S_S1024),
    .bin φ.v80 φ.v84 φ.v85 Host.shrui, .bin φ.v83 φ.v85 φ.v86 ori, .bin φ.v81 φ.v86 φ.v87 xori,
    .bin φ.v81 φ.v87 φ.v88 addi, .nul φ.c_22 (constantI S_ 32 26#32),
    .una φ.c_22 φ.v89 (broadcastInDim S1024 ![] bcast_S_S1024), .bin φ.v87 φ.v89 φ.v90 Host.shli,
    .nul φ.c_23 (constantI S_ 32 6#32), .una φ.c_23 φ.v91 (broadcastInDim S1024 ![] bcast_S_S1024),
    .bin φ.v87 φ.v91 φ.v92 Host.shrui, .bin φ.v90 φ.v92 φ.v93 ori, .bin φ.v88 φ.v93 φ.v94 xori,
    .bin φ.v88 φ.v94 φ.v95 addi, .nul φ.c_24 (constantI S_ 32 6#32),
    .una φ.c_24 φ.v96 (broadcastInDim S1024 ![] bcast_S_S1024), .bin φ.v94 φ.v96 φ.v97 Host.shli,
    .nul φ.c_25 (constantI S_ 32 26#32), .una φ.c_25 φ.v98 (broadcastInDim S1024 ![] bcast_S_S1024),
    .bin φ.v94 φ.v98 φ.v99 Host.shrui, .bin φ.v97 φ.v99 φ.v100 ori, .bin φ.v95 φ.v100 φ.v101 xori,
    .una arg0 φ.v102 (broadcastInDim S1024 ![] bcast_S_S1024), .bin φ.v95 φ.v102 φ.v103 addi,
    .una arg1 φ.v104 (broadcastInDim S1024 ![] bcast_S_S1024), .bin φ.v101 φ.v104 φ.v105 addi,
    .nul φ.c_26 (constantI S_ 32 3#32), .una φ.c_26 φ.v106 (broadcastInDim S1024 ![] bcast_S_S1024),
    .bin φ.v105 φ.v106 φ.v107 addi, .bin φ.v103 φ.v107 φ.v108 addi, .nul φ.c_27 (constantI S_ 32 17#32),
    .una φ.c_27 φ.v109 (broadcastInDim S1024 ![] bcast_S_S1024), .bin φ.v107 φ.v109 φ.v110 Host.shli,
    .nul φ.c_28 (constantI S_ 32 15#32), .una φ.c_28 φ.v111 (broadcastInDim S1024 ![] bcast_S_S1024),
    .bin φ.v107 φ.v111 φ.v112 Host.shrui, .bin φ.v110 φ.v112 φ.v113 ori, .bin φ.v108 φ.v113 φ.v114 xori,
    .bin φ.v108 φ.v114 φ.v115 addi, .nul φ.c_29 (constantI S_ 32 29#32),
    .una φ.c_29 φ.v116 (broadcastInDim S1024 ![] bcast_S_S1024), .bin φ.v114 φ.v116 φ.v117 Host.shli,
    .nul φ.c_30 (constantI S_ 32 3#32), .una φ.c_30 φ.v118 (broadcastInDim S1024 ![] bcast_S_S1024),
    .bin φ.v114 φ.v118 φ.v119 Host.shrui, .bin φ.v117 φ.v119 φ.v120 ori, .bin φ.v115 φ.v120 φ.v121 xori,
    .bin φ.v115 φ.v121 φ.v122 addi, .nul φ.c_31 (constantI S_ 32 16#32),
    .una φ.c_31 φ.v123 (broadcastInDim S1024 ![] bcast_S_S1024), .bin φ.v121 φ.v123 φ.v124 Host.shli,
    .nul φ.c_32 (constantI S_ 32 16#32), .una φ.c_32 φ.v125 (broadcastInDim S1024 ![] bcast_S_S1024),
    .bin φ.v121 φ.v125 φ.v126 Host.shrui, .bin φ.v124 φ.v126 φ.v127 ori, .bin φ.v122 φ.v127 φ.v128 xori,
    .bin φ.v122 φ.v128 φ.v129 addi, .nul φ.c_33 (constantI S_ 32 24#32),
    .una φ.c_33 φ.v130 (broadcastInDim S1024 ![] bcast_S_S1024), .bin φ.v128 φ.v130 φ.v131 Host.shli,
    .nul φ.c_34 (constantI S_ 32 8#32), .una φ.c_34 φ.v132 (broadcastInDim S1024 ![] bcast_S_S1024),
    .bin φ.v128 φ.v132 φ.v133 Host.shrui, .bin φ.v131 φ.v133 φ.v134 ori, .bin φ.v129 φ.v134 φ.v135 xori,
    .una arg1 φ.v136 (broadcastInDim S1024 ![] bcast_S_S1024), .bin φ.v129 φ.v136 φ.v137 addi,
    .una φ.v1 φ.v138 (broadcastInDim S1024 ![] bcast_S_S1024), .bin φ.v135 φ.v138 φ.v139 addi,
    .nul φ.c_35 (constantI S_ 32 4#32), .una φ.c_35 φ.v140 (broadcastInDim S1024 ![] bcast_S_S1024),
    .bin φ.v139 φ.v140 φ.v141 addi, .bin φ.v137 φ.v141 φ.v142 addi, .nul φ.c_36 (constantI S_ 32 13#32),
    .una φ.c_36 φ.v143 (broadcastInDim S1024 ![] bcast_S_S1024), .bin φ.v141 φ.v143 φ.v144 Host.shli,
    .nul φ.c_37 (constantI S_ 32 19#32), .una φ.c_37 φ.v145 (broadcastInDim S1024 ![] bcast_S_S1024),
    .bin φ.v141 φ.v145 φ.v146 Host.shrui, .bin φ.v144 φ.v146 φ.v147 ori, .bin φ.v142 φ.v147 φ.v148 xori,
    .bin φ.v142 φ.v148 φ.v149 addi, .nul φ.c_38 (constantI S_ 32 15#32),
    .una φ.c_38 φ.v150 (broadcastInDim S1024 ![] bcast_S_S1024), .bin φ.v148 φ.v150 φ.v151 Host.shli,
    .nul φ.c_39 (constantI S_ 32 17#32), .una φ.c_39 φ.v152 (broadcastInDim S1024 ![] bcast_S_S1024),
    .bin φ.v148 φ.v152 φ.v153 Host.shrui, .bin φ.v151 φ.v153 φ.v154 ori, .bin φ.v149 φ.v154 φ.v155 xori,
    .bin φ.v149 φ.v155 φ.v156 addi, .nul φ.c_40 (constantI S_ 32 26#32),
    .una φ.c_40 φ.v157 (broadcastInDim S1024 ![] bcast_S_S1024), .bin φ.v155 φ.v157 φ.v158 Host.shli,
    .nul φ.c_41 (constantI S_ 32 6#32), .una φ.c_41 φ.v159 (broadcastInDim S1024 ![] bcast_S_S1024),
    .bin φ.v155 φ.v159 φ.v160 Host.shrui, .bin φ.v158 φ.v160 φ.v161 ori, .bin φ.v156 φ.v161 φ.v162 xori,
    .bin φ.v156 φ.v162 φ.v163 addi, .nul φ.c_42 (constantI S_ 32 6#32),
    .una φ.c_42 φ.v164 (broadcastInDim S1024 ![] bcast_S_S1024), .bin φ.v162 φ.v164 φ.v165 Host.shli,
    .nul φ.c_43 (constantI S_ 32 26#32), .una φ.c_43 φ.v166 (broadcastInDim S1024 ![] bcast_S_S1024),
    .bin φ.v162 φ.v166 φ.v167 Host.shrui, .bin φ.v165 φ.v167 φ.v168 ori, .bin φ.v163 φ.v168 φ.v169 xori,
    .una φ.v1 φ.v170 (broadcastInDim S1024 ![] bcast_S_S1024), .bin φ.v163 φ.v170 φ.v171 addi,
    .una arg0 φ.v172 (broadcastInDim S1024 ![] bcast_S_S1024), .bin φ.v169 φ.v172 φ.v173 addi,
    .nul φ.c_44 (constantI S_ 32 5#32), .una φ.c_44 φ.v174 (broadcastInDim S1024 ![] bcast_S_S1024),
    .bin φ.v173 φ.v174 φ.v175 addi]

/-- The line of `randint`: 1024 draws from a range. -/
def steps_randint (arg0 : TRef sig ⟨S2, .i32⟩) (arg1 : TRef sig ⟨S_, .i32⟩) (arg2 : TRef sig ⟨S_, .i32⟩)
    (φ : fn_randint.Bufs) :
    List (Step τ sig (Elt F)) :=
  [.nul φ.c (constantI S_ 32 2147483647#32), .nul φ.c_0 (constantI S_ 32 2147483648#32),
    .nul φ.c_1 (constantI S_ 32 2147483647#32)] ++
  steps_clip φ.c φ.c_0 φ.c_1 φ.call0 ++
  [.bin arg2 φ.call0.v1 φ.v1 (cmpi .sgt), .nul φ.c_2 (constantI S_ 32 2147483648#32),
    .nul φ.c_3 (constantI S_ 32 2147483647#32)] ++
  steps_clip_0 arg1 φ.c_2 φ.c_3 φ.call1 ++
  [.una φ.call1.v1 φ.v3 id, .nul φ.c_4 (constantI S_ 32 2147483648#32), .nul φ.c_5 (constantI S_ 32 2147483647#32)] ++
  steps_clip_0 arg2 φ.c_4 φ.c_5 φ.call2 ++
  [.una φ.call2.v1 φ.v5 id, .una φ.v3 φ.v6 (broadcastInDim S1 ![] bcast_S_S1),
    .una φ.v5 φ.v7 (broadcastInDim S1 ![] bcast_S_S1)] ++
  steps_threefry_split_1 arg0 φ.call3 ++
  [.una φ.call3.v14 φ.v9 (extractStridedSlice S1x2 ![0, 0] · slices_S2x2_S1x2_0_0),
    .rsh φ.v9 φ.v10 shapeCasts_S1x2_S2,
    .una φ.call3.v14 φ.v11 (extractStridedSlice S1x2 ![1, 0] · slices_S2x2_S1x2_1_0),
    .rsh φ.v11 φ.v12 shapeCasts_S1x2_S2, .una φ.v10 φ.v13 (extractStridedSlice S1 ![0] · slices_S2_S1_0),
    .rsh φ.v13 φ.v14 shapeCasts_S1_S_, .una φ.v10 φ.v15 (extractStridedSlice S1 ![1] · slices_S2_S1_1),
    .rsh φ.v15 φ.v16 shapeCasts_S1_S_, .nul φ.v17 (iotaInDim S1024 64 0), .nul φ.c_6 (constantI S_ 64 1#64),
    .una φ.c_6 φ.v18 (broadcastInDim S1024 ![] bcast_S_S1024), .bin φ.v18 φ.v17 φ.v19 muli,
    .nul φ.c_7 (constantI S_ 64 32#64), .una φ.c_7 φ.v20 (broadcastInDim S1024 ![] bcast_S_S1024),
    .bin φ.v19 φ.v20 φ.v21 Host.shrui, .una φ.v19 φ.v22 (trunci 32 · natLt_32_64),
    .una φ.v21 φ.v23 (trunci 32 · natLt_32_64)] ++
  steps_threefry2x32_2 φ.v14 φ.v16 φ.v23 φ.v22 φ.call4 ++
  [.bin φ.call4.v171 φ.call4.v175 φ.v25 xori, .una φ.v12 φ.v26 (extractStridedSlice S1 ![0] · slices_S2_S1_0),
    .rsh φ.v26 φ.v27 shapeCasts_S1_S_, .una φ.v12 φ.v28 (extractStridedSlice S1 ![1] · slices_S2_S1_1),
    .rsh φ.v28 φ.v29 shapeCasts_S1_S_, .nul φ.v30 (iotaInDim S1024 64 0), .nul φ.c_8 (constantI S_ 64 1#64),
    .una φ.c_8 φ.v31 (broadcastInDim S1024 ![] bcast_S_S1024), .bin φ.v31 φ.v30 φ.v32 muli,
    .nul φ.c_9 (constantI S_ 64 32#64), .una φ.c_9 φ.v33 (broadcastInDim S1024 ![] bcast_S_S1024),
    .bin φ.v32 φ.v33 φ.v34 Host.shrui, .una φ.v32 φ.v35 (trunci 32 · natLt_32_64),
    .una φ.v34 φ.v36 (trunci 32 · natLt_32_64)] ++
  steps_threefry2x32_2 φ.v27 φ.v29 φ.v36 φ.v35 φ.call5 ++
  [.bin φ.call5.v171 φ.call5.v175 φ.v38 xori, .bin φ.v7 φ.v6 φ.v39 subi, .una φ.v39 φ.v40 id,
    .bin φ.v7 φ.v6 φ.v41 (cmpi .sle), .nul φ.c_10 (constantI S_ 32 1#32),
    .una φ.c_10 φ.v42 (broadcastInDim S1 ![] bcast_S_S1), .ter φ.v41 φ.v42 φ.v40 φ.v43 select,
    .bin φ.v7 φ.v6 φ.v44 (cmpi .sgt), .una φ.v1 φ.v45 (broadcastInDim S1 ![] bcast_S_S1), .bin φ.v45 φ.v44 φ.v46 andi,
    .nul φ.c_11 (constantI S_ 32 1#32), .una φ.c_11 φ.v47 (broadcastInDim S1 ![] bcast_S_S1),
    .bin φ.v43 φ.v47 φ.v48 addi, .ter φ.v46 φ.v48 φ.v43 φ.v49 select, .nul φ.c_12 (constantI S_ 32 65536#32),
    .una φ.c_12 φ.v50 (broadcastInDim S1 ![] bcast_S_S1), .bin φ.v50 φ.v49 φ.v51 Host.remui,
    .bin φ.v51 φ.v51 φ.v52 muli, .bin φ.v52 φ.v49 φ.v53 Host.remui,
    .una φ.v49 φ.v54 (broadcastInDim S1024 ![0] bcast_S1_S1024_0), .bin φ.v25 φ.v54 φ.v55 Host.remui,
    .una φ.v53 φ.v56 (broadcastInDim S1024 ![0] bcast_S1_S1024_0), .bin φ.v55 φ.v56 φ.v57 muli,
    .una φ.v49 φ.v58 (broadcastInDim S1024 ![0] bcast_S1_S1024_0), .bin φ.v38 φ.v58 φ.v59 Host.remui,
    .bin φ.v57 φ.v59 φ.v60 addi, .una φ.v49 φ.v61 (broadcastInDim S1024 ![0] bcast_S1_S1024_0),
    .bin φ.v60 φ.v61 φ.v62 Host.remui, .una φ.v62 φ.v63 id,
    .una φ.v6 φ.v64 (broadcastInDim S1024 ![0] bcast_S1_S1024_0), .bin φ.v64 φ.v63 φ.v65 addi]

/-- The line of the whole reference. -/
def steps_main : List (Step τ sig (Elt F)) :=
  [.nul t_c (constantI S_ 32 42#32), .nul t_c_0 (constantI S_ 32 32#32),
    .bin t_c t_c_0 t_v0 Host.shrui, .una t_v0 t_v1 id,
    .una t_v1 t_v2 (broadcastInDim S1 ![] bcast_S_S1),
    .nul t_c_1 (constantI S_ 32 4294967295#32), .bin t_c t_c_1 t_v3 andi,
    .una t_v3 t_v4 id, .una t_v4 t_v5 (broadcastInDim S1 ![] bcast_S_S1),
    .bin t_v2 t_v5 t_v6 (fun a b => concatenate S2 0 [⟨S1, a⟩, ⟨S1, b⟩] concatenates_S1_S1_S2_d0)] ++
  steps_threefry_split t_v6 main_call0 ++
  [.una t_v7 t_v8 (extractStridedSlice S1x2 ![0, 0] · slices_S2x2_S1x2_0_0),
    .rsh t_v8 t_v9 shapeCasts_S1x2_S2,
    .una t_v7 t_v10 (extractStridedSlice S1x2 ![1, 0] · slices_S2x2_S1x2_1_0),
    .rsh t_v10 t_v11 shapeCasts_S1x2_S2, .nul t_v12 (iotaInDim S1024 32 0),
    .nul t_c_2 (constantI S_ 32 0#32), .nul t_c_3 (constantI S_ 32 18#32)] ++
  steps_randint t_v9 t_c_2 t_c_3 main_call1 ++
  [.nul t_cst (constant S_ .f32 0x00000000#32),
    .una t_cst t_v14 (broadcastInDim S1024x18 ![] bcast_S_S1024x18),
    .nul t_c_4 (constantI S_ 32 0#32),
    .una t_c_4 t_v15 (broadcastInDim S1024 ![] bcast_S_S1024),
    .bin t_v12 t_v15 t_v16 (cmpi .slt), .nul t_c_5 (constantI S_ 32 1024#32),
    .una t_c_5 t_v17 (broadcastInDim S1024 ![] bcast_S_S1024),
    .bin t_v12 t_v17 t_v18 addi,
    .ter t_v16 t_v18 t_v12 t_v19 select,
    .nul t_c_6 (constantI S_ 32 0#32),
    .una t_c_6 t_v20 (broadcastInDim S1024 ![] bcast_S_S1024),
    .bin t_v13 t_v20 t_v21 (cmpi .slt), .nul t_c_7 (constantI S_ 32 18#32),
    .una t_c_7 t_v22 (broadcastInDim S1024 ![] bcast_S_S1024),
    .bin t_v13 t_v22 t_v23 addi,
    .ter t_v21 t_v23 t_v13 t_v24 select,
    .una t_v19 t_v25 (broadcastInDim S1024x1 ![0] bcast_S1024_S1024x1_0),
    .una t_v24 t_v26 (broadcastInDim S1024x1 ![0] bcast_S1024_S1024x1_0),
    .bin t_v25 t_v26 t_v27 (fun a b => concatenate S1024x2 1 [⟨S1024x1, a⟩, ⟨S1024x1, b⟩] concatenates_S1024x1_S1024x1_S1024x2_d1),
    .nul t_cst_8 (constant S_ .f32 0x3F800000#32),
    .una t_cst_8 t_v28 (broadcastInDim S1024 ![] bcast_S_S1024),
    .ter t_v14 t_v27 t_v28 t_v29 (fun x i u => Host.scatter scatter_S1024x18_S1024x2_S1024_n_01_01_1 (fun _ b => b) x i u),
    .nul t_c_9 (constantI S_ 32 0#32), .nul t_c_10 (constantI S_ 32 32000#32)] ++
  steps_randint t_v11 t_c_9 t_c_10 main_call2 ++
  [.nul t_cst_11 (constant S_ .f32 0x00000000#32),
    .una t_cst_11 t_v31 (broadcastInDim S1024x32000 ![] bcast_S_S1024x32000),
    .nul t_c_12 (constantI S_ 32 0#32),
    .una t_c_12 t_v32 (broadcastInDim S1024 ![] bcast_S_S1024),
    .bin t_v12 t_v32 t_v33 (cmpi .slt), .nul t_c_13 (constantI S_ 32 1024#32),
    .una t_c_13 t_v34 (broadcastInDim S1024 ![] bcast_S_S1024),
    .bin t_v12 t_v34 t_v35 addi,
    .ter t_v33 t_v35 t_v12 t_v36 select,
    .nul t_c_14 (constantI S_ 32 0#32),
    .una t_c_14 t_v37 (broadcastInDim S1024 ![] bcast_S_S1024),
    .bin t_v30 t_v37 t_v38 (cmpi .slt), .nul t_c_15 (constantI S_ 32 32000#32),
    .una t_c_15 t_v39 (broadcastInDim S1024 ![] bcast_S_S1024),
    .bin t_v30 t_v39 t_v40 addi,
    .ter t_v38 t_v40 t_v30 t_v41 select,
    .una t_v36 t_v42 (broadcastInDim S1024x1 ![0] bcast_S1024_S1024x1_0),
    .una t_v41 t_v43 (broadcastInDim S1024x1 ![0] bcast_S1024_S1024x1_0),
    .bin t_v42 t_v43 t_v44 (fun a b => concatenate S1024x2 1 [⟨S1024x1, a⟩, ⟨S1024x1, b⟩] concatenates_S1024x1_S1024x1_S1024x2_d1),
    .nul t_cst_16 (constant S_ .f32 0x3F800000#32),
    .una t_cst_16 t_v45 (broadcastInDim S1024 ![] bcast_S_S1024),
    .ter t_v31 t_v44 t_v45 t_v46 (fun x i u => Host.scatter scatter_S1024x32000_S1024x2_S1024_n_01_01_1 (fun _ b => b) x i u)]

end Cert.Proof.Ref
-- ==== Proof.RefCipher.lean ====
/-
  The reference's cipher: the equations of its lines, read round by round, give at each entry the scalar cipher of Spec.lean.
-/
module

public import proofs.«01_k».proof.Proof.RefSteps
public import proofs.«01_k».proof.Proof.Spec

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe
open Idealize.SL.Sem

variable {F : FTy → Type} [FloatOps F]

/-- The word of a rank-zero array. -/
def word (x : S_.Idx → BitVec 32) : BitVec 32 := x fun a => a.elim0

/-- A rank-zero array has one entry. -/
theorem apply_eq_word (x : S_.Idx → BitVec 32) (i : S_.Idx) : x i = word x := congrArg x (funext fun a => a.elim0)

/-- A scalar broadcast to a shape is that scalar at every entry. -/
theorem bcast_apply {S : Shape} (h : S_.BroadcastsInDim S ![]) (x : S_.Idx → BitVec 32) (i : S.Idx) :
    broadcastInDim S ![] h x i = word x := apply_eq_word x _

/-- Two arrays hold, entry by entry, the pairs of words `s`. -/
def Holds2 {S : Shape} (x0 x1 : TRef sig ⟨S, .i32⟩) (W : Valuation τ sig (Elt F)) (s : S.Idx → BitVec 32 × BitVec 32) : Prop :=
  ∀ i, ((val x0 W : S.Idx → BitVec 32) i, (val x1 W : S.Idx → BitVec 32) i) = s i

/-- The nine operations of a round carry the pairs of words through the scalar round. -/
theorem round_sound {S : Shape} {hS : S_.BroadcastsInDim S ![]} {x0 x1 y0 y1 b b' t t' o : TRef sig ⟨S, .i32⟩}
    {c c' : TRef sig ⟨S_, .i32⟩} {r r' : BitVec 32} {rest : List (Step τ sig (Elt F))} {W : Valuation τ sig (Elt F)}
    (hr : r.toNat < 32) (hr' : r'.toNat < 32) (e : r' = 32#32 - r) {s : S.Idx → BitVec 32 × BitVec 32}
    (h : Sound (.bin x0 x1 y0 addi :: .nul c (constantI S_ 32 r) :: .una c b (broadcastInDim S ![] hS) ::
      .bin x1 b t Host.shli :: .nul c' (constantI S_ 32 r') :: .una c' b' (broadcastInDim S ![] hS) ::
      .bin x1 b' t' Host.shrui :: .bin t t' o ori :: .bin y0 o y1 xori :: rest) W)
    (st : Holds2 x0 x1 W s) : Holds2 y0 y1 W (fun i => Spec.rnd r (s i)) ∧ Sound rest W := by
  obtain ⟨e1, e2, e3, e4, e5, e6, e7, e8, e9, h⟩ := h
  rw [Step.bin_holds] at e1 e4 e7 e8 e9
  rw [Step.nul_holds] at e2 e5
  rw [Step.una_holds] at e3 e6
  refine ⟨fun i => ?_, h⟩
  have h0 := congrArg Prod.fst (st i)
  have h1 := congrArg Prod.snd (st i)
  have g0 : (val y0 W : S.Idx → BitVec 32) i = (s i).1 + (s i).2 := by rw [e1, ← h0, ← h1]; rfl
  refine Prod.ext g0 ?_
  have gt : (val t W : S.Idx → BitVec 32) i = (s i).2 <<< r := by
    rw [e4, e3, e2, ← h1]
    show IntOp.shli .host _ (broadcastInDim S ![] hS (constantI S_ 32 r) i) = _
    rw [bcast_apply]
    exact if_pos hr
  have gt' : (val t' W : S.Idx → BitVec 32) i = (s i).2 >>> (32#32 - r) := by
    rw [e7, e6, e5, ← h1, ← e]
    show IntOp.shrui .host _ (broadcastInDim S ![] hS (constantI S_ 32 r') i) = _
    rw [bcast_apply]
    exact if_pos hr'
  show (val y1 W : S.Idx → BitVec 32) i = ((s i).1 + (s i).2) ^^^ (((s i).2 <<< r) ||| ((s i).2 >>> (32#32 - r)))
  rw [← g0, ← gt, ← gt', e9, e8]
  rfl

/-- The seven operations of an injection carry the pairs of words through the scalar injection. -/
theorem inject_sound {S : Shape} {hS : S_.BroadcastsInDim S ![]} {x0 x1 y0 y1 b b' b'' t : TRef sig ⟨S, .i32⟩}
    {k k' c : TRef sig ⟨S_, .i32⟩} {n : BitVec 32} {rest : List (Step τ sig (Elt F))} {W : Valuation τ sig (Elt F)}
    {s : S.Idx → BitVec 32 × BitVec 32} {a a' : BitVec 32}
    (h : Sound (.una k b (broadcastInDim S ![] hS) :: .bin x0 b y0 addi :: .una k' b' (broadcastInDim S ![] hS) ::
      .bin x1 b' t addi :: .nul c (constantI S_ 32 n) :: .una c b'' (broadcastInDim S ![] hS) :: .bin t b'' y1 addi :: rest) W)
    (hk : word (val k W) = a) (hk' : word (val k' W) = a') (st : Holds2 x0 x1 W s) :
    Holds2 y0 y1 W (fun i => Spec.inj a a' n (s i)) ∧ Sound rest W := by
  obtain ⟨e1, e2, e3, e4, e5, e6, e7, h⟩ := h
  rw [Step.bin_holds] at e2 e4 e7
  rw [Step.nul_holds] at e5
  rw [Step.una_holds] at e1 e3 e6
  refine ⟨fun i => ?_, h⟩
  have h0 := congrArg Prod.fst (st i)
  have h1 := congrArg Prod.snd (st i)
  refine Prod.ext ?_ ?_
  · show _ = (s i).1 + a
    rw [← h0, ← hk, ← bcast_apply hS, e2, e1]; rfl
  · show _ = (s i).2 + a' + n
    rw [← h1, ← hk', ← bcast_apply hS, e7, e6, e5, e4, e3]; rfl

/-- The first seven operations: the third key word, and the key added to the block. -/
theorem start_sound {S : Shape} {hS : S_.BroadcastsInDim S ![]} {x0 x1 y0 y1 b b' : TRef sig ⟨S, .i32⟩}
    {k k' t c k'' : TRef sig ⟨S_, .i32⟩} {rest : List (Step τ sig (Elt F))} {W : Valuation τ sig (Elt F)}
    {s : S.Idx → BitVec 32 × BitVec 32} {a : BitVec 32 × BitVec 32}
    (h : Sound (.bin k k' t xori :: .nul c (constantI S_ 32 466688986#32) :: .bin t c k'' xori ::
      .una k b (broadcastInDim S ![] hS) :: .bin x0 b y0 addi :: .una k' b' (broadcastInDim S ![] hS) :: .bin x1 b' y1 addi :: rest) W)
    (hk : (word (val k W), word (val k' W)) = a) (st : Holds2 x0 x1 W s) :
    word (val k'' W) = Spec.third a ∧ Holds2 y0 y1 W (fun i => ((s i).1 + a.1, (s i).2 + a.2)) ∧ Sound rest W := by
  obtain ⟨e1, e2, e3, e4, e5, e6, e7, h⟩ := h
  rw [Step.bin_holds] at e1 e3 e5 e7
  rw [Step.nul_holds] at e2
  rw [Step.una_holds] at e4 e6
  subst hk
  refine ⟨by rw [e3, e2, e1]; rfl, fun i => ?_, h⟩
  have h0 := congrArg Prod.fst (st i)
  have h1 := congrArg Prod.snd (st i)
  refine Prod.ext ?_ ?_
  · show _ = (s i).1 + word (val k W)
    rw [← h0, ← bcast_apply hS, e5, e4]; rfl
  · show _ = (s i).2 + word (val k' W)
    rw [← h1, ← bcast_apply hS, e7, e6]; rfl

/-- The cipher on two counters gives the scalar cipher at each. -/
theorem threefry2x32_sound (arg0 arg1 : TRef sig ⟨S_, .i32⟩) (arg2 arg3 : TRef sig ⟨S2, .i32⟩) (φ : fn_threefry2x32.Bufs)
    (W : Valuation τ sig (Elt F)) (h : Sound (steps_threefry2x32 arg0 arg1 arg2 arg3 φ) W)
    (k : BitVec 32 × BitVec 32) (hk : (word (val arg0 W), word (val arg1 W)) = k)
    (s : S2.Idx → BitVec 32 × BitVec 32) (st : Holds2 arg2 arg3 W s) :
    Holds2 φ.v171 φ.v175 W (fun i => Spec.threefry k (s i)) := by
  have k0 := congrArg Prod.fst hk
  have k1 := congrArg Prod.snd hk
  obtain ⟨k2, st, h⟩ := start_sound h hk st
  iterate 4 obtain ⟨st, h⟩ := round_sound (by decide) (by decide) (by decide) h st
  obtain ⟨st, h⟩ := inject_sound h k1 k2 st
  iterate 4 obtain ⟨st, h⟩ := round_sound (by decide) (by decide) (by decide) h st
  obtain ⟨st, h⟩ := inject_sound h k2 k0 st
  iterate 4 obtain ⟨st, h⟩ := round_sound (by decide) (by decide) (by decide) h st
  obtain ⟨st, h⟩ := inject_sound h k0 k1 st
  iterate 4 obtain ⟨st, h⟩ := round_sound (by decide) (by decide) (by decide) h st
  obtain ⟨st, h⟩ := inject_sound h k1 k2 st
  iterate 4 obtain ⟨st, h⟩ := round_sound (by decide) (by decide) (by decide) h st
  obtain ⟨st, h⟩ := inject_sound h k2 k0 st
  exact st

/-- The cipher on 1024 counters gives the scalar cipher at each. -/
theorem threefry2x32_2_sound (arg0 arg1 : TRef sig ⟨S_, .i32⟩) (arg2 arg3 : TRef sig ⟨S1024, .i32⟩) (φ : fn_threefry2x32_2.Bufs)
    (W : Valuation τ sig (Elt F)) (h : Sound (steps_threefry2x32_2 arg0 arg1 arg2 arg3 φ) W)
    (k : BitVec 32 × BitVec 32) (hk : (word (val arg0 W), word (val arg1 W)) = k)
    (s : S1024.Idx → BitVec 32 × BitVec 32) (st : Holds2 arg2 arg3 W s) :
    Holds2 φ.v171 φ.v175 W (fun i => Spec.threefry k (s i)) := by
  have k0 := congrArg Prod.fst hk
  have k1 := congrArg Prod.snd hk
  obtain ⟨k2, st, h⟩ := start_sound h hk st
  iterate 4 obtain ⟨st, h⟩ := round_sound (by decide) (by decide) (by decide) h st
  obtain ⟨st, h⟩ := inject_sound h k1 k2 st
  iterate 4 obtain ⟨st, h⟩ := round_sound (by decide) (by decide) (by decide) h st
  obtain ⟨st, h⟩ := inject_sound h k2 k0 st
  iterate 4 obtain ⟨st, h⟩ := round_sound (by decide) (by decide) (by decide) h st
  obtain ⟨st, h⟩ := inject_sound h k0 k1 st
  iterate 4 obtain ⟨st, h⟩ := round_sound (by decide) (by decide) (by decide) h st
  obtain ⟨st, h⟩ := inject_sound h k1 k2 st
  iterate 4 obtain ⟨st, h⟩ := round_sound (by decide) (by decide) (by decide) h st
  obtain ⟨st, h⟩ := inject_sound h k2 k0 st
  exact st

end Cert.Proof.Ref
-- ==== Proof.RefDraws.lean ====
/-
  The reference's draws: a key split in two, the counters, and the reduction into a span, each read off the equations of
  its lines as the scalar mathematics of Spec.lean.
-/
module

public import proofs.«01_k».proof.Proof.RefCipher
public import Idealize.ShloMosaic.Lib.Routing.Ops
public import Idealize.ShloMosaic.Lib.WordCmp

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe
open Idealize.ShloMosaic.ValueIdx
open Idealize.SL.Sem

variable {F : FTy → Type} [FloatOps F]

/-- The two words of a key. -/
def pairOf (x : S2.Idx → BitVec 32) : BitVec 32 × BitVec 32 := (x (ix1 0), x (ix1 1))

/-- The two words of a table's row. -/
def rowOf (x : S2x2.Idx → BitVec 32) (r : Fin 2) : BitVec 32 × BitVec 32 := (x (ix2 r 0), x (ix2 r 1))

/-- One word cut out of a key. -/
theorem slice_word (x : S2.Idx → BitVec 32) (n : Fin 2) (h : S2.Slices ![n.val] S1) (h' : S1.ShapeCasts S_) :
    word (shapeCast S_ (extractStridedSlice S1 ![n.val] x h) h') = x (ix1 n) := by
  refine congrArg x (funext fun a => ?_)
  match a with
  | ⟨0, _⟩ => exact Fin.ext (Nat.add_eq_left.2 (Nat.lt_one_iff.1 (Fin.isLt _)))

/-- The operations that take a key apart give its two words. -/
theorem key_sound {x : TRef sig ⟨S2, .i32⟩} {a b : TRef sig ⟨S1, .i32⟩} {a' b' : TRef sig ⟨S_, .i32⟩}
    {rest : List (Step τ sig (Elt F))} {W : Valuation τ sig (Elt F)} {h0 : S2.Slices ![0] S1} {h1 : S2.Slices ![1] S1}
    {hc hc' : S1.ShapeCasts S_}
    (h : Sound (.una x a (extractStridedSlice S1 ![0] · h0) :: .rsh a a' hc :: .una x b (extractStridedSlice S1 ![1] · h1) ::
      .rsh b b' hc' :: rest) W) : (word (val a' W), word (val b' W)) = pairOf (val x W) ∧ Sound rest W := by
  obtain ⟨e1, e2, e3, e4, h⟩ := h
  rw [Step.una_holds] at e1 e3
  rw [Step.rsh_holds] at e2 e4
  refine ⟨Prod.ext ?_ ?_, h⟩
  · rw [e2, e1]; exact slice_word _ 0 h0 hc
  · rw [e4, e3]; exact slice_word _ 1 h1 hc'

/-- The operations that take a row out of a table of two keys give that row. -/
theorem row_sound {x : TRef sig ⟨S2x2, .i32⟩} {a : TRef sig ⟨S1x2, .i32⟩} {b : TRef sig ⟨S2, .i32⟩} (r : Fin 2)
    {rest : List (Step τ sig (Elt F))} {W : Valuation τ sig (Elt F)} {h0 : S2x2.Slices ![r.val, 0] S1x2} {hc : S1x2.ShapeCasts S2}
    (h : Sound (.una x a (extractStridedSlice S1x2 ![r.val, 0] · h0) :: .rsh a b hc :: rest) W) :
    pairOf (val b W) = rowOf (val x W) r ∧ Sound rest W := by
  obtain ⟨e1, e2, h⟩ := h
  rw [Step.una_holds] at e1
  rw [Step.rsh_holds] at e2
  have key : ∀ c : Fin 2, (val b W : S2.Idx → BitVec 32) (ix1 c) = (val x W : S2x2.Idx → BitVec 32) (ix2 r c) := fun c => by
    rw [e2, e1, Routing.cast21 _ hc 0 c c (by simp)]
    refine congrArg (val x W : S2x2.Idx → BitVec 32) (funext fun a => ?_)
    match a with
    | ⟨0, _⟩ => exact Fin.ext (Nat.add_zero _)
    | ⟨1, _⟩ => exact Fin.ext (Nat.zero_add _)
  exact ⟨Prod.ext (key 0) (key 1), h⟩

/-- The operations that make the counters: 64-bit numbers, split into a high word, which is zero, and a low word. -/
theorem counter_sound {S : Shape} {d : Fin S.rank} {hS : S_.BroadcastsInDim S ![]} {hw : 32 < 64} {n : TRef sig ⟨S, .i64⟩}
    {o m b s : TRef sig ⟨S, .i64⟩} {lo hi : TRef sig ⟨S, .i32⟩} {c c' : TRef sig ⟨S_, .i64⟩} (hd : S.size d < 2 ^ 32)
    {rest : List (Step τ sig (Elt F))} {W : Valuation τ sig (Elt F)}
    (h : Sound (.nul n (iotaInDim S 64 d) :: .nul c (constantI S_ 64 1#64) :: .una c o (broadcastInDim S ![] hS) ::
      .bin o n m muli :: .nul c' (constantI S_ 64 32#64) :: .una c' b (broadcastInDim S ![] hS) :: .bin m b s Host.shrui ::
      .una m lo (trunci 32 · hw) :: .una s hi (trunci 32 · hw) :: rest) W) :
    Holds2 hi lo W (fun i => (0#32, BitVec.ofNat 32 (i d).val)) ∧ Sound rest W := by
  obtain ⟨e1, e2, e3, e4, e5, e6, e7, e8, e9, h⟩ := h
  rw [Step.bin_holds] at e4 e7
  rw [Step.nul_holds] at e1 e2 e5
  rw [Step.una_holds] at e3 e6 e8 e9
  refine ⟨fun i => ?_, h⟩
  have hlt : (i d).val < 2 ^ 32 := lt_trans (i d).isLt hd
  have gm : (val m W : S.Idx → BitVec 64) i = BitVec.ofNat 64 (i d).val := by
    rw [e4, e3, e2, e1]
    exact BitVec.one_mul _
  have gs : (val s W : S.Idx → BitVec 64) i = 0#64 := by
    rw [e7, e6, e5]
    show IntOp.shrui .host ((val m W : S.Idx → BitVec 64) i) 32#64 = _
    rw [gm, IntOp.shrui, if_pos (by decide)]
    refine BitVec.eq_of_toNat_eq ?_
    show ((BitVec.ofNat 64 (i d).val) >>> 32).toNat = 0
    rw [BitVec.toNat_ushiftRight, BitVec.toNat_ofNat, Nat.mod_eq_of_lt (by omega), Nat.shiftRight_eq_div_pow]
    exact Nat.div_eq_of_lt hlt
  refine Prod.ext ?_ ?_
  · rw [e9]
    show ((val s W : S.Idx → BitVec 64) i).setWidth 32 = 0#32
    rw [gs]; rfl
  · rw [e8]
    show ((val m W : S.Idx → BitVec 64) i).setWidth 32 = BitVec.ofNat 32 (i d).val
    rw [gm]
    refine BitVec.eq_of_toNat_eq ?_
    rw [BitVec.toNat_setWidth, BitVec.toNat_ofNat, BitVec.toNat_ofNat]
    omega

/-- The operations that put two columns side by side. -/
theorem columns_sound {x0 x1 : TRef sig ⟨S2, .i32⟩} {a b : TRef sig ⟨S2x1, .i32⟩} {y : TRef sig ⟨S2x2, .i32⟩}
    {W : Valuation τ sig (Elt F)} {s : S2.Idx → BitVec 32 × BitVec 32}
    (h : Sound [.una x0 a (broadcastInDim S2x1 ![0] bcast_S2_S2x1_0), .una x1 b (broadcastInDim S2x1 ![0] bcast_S2_S2x1_0),
      .bin a b y (fun a b => concatenate S2x2 1 [⟨S2x1, a⟩, ⟨S2x1, b⟩] concatenates_S2x1_S2x1_S2x2_d1)] W)
    (st : Holds2 x0 x1 W s) (r : Fin 2) : rowOf (val y W) r = s (ix1 r) := by
  obtain ⟨e1, e2, e3, -⟩ := h
  rw [Step.una_holds] at e1 e2
  rw [Step.bin_holds] at e3
  refine (Prod.ext ?_ ?_ : _ = ((val x0 W : S2.Idx → BitVec 32) (ix1 r), (val x1 W : S2.Idx → BitVec 32) (ix1 r))).trans (st _)
  · show (val y W : S2x2.Idx → BitVec 32) (ix2 r (0 : Fin 2)) = _
    rw [e3, concatenate_pair_apply_left (t := S2x2) (s₁ := S2x1) (s₂ := S2x1) 1 _ _ _ (ix2 r (0 : Fin 2)) rfl (ix2 r (0 : Fin 1))
      (fun b => match b with | ⟨0, _⟩ => rfl | ⟨1, _⟩ => rfl), e1]
    exact Routing.bcCol _ _ r
  · show (val y W : S2x2.Idx → BitVec 32) (ix2 r (1 : Fin 2)) = _
    rw [e3, concatenate_pair_apply_right (t := S2x2) (s₁ := S2x1) (s₂ := S2x1) 1 _ _ _ (ix2 r (1 : Fin 2)) rfl rfl (ix2 r (0 : Fin 1))
      (fun b hb => match b with | ⟨0, _⟩ => rfl | ⟨1, _⟩ => absurd rfl hb) rfl, e2]
    exact Routing.bcCol _ _ r

/-- Splitting a key: the two rows are its children. -/
theorem split_sound (arg0 : TRef sig ⟨S2, .i32⟩) (φ : fn_threefry_split.Bufs) (W : Valuation τ sig (Elt F))
    (h : Sound (steps_threefry_split arg0 φ) W) (r : Fin 2) :
    rowOf (val φ.v14 W) r = Spec.child (pairOf (val arg0 W)) (BitVec.ofNat 32 r.val) := by
  simp only [steps_threefry_split, sound_append, and_assoc] at h
  obtain ⟨ha, hb, hc⟩ := h
  obtain ⟨hk, ha⟩ := key_sound ha
  obtain ⟨st, -⟩ := counter_sound (by decide) ha
  exact columns_sound hc (threefry2x32_sound _ _ _ _ _ W hb _ hk _ st) r

/-- The same for the copy of the splitting function that the draws call. -/
theorem split_1_sound (arg0 : TRef sig ⟨S2, .i32⟩) (φ : fn_threefry_split_1.Bufs) (W : Valuation τ sig (Elt F))
    (h : Sound (steps_threefry_split_1 arg0 φ) W) (r : Fin 2) :
    rowOf (val φ.v14 W) r = Spec.child (pairOf (val arg0 W)) (BitVec.ofNat 32 r.val) := by
  simp only [steps_threefry_split_1, sound_append, and_assoc] at h
  obtain ⟨ha, hb, hc⟩ := h
  obtain ⟨hk, ha⟩ := key_sound ha
  obtain ⟨st, -⟩ := counter_sound (by decide) ha
  exact columns_sound hc (threefry2x32_sound _ _ _ _ _ W hb _ hk _ st) r

/-! ## The reduction into the span -/

/-- Taking a word into the whole signed range leaves it. -/
theorem clip_word (x : BitVec 32) : IntOp.minsi 2147483647#32 (IntOp.maxsi 2147483648#32 x) = x := by
  have h1 := BitVec.toInt_lt (x := x)
  have h2 := BitVec.le_toInt (x := x)
  have e1 : (2147483648#32).toInt = -2147483648 := by decide
  have e2 : (2147483647#32).toInt = 2147483647 := by decide
  have hm : IntOp.maxsi 2147483648#32 x = x := by
    unfold IntOp.maxsi
    split
    · next h => rw [BitVec.slt_iff_toInt_lt] at h; omega
    · rfl
  rw [hm]
  unfold IntOp.minsi
  split
  · next h => rw [BitVec.slt_iff_toInt_lt] at h; omega
  · rfl

/-- The three operations before a clip to the signed range, and the clip, leave the bound. -/
theorem clip_sound {x v0 v1 c c' : TRef sig ⟨S_, .i32⟩} {W : Valuation τ sig (Elt F)}
    (h : Sound [.bin c x v0 maxsi, .bin c' v0 v1 minsi] W) (hc : val c W = constantI S_ 32 2147483648#32)
    (hc' : val c' W = constantI S_ 32 2147483647#32) : val v1 W = val x W := by
  obtain ⟨e1, e2, -⟩ := h
  rw [Step.bin_holds] at e1 e2
  rw [e2, e1, hc, hc']
  exact funext fun i => clip_word _

/-- A remainder by a word that is not zero. -/
theorem remui_of_ne (x y : BitVec 32) (h : y ≠ 0#32) : IntOp.remui .host x y = x % y := if_neg h

/-- The draws of one key in one span `s`. -/
theorem randint_sound (arg0 : TRef sig ⟨S2, .i32⟩) (arg1 arg2 : TRef sig ⟨S_, .i32⟩) (φ : fn_randint.Bufs)
    (W : Valuation τ sig (Elt F)) (h : Sound (steps_randint arg0 arg1 arg2 φ) W) (s : BitVec 32)
    (hlo : val arg1 W = constantI S_ 32 0#32) (hhi : val arg2 W = constantI S_ 32 s) (hs : 0 < s.toInt) (i : S1024.Idx) :
    (val φ.v65 W : S1024.Idx → BitVec 32) i = Spec.draw s (pairOf (val arg0 W)) (BitVec.ofNat 32 (i 0).val) := by
  simp only [steps_randint, sound_append, and_assoc] at h
  obtain ⟨hA, hB, hC, hD, hE, hG, hH, hI, hJ, hK, hL, hM, hN⟩ := h
  have hs0 : s ≠ 0#32 := fun e => by subst e; exact absurd hs (by decide)
  -- the bounds, taken into the signed range
  obtain ⟨a1, a2, a3, -⟩ := hA
  rw [Step.nul_holds] at a1 a2 a3
  have c0 := clip_sound hB a2 a3
  obtain ⟨b1, b2, b3, -⟩ := hC
  rw [Step.nul_holds] at b2 b3
  rw [Step.bin_holds] at b1
  have c1 := clip_sound hD b2 b3
  obtain ⟨d1, d2, d3, -⟩ := hE
  rw [Step.nul_holds] at d2 d3
  rw [Step.una_holds] at d1
  have c2 := clip_sound hG d2 d3
  obtain ⟨f1, f2, f3, -⟩ := hH
  rw [Step.una_holds] at f1 f2 f3
  have v6 : val φ.v6 W = constantI S1 32 0#32 := by rw [f2, d1, c1, hlo]; rfl
  have v7 : val φ.v7 W = constantI S1 32 s := by rw [f3, f1, c2, hhi]; rfl
  -- the two children of the key, and their random words
  have hsp0 : _ = Spec.child _ 0#32 := split_1_sound _ _ W hI 0
  have hsp1 : _ = Spec.child _ 1#32 := split_1_sound _ _ W hI 1
  obtain ⟨r0, hJ⟩ := row_sound 0 hJ
  obtain ⟨r1, hJ⟩ := row_sound 1 hJ
  obtain ⟨k0, hJ⟩ := key_sound hJ
  obtain ⟨st0, -⟩ := counter_sound (by decide) hJ
  have t0 := threefry2x32_2_sound _ _ _ _ _ W hK _ k0 _ st0
  obtain ⟨x25, hL⟩ := hL
  rw [Step.bin_holds] at x25
  obtain ⟨k1, hL⟩ := key_sound hL
  obtain ⟨st1, -⟩ := counter_sound (by decide) hL
  have t1 := threefry2x32_2_sound _ _ _ _ _ W hM _ k1 _ st1
  obtain ⟨x38, hN⟩ := hN
  rw [Step.bin_holds] at x38
  have w0 : (val φ.v25 W : S1024.Idx → BitVec 32) i = Spec.bits (Spec.child (pairOf (val arg0 W)) 0#32) (BitVec.ofNat 32 (i 0).val) := by
    rw [x25, ← hsp0, ← r0]
    exact congrArg₂ (· ^^^ ·) (congrArg Prod.fst (t0 i)) (congrArg Prod.snd (t0 i))
  have w1 : (val φ.v38 W : S1024.Idx → BitVec 32) i = Spec.bits (Spec.child (pairOf (val arg0 W)) 1#32) (BitVec.ofNat 32 (i 0).val) := by
    rw [x38, ← hsp1, ← r1]
    exact congrArg₂ (· ^^^ ·) (congrArg Prod.fst (t1 i)) (congrArg Prod.snd (t1 i))
  -- the span and its multiplier
  obtain ⟨n39, n40, n41, n10, n42, n43, n44, n45, n46, n11, n47, n48, n49, n12, n50, n51, n52, n53, n54, n55, n56, n57, n58,
    n59, n60, n61, n62, n63, n64, n65, -⟩ := hN
  rw [Step.nul_holds] at n10 n11 n12
  rw [Step.una_holds] at n40 n42 n45 n47 n50 n54 n56 n58 n61 n63 n64
  rw [Step.bin_holds] at n39 n41 n44 n46 n48 n51 n52 n53 n55 n57 n59 n60 n62 n65
  rw [Step.ter_holds] at n43 n49
  have v1 : val φ.v1 W = constantI S_ 1 0#1 := by
    rw [b1, hhi, c0, a1]
    have e2 : (2147483647#32).toInt = 2147483647 := by decide
    have hlt := BitVec.toInt_lt (x := s)
    refine funext fun _ => ?_
    show BitVec.ofBool ((2147483647#32).slt s) = 0#1
    rw [show (2147483647#32).slt s = false from Bool.eq_false_iff.2 fun h => by rw [BitVec.slt_iff_toInt_lt] at h; omega]
    rfl
  have v41 : val φ.v41 W = constantI S1 1 0#1 := by
    rw [n41, v6, v7]
    refine funext fun _ => ?_
    show BitVec.ofBool (s.sle 0#32) = 0#1
    have e0 : (0#32).toInt = 0 := by decide
    rw [show s.sle 0#32 = false from Bool.eq_false_iff.2 fun h => by rw [BitVec.sle_iff_toInt_le] at h; omega]
    rfl
  have v43 : val φ.v43 W = constantI S1 32 s := by
    rw [n43, v41, n40, n39, v6, v7]
    exact funext fun _ => BitVec.sub_zero s
  have v49 : val φ.v49 W = constantI S1 32 s := by
    rw [n49, n46, n45, v1, v43]
    refine funext fun j => ?_
    show Scalar.select (0#1 &&& _) _ s = s
    rw [BitVec.zero_and]
    rfl
  have v53 : val φ.v53 W = constantI S1 32 (Spec.mult s) := by
    rw [n53, n52, n51, n50, n12, v49]
    refine funext fun j => ?_
    show IntOp.remui .host (IntOp.remui .host 65536#32 s * IntOp.remui .host 65536#32 s) s = _
    rw [remui_of_ne _ _ hs0, remui_of_ne _ _ hs0]
    rfl
  rw [n65, n64, n63, n62, n61, n60, n59, n58, n57, n56, n55, n54, v49, v53, v6]
  show 0#32 + IntOp.remui .host (IntOp.remui .host ((val φ.v25 W : S1024.Idx → BitVec 32) i) s * Spec.mult s
    + IntOp.remui .host ((val φ.v38 W : S1024.Idx → BitVec 32) i) s) s = _
  rw [remui_of_ne _ _ hs0, remui_of_ne _ _ hs0, remui_of_ne _ _ hs0, w0, w1, BitVec.zero_add]
  rfl

end Cert.Proof.Ref
-- ==== Proof.RefRun.lean ====
/-
  The run of the reference: its program is the line of `RefSteps`, whose results are numbered in order, so every final state
  holds the line's fold and every equation of the line.
-/
module

public import proofs.«01_k».proof.Proof.RefSteps
public import Idealize.ShloMosaic.Lib.Quiescent
public import Idealize.ShloMosaic.Lib.StableHlo.RunHlo

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe
open Idealize.SL.Sem

variable {F : FTy → Type} [FloatOps F]

/-- The reference's program is its line. -/
theorem main_line (d : Dev nD) : main (F := F) d = seq (opsOf steps_main) := by chain_rfl

/-- The line's results are the buffers from 1 on, in order; buffer 0 is the argument. -/
theorem main_numbered : numbered 1 (steps_main (F := F)) = true := by chain_rfl

/-- What device `d`'s buffers hold when the reference has run from `m`. -/
def final (m : (ℓ : Loc nD τ sig) → Buf (Elt F) ℓ) (d : Dev nD) : Valuation τ sig (Elt F) :=
  after (opsOf steps_main) (launchContents m d)

/-- At the end every equation of the reference's line holds. -/
theorem final_sound (m : (ℓ : Loc nD τ sig) → Buf (Elt F) ℓ) (d : Dev nD) : Sound steps_main (final m d) :=
  sound_after main_numbered _

/-- The argument is unchanged. -/
theorem final_arg (m : (ℓ : Loc nD τ sig) → Buf (Elt F) ℓ) (d : Dev nD) :
    final m d (Proc.devRef .tc main_arg0) = m ((d.tc : Thread nD τ).loc main_arg0) :=
  after_below main_numbered (by decide) _

/-- The reference runs to its end, leaving every buffer at `final` and every counter at zero. -/
theorem reference_run (m : (ℓ : Loc nD τ sig) → Buf (Elt F) ℓ) (ρ : Dev nD → PrngReg) :
    θ_run defs (onTc (τ := τ) (main (F := F))) ⟨m, fun _ => 0, ρ⟩ (fun r =>
      (∀ (d : Dev nD) (b : Ref sig .tc), r.2.mem ((d.tc : Thread nD τ).loc b) = final m d (Proc.devRef .tc b))
        ∧ r.2.sem = fun _ => 0) :=
  θ_run_mono
    (run_seq (by decide) (by decide) defs main (fun _ => opsOf steps_main) main_line (fun _ => opsOf_bufs _) m ρ
      (fun _ => opsOf_fresh _))
    fun r h => ⟨h, sem_eq_zero_of_no_sems rfl r.2⟩

end Cert.Proof.Ref
-- ==== Proof.RefValue.lean ====
/-
  What the reference returns: the one-hot arrays of the action draws and of the language draws.
-/
module

public import proofs.«01_k».proof.Proof.RefDraws
public import proofs.«01_k».proof.Proof.RefRun
public import proofs.«01_k».proof.Proof.OneHot

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe
open Idealize.ShloMosaic.ValueIdx
open Idealize.SL.Sem

/-- A one-hot array from its lines: the zeros, the two columns of indices with their corrections of negative numbers, which
change nothing, the ones, and the scatter. -/
theorem hot_sound {C : Nat} {dims : ScatterDims (Routing.shape2 1024 C) (Routing.shape2 1024 2) (Routing.shape1 1024)}
    (hiw : dims.insertedWindowDims = [0, 1]) (hsd : dims.scatterDimsToOperandDims = [0, 1]) (hivd : dims.indexVectorDim = 1)
    {hz : S_.BroadcastsInDim (Routing.shape2 1024 C) ![]} {n : BitVec 32}
    {z one : TRef sig ⟨S_, .f32⟩} {zs y : TRef sig ⟨Routing.shape2 1024 C, .f32⟩} {ones : TRef sig ⟨S1024, .f32⟩}
    {c0 c1 c2 c3 : TRef sig ⟨S_, .i32⟩} {rows cols b0 b1 b2 b3 a1 a3 r' d' : TRef sig ⟨S1024, .i32⟩}
    {m0 m2 : TRef sig ⟨S1024, .i1⟩} {u v : TRef sig ⟨S1024x1, .i32⟩} {t : TRef sig ⟨S1024x2, .i32⟩}
    {W : Valuation τ sig (Elt Ideal)} {rest : List (Step τ sig (Elt Ideal))} {w : BitVec 32 → BitVec 32}
    (h : Sound (.nul z (constant (F := Ideal) S_ .f32 0x00000000#32) :: .una z zs (broadcastInDim _ ![] hz) ::
      .nul c0 (constantI S_ 32 0#32) :: .una c0 b0 (broadcastInDim S1024 ![] bcast_S_S1024) ::
      .bin rows b0 m0 (cmpi .slt) :: .nul c1 (constantI S_ 32 1024#32) ::
      .una c1 b1 (broadcastInDim S1024 ![] bcast_S_S1024) :: .bin rows b1 a1 addi :: .ter m0 a1 rows r' select ::
      .nul c2 (constantI S_ 32 0#32) :: .una c2 b2 (broadcastInDim S1024 ![] bcast_S_S1024) ::
      .bin cols b2 m2 (cmpi .slt) :: .nul c3 (constantI S_ 32 n) ::
      .una c3 b3 (broadcastInDim S1024 ![] bcast_S_S1024) :: .bin cols b3 a3 addi :: .ter m2 a3 cols d' select ::
      .una r' u (broadcastInDim S1024x1 ![0] bcast_S1024_S1024x1_0) ::
      .una d' v (broadcastInDim S1024x1 ![0] bcast_S1024_S1024x1_0) ::
      .bin u v t (fun a b => concatenate S1024x2 1 [⟨S1024x1, a⟩, ⟨S1024x1, b⟩] concatenates_S1024x1_S1024x1_S1024x2_d1) ::
      .nul one (constant (F := Ideal) S_ .f32 0x3F800000#32) :: .una one ones (broadcastInDim S1024 ![] bcast_S_S1024) ::
      .ter zs t ones y (fun x i u => Host.scatter dims (fun _ b => b) x i u) :: rest) W)
    (hr : val rows W = iotaInDim S1024 32 0)
    (hc : ∀ i : S1024.Idx, (val cols W : S1024.Idx → BitVec 32) i = w (BitVec.ofNat 32 (i 0).val)) (hw : ∀ c, (w c).toNat < 2 ^ 31) :
    val y W = oneHot C w ∧ Sound rest W := by
  obtain ⟨e1, e2, e3, e4, e5, e6, e7, e8, e9, e10, e11, e12, e13, e14, e15, e16, e17, e18, e19, e20, e21, e22, h⟩ := h
  rw [Step.nul_holds] at e1 e3 e6 e10 e13 e20
  rw [Step.una_holds] at e2 e4 e7 e11 e14 e17 e18 e21
  rw [Step.bin_holds] at e5 e8 e12 e15 e19
  rw [Step.ter_holds] at e9 e16 e22
  have hr' : ∀ a : Fin 1024, (val r' W : S1024.Idx → BitVec 32) (ix1 a) = BitVec.ofNat 32 a.val := fun a => by
    rw [e9, e5, e4, e3, hr]
    refine Routing.wrap_of_lt (BitVec.ofNat 32 a.val) _ ?_
    rw [BitVec.toNat_ofNat]
    omega
  have hd' : ∀ a : Fin 1024, (val d' W : S1024.Idx → BitVec 32) (ix1 a) = w (BitVec.ofNat 32 a.val) := fun a => by
    rw [e16, e12, e11, e10, ← hc (ix1 a)]
    refine Routing.wrap_of_lt ((val cols W : S1024.Idx → BitVec 32) (ix1 a)) _ ?_
    rw [hc]
    exact hw _
  refine ⟨?_, h⟩
  rw [e22]
  refine scatter_oneHot dims hiw hsd hivd _ _ _ (fun j => ?_) (fun a => ?_) w (fun a => ?_) (fun a => ?_) hw
  · rw [e2, e1]
    exact Ideal.ofBits_zero_f32
  · rw [e21, e20]
    exact Ideal.ofBits_one_f32
  · rw [e19, ← hr' a, concatenate_pair_apply_left (t := S1024x2) (s₁ := S1024x1) (s₂ := S1024x1) 1 _ _ _ _ rfl (ix2 a (0 : Fin 1))
      (fun b => match b with | ⟨0, _⟩ => rfl | ⟨1, _⟩ => rfl), e17]
    exact Routing.bcCol _ _ a
  · rw [e19, ← hd' a, concatenate_pair_apply_right (t := S1024x2) (s₁ := S1024x1) (s₂ := S1024x1) 1 _ _ _ _ rfl rfl (ix2 a (0 : Fin 1))
      (fun b hb => match b with | ⟨0, _⟩ => rfl | ⟨1, _⟩ => absurd rfl hb) rfl, e18]
    exact Routing.bcCol _ _ a

/-- The seed's key: the words 0 and 42. -/
theorem seed_pair (W : Valuation τ sig (Elt Ideal)) (h : Sound steps_main W) : pairOf (val t_v6 W) = (0#32, 42#32) := by
  simp only [steps_main, sound_append, and_assoc] at h
  obtain ⟨⟨e1, e2, e3, e4, e5, e6, e7, e8, e9, e10, -⟩, -⟩ := h
  rw [Step.nul_holds] at e1 e2 e6
  rw [Step.una_holds] at e4 e5 e8 e9
  rw [Step.bin_holds] at e3 e7 e10
  refine Prod.ext ?_ ?_
  · show (val t_v6 W : S2.Idx → BitVec 32) (ix1 0) = _
    rw [e10, concatenate_pair_apply_left (t := S2) (s₁ := S1) (s₂ := S1) 0 _ _ _ _ rfl (ix1 (0 : Fin 1))
      (fun b => match b with | ⟨0, _⟩ => rfl), e5, e4, e3, e2, e1]
    show IntOp.shrui .host 42#32 32#32 = 0#32
    decide
  · show (val t_v6 W : S2.Idx → BitVec 32) (ix1 1) = _
    rw [e10, concatenate_pair_apply_right (t := S2) (s₁ := S1) (s₂ := S1) 0 _ _ _ _ rfl rfl (ix1 (0 : Fin 1))
      (fun b hb => match b with | ⟨0, _⟩ => absurd rfl hb) rfl, e9, e8, e7, e6, e1]
    show 42#32 &&& 4294967295#32 = 42#32
    decide

/-- The two results of the reference, from the equations of its lines. -/
theorem main_sound (W : Valuation τ sig (Elt Ideal)) (h : Sound steps_main W) :
    val t_v29 W = oneHot 18 (Spec.draw 18#32 Spec.keyA) ∧ val t_v46 W = oneHot 32000 (Spec.draw 32000#32 Spec.keyL) := by
  have h6 := seed_pair W h
  simp only [steps_main, sound_append, and_assoc] at h
  obtain ⟨hA, hB, hC, hD, hE, hG, hH⟩ := h
  have hsp0 : _ = Spec.child _ 0#32 := split_sound _ _ W hB 0
  have hsp1 : _ = Spec.child _ 1#32 := split_sound _ _ W hB 1
  obtain ⟨r0, hC⟩ := row_sound 0 hC
  obtain ⟨r1, c1, c2, c3, -⟩ := row_sound 1 hC
  rw [Step.nul_holds] at c1 c2 c3
  have kA : pairOf (val t_v9 W) = Spec.keyA := by rw [r0, hsp0, h6]; rfl
  have kL : pairOf (val t_v11 W) = Spec.keyL := by rw [r1, hsp1, h6]; rfl
  have dA := randint_sound _ _ _ _ W hD 18#32 c2 c3 (by decide)
  rw [kA] at dA
  obtain ⟨yA, c4, c5, -⟩ := hot_sound rfl rfl rfl hE c1 dA
    (fun c => lt_trans (Spec.draw_lt 18#32 (by decide) _ c) (by decide))
  rw [Step.nul_holds] at c4 c5
  have dL := randint_sound _ _ _ _ W hG 32000#32 c4 c5 (by decide)
  rw [kL] at dL
  obtain ⟨yL, -⟩ := hot_sound rfl rfl rfl hH c1 dL
    (fun c => lt_trans (Spec.draw_lt 32000#32 (by decide) _ c) (by decide))
  exact ⟨yA, yL⟩

end Cert.Proof.Ref
-- ==== Proof.lean ====
/-
  The claims about the random one-hot kernel: it, its ideal reading and the reference run to their ends with the argument
  unchanged and every semaphore counter zero, and the ideal reading returns what the reference returns, on both results.
-/
module

public import proofs.«01_k».proof.Defs
public import proofs.«01_k».proof.Proof.Transfer
public import proofs.«01_k».proof.Proof.KernelValue
public import proofs.«01_k».proof.Proof.RefValue

@[expose] public section

set_option maxRecDepth 16384

noncomputable section

namespace Cert.Proof

open Idealize.ShloMosaic Idealize.SL.Sem

/-- Over any instance of the float operations the kernel ends with its argument unchanged and every counter zero. -/
theorem frame_at (F : FTy → Type) [FloatOps F] : FrameAt F := fun m g _ =>
  θ_run_mono (kernel_run m g) fun _ h => ⟨fun c => (h.1 c _ rfl).trans (W3_arg0 m c), h.2⟩

/-- The reference ends with its argument unchanged and every counter zero. -/
theorem reference_frame : quiescent_ReferenceIdeal := fun m g _ =>
  θ_run_mono (Ref.reference_run m g) fun _ h => ⟨fun c => (h.1 c _).trans (Ref.final_arg m c), h.2⟩

/-- The kernel's ideal reading and the reference return the same two arrays: the one-hot rows of the action draws and of
the language draws. -/
theorem same_results : algebraic_KernelIdeal_ReferenceIdeal := fun m g m' g' _ _ =>
  ⟨fun _ => oneHot 18 (Spec.draw 18#32 Spec.keyA), fun _ => oneHot 32000 (Spec.draw 32000#32 Spec.keyL),
    θ_run_mono (kernel_run m g) fun _ h c =>
      ⟨(h.1 c _ rfl).trans (W3_actn m c), (h.1 c _ rfl).trans (W3_lang m c), (h.1 c _ rfl).trans (W3_arg0 m c)⟩,
    θ_run_mono (Ref.reference_run m' g') fun _ h c =>
      have v := Ref.main_sound _ (Ref.final_sound m' c)
      ⟨(h.1 c _).trans v.1, (h.1 c _).trans v.2, (h.1 c _).trans (Ref.final_arg m' c)⟩⟩

/-- Every claim. -/
theorem claim : Cert.Claim :=
  ⟨Cert.Kernel.Gen.facts, Cert.KernelIdeal.Gen.facts, Cert.ReferenceIdeal.Gen.facts,
    frame_eq ▸ frame_at Bits, frame_at Ideal, reference_frame, trivial, same_results⟩

end Cert.Proof

end
